-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x896x2560 : Shape := ⟨3, ![2, 896, 2560]⟩
abbrev S2x896 : Shape := ⟨2, ![2, 896]⟩
abbrev S2x7168x2560 : Shape := ⟨3, ![2, 7168, 2560]⟩
abbrev S2x7168 : Shape := ⟨2, ![2, 7168]⟩
abbrev S2x896x1 : Shape := ⟨3, ![2, 896, 1]⟩
abbrev S2x1x7168 : Shape := ⟨3, ![2, 1, 7168]⟩
abbrev S2x896x7168 : Shape := ⟨3, ![2, 896, 7168]⟩
abbrev S1x896x2560 : Shape := ⟨3, ![1, 896, 2560]⟩
abbrev S1x896x1 : Shape := ⟨3, ![1, 896, 1]⟩
abbrev S1x512x2560 : Shape := ⟨3, ![1, 512, 2560]⟩
abbrev S1x1x7168 : Shape := ⟨3, ![1, 1, 7168]⟩
abbrev S1x7168x512 : Shape := ⟨3, ![1, 7168, 512]⟩
abbrev S1x896x512 : Shape := ⟨3, ![1, 896, 512]⟩
abbrev S1x256x2560 : Shape := ⟨3, ![1, 256, 2560]⟩
abbrev S1x896x256 : Shape := ⟨3, ![1, 896, 256]⟩
abbrev S896x7168 : Shape := ⟨2, ![896, 7168]⟩
abbrev S896x2560 : Shape := ⟨2, ![896, 2560]⟩
abbrev S896x128 : Shape := ⟨2, ![896, 128]⟩
abbrev S256x896 : Shape := ⟨2, ![256, 896]⟩
abbrev S1x7168 : Shape := ⟨2, ![1, 7168]⟩
abbrev S896x1 : Shape := ⟨2, ![896, 1]⟩
abbrev S512x2560 : Shape := ⟨2, ![512, 2560]⟩
abbrev S896x512 : Shape := ⟨2, ![896, 512]⟩
abbrev S1x1x512 : Shape := ⟨3, ![1, 1, 512]⟩
abbrev S1x512 : Shape := ⟨2, ![1, 512]⟩
abbrev S896 : Shape := ⟨1, ![896]⟩
abbrev S128x128 : Shape := ⟨2, ![128, 128]⟩
abbrev S8x128 : Shape := ⟨2, ![8, 128]⟩
abbrev S128x1 : Shape := ⟨2, ![128, 1]⟩
abbrev S16x8x128 : Shape := ⟨3, ![16, 8, 128]⟩
abbrev S128 : Shape := ⟨1, ![128]⟩
abbrev S1x128 : Shape := ⟨2, ![1, 128]⟩
abbrev S256x128 : Shape := ⟨2, ![256, 128]⟩
abbrev S1x1x128 : Shape := ⟨3, ![1, 1, 128]⟩
abbrev S1x128x128 : Shape := ⟨3, ![1, 128, 128]⟩
abbrev S128x896 : Shape := ⟨2, ![128, 896]⟩
abbrev S128x2560 : Shape := ⟨2, ![128, 2560]⟩
abbrev S1x128x2560 : Shape := ⟨3, ![1, 128, 2560]⟩
abbrev S896x1024 : Shape := ⟨2, ![896, 1024]⟩
abbrev S1x1024 : Shape := ⟨2, ![1, 1024]⟩
abbrev S1x1024x512 : Shape := ⟨3, ![1, 1024, 512]⟩
abbrev S1024x512 : Shape := ⟨2, ![1024, 512]⟩

abbrev nBuf : Space → Nat
  | .hbm => 13
  | .vmem => 28
  | .smem => 0
  | _ => 0

abbrev bufTy : (tb : Table) → Fin (tcTables nBuf tb) → BufTy
  | .hbm, ⟨0, _⟩ => ⟨S2x896x2560, .fp8e4m3⟩
  | .hbm, ⟨1, _⟩ => ⟨S2x896, .f32⟩
  | .hbm, ⟨2, _⟩ => ⟨S2x7168x2560, .fp8e4m3⟩
  | .hbm, ⟨3, _⟩ => ⟨S2x7168, .f32⟩
  | .hbm, ⟨4, _⟩ => ⟨S2x896, .i32⟩
  | .hbm, ⟨5, _⟩ => ⟨S2x896x1, .f32⟩
  | .hbm, ⟨6, _⟩ => ⟨S2x1x7168, .f32⟩
  | .hbm, ⟨7, _⟩ => ⟨S2x896x1, .i32⟩
  | .hbm, ⟨8, _⟩ => ⟨S2x896, .f32⟩
  | .hbm, ⟨9, _⟩ => ⟨S2x896x2560, .bf16⟩
  | .hbm, ⟨10, _⟩ => ⟨S2x7168x2560, .bf16⟩
  | .hbm, ⟨11, _⟩ => ⟨S2x896x7168, .fp8e5m2⟩
  | .hbm, ⟨12, _⟩ => ⟨S2x7168, .f32⟩
  | .local _ .vmem, ⟨0, _⟩ => ⟨S1x896x2560, .fp8e4m3⟩
  | .local _ .vmem, ⟨1, _⟩ => ⟨S1x896x2560, .fp8e4m3⟩
  | .local _ .vmem, ⟨2, _⟩ => ⟨S1x896x1, .f32⟩
  | .local _ .vmem, ⟨3, _⟩ => ⟨S1x896x1, .f32⟩
  | .local _ .vmem, ⟨4, _⟩ => ⟨S1x512x2560, .fp8e4m3⟩
  | .local _ .vmem, ⟨5, _⟩ => ⟨S1x512x2560, .fp8e4m3⟩
  | .local _ .vmem, ⟨6, _⟩ => ⟨S1x1x7168, .f32⟩
  | .local _ .vmem, ⟨7, _⟩ => ⟨S1x1x7168, .f32⟩
  | .local _ .vmem, ⟨8, _⟩ => ⟨S1x896x1, .i32⟩
  | .local _ .vmem, ⟨9, _⟩ => ⟨S1x896x1, .i32⟩
  | .local _ .vmem, ⟨10, _⟩ => ⟨S1x7168x512, .fp8e4m3⟩
  | .local _ .vmem, ⟨11, _⟩ => ⟨S1x7168x512, .fp8e4m3⟩
  | .local _ .vmem, ⟨12, _⟩ => ⟨S2x896, .f32⟩
  | .local _ .vmem, ⟨13, _⟩ => ⟨S1x896x512, .bf16⟩
  | .local _ .vmem, ⟨14, _⟩ => ⟨S1x896x512, .bf16⟩
  | .local _ .vmem, ⟨15, _⟩ => ⟨S1x256x2560, .bf16⟩
  | .local _ .vmem, ⟨16, _⟩ => ⟨S1x256x2560, .bf16⟩
  | .local _ .vmem, ⟨17, _⟩ => ⟨S1x896x256, .fp8e5m2⟩
  | .local _ .vmem, ⟨18, _⟩ => ⟨S1x896x256, .fp8e5m2⟩
  | .local _ .vmem, ⟨19, _⟩ => ⟨S2x7168, .f32⟩
  | .local _ .vmem, ⟨20, _⟩ => ⟨S896x7168, .f32⟩
  | .local _ .vmem, ⟨21, _⟩ => ⟨S896x7168, .fp8e5m2⟩
  | .local _ .vmem, ⟨22, _⟩ => ⟨S896x2560, .bf16⟩
  | .local _ .vmem, ⟨23, _⟩ => ⟨S896x128, .f32⟩
  | .local _ .vmem, ⟨24, _⟩ => ⟨S896x128, .f32⟩
  | .local _ .vmem, ⟨25, _⟩ => ⟨S896x128, .f32⟩
  | .local _ .vmem, ⟨26, _⟩ => ⟨S256x896, .bf16⟩
  | .local _ .vmem, ⟨27, _⟩ => ⟨S1x7168, .f32⟩
  | _, _ => ⟨S2x896x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 47], ![false, false]⟩

def k0_cond2 (i : grid0.Coords) : BitVec 1 :=
  let arg1 : BitVec 32 := BitVec.ofNat 32 (i 1).val
  let c14_i32 : BitVec 32 := 14#32
  let v3 : BitVec 1 := Scalar.cmpi .slt arg1 c14_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c512_i32 : BitVec 32 := 512#32
  let v20 : BitVec 32 := Scalar.muli arg1 c512_i32
  v20
def k0_off1 (i : grid0.Coords) : Fin 3 → Nat :=
  let c0_14 : Index := 0#32
  let c0_15 : Index := 0#32
  let arg1 : BitVec 32 := BitVec.ofNat 32 (i 1).val
  let c512_i32 : BitVec 32 := 512#32
  let v20 : BitVec 32 := Scalar.muli arg1 c512_i32
  let v21 : BitVec 32 := v20
  let v27 : Index := Scalar.indexCast v21
  ![0, 0, v27.toNat]
def k0_off2 (i : grid0.Coords) : Fin 2 → Nat :=
  let c0_20 : Index := 0#32
  let arg1 : BitVec 32 := BitVec.ofNat 32 (i 1).val
  let c512_i32 : BitVec 32 := 512#32
  let v20 : BitVec 32 := Scalar.muli arg1 c512_i32
  let v21 : BitVec 32 := v20
  let v38 : Index := Scalar.indexCast v21
  ![0, v38.toNat]
def k0_cond4 (i : grid0.Coords) : BitVec 1 :=
  let arg1 : BitVec 32 := BitVec.ofNat 32 (i 1).val
  let c14_i32_3 : BitVec 32 := 14#32
  let v9 : BitVec 1 := Scalar.cmpi .sge arg1 c14_i32_3
  let c42_i32 : BitVec 32 := 42#32
  let v10 : BitVec 1 := Scalar.cmpi .slt arg1 c42_i32
  let v11 : BitVec 1 := Scalar.andi v9 v10
  let v12 : BitVec 32 := Scalar.extui v11
  let c0_i32_4 : BitVec 32 := 0#32
  let v13 : BitVec 1 := Scalar.cmpi .ne v12 c0_i32_4
  v13

def k0_mult2 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  v21
def k0_mult3 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c0_i32_11 : BitVec 32 := 0#32
  let v26 : BitVec 32 := Scalar.addi v22 c0_i32_11
  v26
def k0_off3 (i : grid0.Coords) (c0_i32_11 : BitVec 32) : Fin 2 → Nat :=
  let c0 : Index := 0#32
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let v26 : BitVec 32 := Scalar.addi v22 c0_i32_11
  let v27 : BitVec 32 := v26
  let v28 : Index := Scalar.indexCast v27
  ![0, v28.toNat]
def k0_mult4 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c128_i32 : BitVec 32 := 128#32
  let v58 : BitVec 32 := Scalar.addi v22 c128_i32
  v58
def k0_mult5 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c0_i32_41 : BitVec 32 := 0#32
  let v90 : BitVec 32 := Scalar.addi v22 c0_i32_41
  v90
def k0_off4 (i : grid0.Coords) (c0_i32_41 : BitVec 32) : Fin 2 → Nat :=
  let c128 : Index := 128#32
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let v90 : BitVec 32 := Scalar.addi v22 c0_i32_41
  let v91 : BitVec 32 := v90
  let v92 : Index := Scalar.indexCast v91
  ![128, v92.toNat]
def k0_mult6 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c128_i32_56 : BitVec 32 := 128#32
  let v122 : BitVec 32 := Scalar.addi v22 c128_i32_56
  v122
def k0_mult7 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c0_i32_72 : BitVec 32 := 0#32
  let v154 : BitVec 32 := Scalar.addi v22 c0_i32_72
  v154
def k0_off5 (i : grid0.Coords) (c0_i32_72 : BitVec 32) : Fin 2 → Nat :=
  let c256 : Index := 256#32
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let v154 : BitVec 32 := Scalar.addi v22 c0_i32_72
  let v155 : BitVec 32 := v154
  let v156 : Index := Scalar.indexCast v155
  ![256, v156.toNat]
def k0_mult8 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c128_i32_87 : BitVec 32 := 128#32
  let v186 : BitVec 32 := Scalar.addi v22 c128_i32_87
  v186
def k0_mult9 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c0_i32_103 : BitVec 32 := 0#32
  let v218 : BitVec 32 := Scalar.addi v22 c0_i32_103
  v218
def k0_off6 (i : grid0.Coords) (c0_i32_103 : BitVec 32) : Fin 2 → Nat :=
  let c384 : Index := 384#32
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let v218 : BitVec 32 := Scalar.addi v22 c0_i32_103
  let v219 : BitVec 32 := v218
  let v220 : Index := Scalar.indexCast v219
  ![384, v220.toNat]
def k0_mult10 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c128_i32_118 : BitVec 32 := 128#32
  let v250 : BitVec 32 := Scalar.addi v22 c128_i32_118
  v250
def k0_mult11 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c0_i32_134 : BitVec 32 := 0#32
  let v282 : BitVec 32 := Scalar.addi v22 c0_i32_134
  v282
def k0_off7 (i : grid0.Coords) (c0_i32_134 : BitVec 32) : Fin 2 → Nat :=
  let c512 : Index := 512#32
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let v282 : BitVec 32 := Scalar.addi v22 c0_i32_134
  let v283 : BitVec 32 := v282
  let v284 : Index := Scalar.indexCast v283
  ![512, v284.toNat]
def k0_mult12 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c128_i32_149 : BitVec 32 := 128#32
  let v314 : BitVec 32 := Scalar.addi v22 c128_i32_149
  v314
def k0_mult13 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c0_i32_165 : BitVec 32 := 0#32
  let v346 : BitVec 32 := Scalar.addi v22 c0_i32_165
  v346
def k0_off8 (i : grid0.Coords) (c0_i32_165 : BitVec 32) : Fin 2 → Nat :=
  let c640 : Index := 640#32
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let v346 : BitVec 32 := Scalar.addi v22 c0_i32_165
  let v347 : BitVec 32 := v346
  let v348 : Index := Scalar.indexCast v347
  ![640, v348.toNat]
def k0_mult14 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c128_i32_180 : BitVec 32 := 128#32
  let v378 : BitVec 32 := Scalar.addi v22 c128_i32_180
  v378
def k0_mult15 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c0_i32_196 : BitVec 32 := 0#32
  let v410 : BitVec 32 := Scalar.addi v22 c0_i32_196
  v410
def k0_off9 (i : grid0.Coords) (c0_i32_196 : BitVec 32) : Fin 2 → Nat :=
  let c768 : Index := 768#32
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let v410 : BitVec 32 := Scalar.addi v22 c0_i32_196
  let v411 : BitVec 32 := v410
  let v412 : Index := Scalar.indexCast v411
  ![768, v412.toNat]
def k0_mult16 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c128_i32_211 : BitVec 32 := 128#32
  let v442 : BitVec 32 := Scalar.addi v22 c128_i32_211
  v442
def k0_mult17 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c0_i32_227 : BitVec 32 := 0#32
  let v474 : BitVec 32 := Scalar.addi v22 c0_i32_227
  v474
def k0_cond5 (i : grid0.Coords) : BitVec 1 :=
  let arg0 : BitVec 32 := BitVec.ofNat 32 (i 0).val
  let c0_i32_237 : BitVec 32 := 0#32
  let v511 : BitVec 1 := Scalar.cmpi .eq arg0 c0_i32_237
  let v512 : BitVec 32 := Scalar.extui v511
  let c0_i32_238 : BitVec 32 := 0#32
  let v513 : BitVec 1 := Scalar.cmpi .ne v512 c0_i32_238
  v513

def k0_off10 (i : grid0.Coords) : Fin 2 → Nat :=
  let c0_410 : Index := 0#32
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c0_i32_227 : BitVec 32 := 0#32
  let v474 : BitVec 32 := Scalar.addi v22 c0_i32_227
  let v475 : BitVec 32 := v474
  let v900 : Index := Scalar.indexCast v475
  ![0, v900.toNat]
def k0_cond6 (i : grid0.Coords) : BitVec 1 :=
  let arg0 : BitVec 32 := BitVec.ofNat 32 (i 0).val
  let c1_i32_239 : BitVec 32 := 1#32
  let v514 : BitVec 1 := Scalar.cmpi .eq arg0 c1_i32_239
  let v515 : BitVec 32 := Scalar.extui v514
  let c0_i32_240 : BitVec 32 := 0#32
  let v516 : BitVec 1 := Scalar.cmpi .ne v515 c0_i32_240
  v516

def k0_off11 (i : grid0.Coords) : Fin 2 → Nat :=
  let c1 : Index := 1#32
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c0_i32_227 : BitVec 32 := 0#32
  let v474 : BitVec 32 := Scalar.addi v22 c0_i32_227
  let v475 : BitVec 32 := v474
  let v900 : Index := Scalar.indexCast v475
  ![1, v900.toNat]
def k0_off12 (i : grid0.Coords) (c0_i32_227 : BitVec 32) : Fin 3 → Nat :=
  let c0_241 : Index := 0#32
  let c0_242 : Index := 0#32
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let v474 : BitVec 32 := Scalar.addi v22 c0_i32_227
  let v475 : BitVec 32 := v474
  let v517 : Index := Scalar.indexCast v475
  ![0, 0, v517.toNat]
def k0_off13 (i : grid0.Coords) (c0_i32_227 : BitVec 32) : Fin 2 → Nat :=
  let c0_243 : Index := 0#32
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let v474 : BitVec 32 := Scalar.addi v22 c0_i32_227
  let v475 : BitVec 32 := v474
  let v521 : Index := Scalar.indexCast v475
  ![0, v521.toNat]
def k0_mult18 (i : grid0.Coords) : BitVec 32 :=
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c128_i32_316 : BitVec 32 := 128#32
  let v687 : BitVec 32 := Scalar.addi v22 c128_i32_316
  v687
def k0_cond7 (i : grid0.Coords) : BitVec 1 :=
  let arg0 : BitVec 32 := BitVec.ofNat 32 (i 0).val
  let c0_i32_331 : BitVec 32 := 0#32
  let v724 : BitVec 1 := Scalar.cmpi .eq arg0 c0_i32_331
  let v725 : BitVec 32 := Scalar.extui v724
  let c0_i32_332 : BitVec 32 := 0#32
  let v726 : BitVec 1 := Scalar.cmpi .ne v725 c0_i32_332
  v726

def k0_off14 (i : grid0.Coords) : Fin 2 → Nat :=
  let c0_410 : Index := 0#32
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c128_i32_316 : BitVec 32 := 128#32
  let v687 : BitVec 32 := Scalar.addi v22 c128_i32_316
  let v688 : BitVec 32 := v687
  let v900 : Index := Scalar.indexCast v688
  ![0, v900.toNat]
def k0_cond8 (i : grid0.Coords) : BitVec 1 :=
  let arg0 : BitVec 32 := BitVec.ofNat 32 (i 0).val
  let c1_i32_333 : BitVec 32 := 1#32
  let v727 : BitVec 1 := Scalar.cmpi .eq arg0 c1_i32_333
  let v728 : BitVec 32 := Scalar.extui v727
  let c0_i32_334 : BitVec 32 := 0#32
  let v729 : BitVec 1 := Scalar.cmpi .ne v728 c0_i32_334
  v729

def k0_off15 (i : grid0.Coords) : Fin 2 → Nat :=
  let c1 : Index := 1#32
  let arg1 : BitVec 32 := BitVec.ofNat 32 (i 1).val
  let c14_i32_9 : BitVec 32 := 14#32
  let v20 : BitVec 32 := Scalar.subi arg1 c14_i32_9
  let c256_i32 : BitVec 32 := 256#32
  let v21 : BitVec 32 := Scalar.muli v20 c256_i32
  let v22 : BitVec 32 := v21
  let c128_i32_316 : BitVec 32 := 128#32
  let v687 : BitVec 32 := Scalar.addi v22 c128_i32_316
  let v688 : BitVec 32 := v687
  let v900 : Index := Scalar.indexCast v688
  ![1, v900.toNat]
def k0_cond9 (i : grid0.Coords) : BitVec 1 :=
  let arg1 : BitVec 32 := BitVec.ofNat 32 (i 1).val
  let c42_i32_5 : BitVec 32 := 42#32
  let v14 : BitVec 1 := Scalar.cmpi .eq arg1 c42_i32_5
  let v15 : BitVec 32 := Scalar.extui v14
  let c0_i32_6 : BitVec 32 := 0#32
  let v16 : BitVec 1 := Scalar.cmpi .ne v15 c0_i32_6
  v16

def k0_cond10 (i : grid0.Coords) : BitVec 1 :=
  let arg0 : BitVec 32 := BitVec.ofNat 32 (i 0).val
  let c0_i32_11 : BitVec 32 := 0#32
  let v30 : BitVec 1 := Scalar.cmpi .eq arg0 c0_i32_11
  let v31 : BitVec 32 := Scalar.extui v30
  let c0_i32_12 : BitVec 32 := 0#32
  let v32 : BitVec 1 := Scalar.cmpi .ne v31 c0_i32_12
  v32

def k0_cond11 (i : grid0.Coords) : BitVec 1 :=
  let arg0 : BitVec 32 := BitVec.ofNat 32 (i 0).val
  let c1_i32 : BitVec 32 := 1#32
  let v33 : BitVec 1 := Scalar.cmpi .eq arg0 c1_i32
  let v34 : BitVec 32 := Scalar.extui v33
  let c0_i32_13 : BitVec 32 := 0#32
  let v35 : BitVec 1 := Scalar.cmpi .ne v34 c0_i32_13
  v35

def k0_cond12 (i : grid0.Coords) : BitVec 1 :=
  let arg0 : BitVec 32 := BitVec.ofNat 32 (i 0).val
  let c0_i32_15 : BitVec 32 := 0#32
  let v43 : BitVec 1 := Scalar.cmpi .eq arg0 c0_i32_15
  let v44 : BitVec 32 := Scalar.extui v43
  let c0_i32_16 : BitVec 32 := 0#32
  let v45 : BitVec 1 := Scalar.cmpi .ne v44 c0_i32_16
  v45

def k0_cond13 (i : grid0.Coords) : BitVec 1 :=
  let arg0 : BitVec 32 := BitVec.ofNat 32 (i 0).val
  let c1_i32_17 : BitVec 32 := 1#32
  let v46 : BitVec 1 := Scalar.cmpi .eq arg0 c1_i32_17
  let v47 : BitVec 32 := Scalar.extui v46
  let c0_i32_18 : BitVec 32 := 0#32
  let v48 : BitVec 1 := Scalar.cmpi .ne v47 c0_i32_18
  v48

def k0_cond14 (i : grid0.Coords) : BitVec 1 :=
  let arg0 : BitVec 32 := BitVec.ofNat 32 (i 0).val
  let c0_i32_20 : BitVec 32 := 0#32
  let v56 : BitVec 1 := Scalar.cmpi .eq arg0 c0_i32_20
  let v57 : BitVec 32 := Scalar.extui v56
  let c0_i32_21 : BitVec 32 := 0#32
  let v58 : BitVec 1 := Scalar.cmpi .ne v57 c0_i32_21
  v58

def k0_cond15 (i : grid0.Coords) : BitVec 1 :=
  let arg0 : BitVec 32 := BitVec.ofNat 32 (i 0).val
  let c1_i32_22 : BitVec 32 := 1#32
  let v59 : BitVec 1 := Scalar.cmpi .eq arg0 c1_i32_22
  let v60 : BitVec 32 := Scalar.extui v59
  let c0_i32_23 : BitVec 32 := 0#32
  let v61 : BitVec 1 := Scalar.cmpi .ne v60 c0_i32_23
  v61

def k0_cond16 (i : grid0.Coords) : BitVec 1 :=
  let arg0 : BitVec 32 := BitVec.ofNat 32 (i 0).val
  let c0_i32_25 : BitVec 32 := 0#32
  let v69 : BitVec 1 := Scalar.cmpi .eq arg0 c0_i32_25
  let v70 : BitVec 32 := Scalar.extui v69
  let c0_i32_26 : BitVec 32 := 0#32
  let v71 : BitVec 1 := Scalar.cmpi .ne v70 c0_i32_26
  v71

def k0_cond17 (i : grid0.Coords) : BitVec 1 :=
  let arg0 : BitVec 32 := BitVec.ofNat 32 (i 0).val
  let c1_i32_27 : BitVec 32 := 1#32
  let v72 : BitVec 1 := Scalar.cmpi .eq arg0 c1_i32_27
  let v73 : BitVec 32 := Scalar.extui v72
  let c0_i32_28 : BitVec 32 := 0#32
  let v74 : BitVec 1 := Scalar.cmpi .ne v73 c0_i32_28
  v74

def k0_cond18 (i : grid0.Coords) : BitVec 1 :=
  let arg0 : BitVec 32 := BitVec.ofNat 32 (i 0).val
  let c0_i32_30 : BitVec 32 := 0#32
  let v82 : BitVec 1 := Scalar.cmpi .eq arg0 c0_i32_30
  let v83 : BitVec 32 := Scalar.extui v82
  let c0_i32_31 : BitVec 32 := 0#32
  let v84 : BitVec 1 := Scalar.cmpi .ne v83 c0_i32_31
  v84

def k0_cond19 (i : grid0.Coords) : BitVec 1 :=
  let arg0 : BitVec 32 := BitVec.ofNat 32 (i 0).val
  let c1_i32_32 : BitVec 32 := 1#32
  let v85 : BitVec 1 := Scalar.cmpi .eq arg0 c1_i32_32
  let v86 : BitVec 32 := Scalar.extui v85
  let c0_i32_33 : BitVec 32 := 0#32
  let v87 : BitVec 1 := Scalar.cmpi .ne v86 c0_i32_33
  v87

def k0_cond20 (i : grid0.Coords) : BitVec 1 :=
  let arg0 : BitVec 32 := BitVec.ofNat 32 (i 0).val
  let c0_i32_35 : BitVec 32 := 0#32
  let v95 : BitVec 1 := Scalar.cmpi .eq arg0 c0_i32_35
  let v96 : BitVec 32 := Scalar.extui v95
  let c0_i32_36 : BitVec 32 := 0#32
  let v97 : BitVec 1 := Scalar.cmpi .ne v96 c0_i32_36
  v97

def k0_cond21 (i : grid0.Coords) : BitVec 1 :=
  let arg0 : BitVec 32 := BitVec.ofNat 32 (i 0).val
  let c1_i32_37 : BitVec 32 := 1#32
  let v98 : BitVec 1 := Scalar.cmpi .eq arg0 c1_i32_37
  let v99 : BitVec 32 := Scalar.extui v98
  let c0_i32_38 : BitVec 32 := 0#32
  let v100 : BitVec 1 := Scalar.cmpi .ne v99 c0_i32_38
  v100

def k0_cond22 (i : grid0.Coords) : BitVec 1 :=
  let arg0 : BitVec 32 := BitVec.ofNat 32 (i 0).val
  let c0_i32_40 : BitVec 32 := 0#32
  let v108 : BitVec 1 := Scalar.cmpi .eq arg0 c0_i32_40
  let v109 : BitVec 32 := Scalar.extui v108
  let c0_i32_41 : BitVec 32 := 0#32
  let v110 : BitVec 1 := Scalar.cmpi .ne v109 c0_i32_41
  v110

def k0_cond23 (i : grid0.Coords) : BitVec 1 :=
  let arg0 : BitVec 32 := BitVec.ofNat 32 (i 0).val
  let c1_i32_42 : BitVec 32 := 1#32
  let v111 : BitVec 1 := Scalar.cmpi .eq arg0 c1_i32_42
  let v112 : BitVec 32 := Scalar.extui v111
  let c0_i32_43 : BitVec 32 := 0#32
  let v113 : BitVec 1 := Scalar.cmpi .ne v112 c0_i32_43
  v113

def k0_cond24 (i : grid0.Coords) : BitVec 1 :=
  let arg1 : BitVec 32 := BitVec.ofNat 32 (i 1).val
  let c42_i32_7 : BitVec 32 := 42#32
  let v17 : BitVec 1 := Scalar.cmpi .sge arg1 c42_i32_7
  let v18 : BitVec 32 := Scalar.extui v17
  let c0_i32_8 : BitVec 32 := 0#32
  let v19 : BitVec 1 := Scalar.cmpi .ne v18 c0_i32_8
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c13_i32 : BitVec 32 := 13#32
  let v0 : BitVec 32 := Scalar.minsi arg1 c13_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c28_i32 : BitVec 32 := 28#32
  let v1 : BitVec 32 := Scalar.subi v0 c28_i32
  let c0_i32 : BitVec 32 := 0#32
  let c4_i32 : BitVec 32 := 4#32
  let v2 : BitVec 32 := Scalar.maxsi c0_i32 v1
  let v3 : BitVec 32 := Scalar.minsi c4_i32 v2
  let c0_i32_0 : BitVec 32 := 0#32
  let c0_i32_1 : BitVec 32 := 0#32
  ![arg0.toNat, c0_i32_0.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c28_i32 : BitVec 32 := 28#32
  let v1 : BitVec 32 := Scalar.subi v0 c28_i32
  let c0_i32 : BitVec 32 := 0#32
  let c4_i32 : BitVec 32 := 4#32
  let v2 : BitVec 32 := Scalar.maxsi c0_i32 v1
  let v3 : BitVec 32 := Scalar.minsi c4_i32 v2
  let c0_i32_0 : BitVec 32 := 0#32
  let c0_i32_1 : BitVec 32 := 0#32
  ![arg0.toNat, c0_i32_0.toNat, v3.toNat]

def cc0_transform_8 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let c27_i32 : BitVec 32 := 27#32
  let v1 : BitVec 32 := Scalar.maxsi c0_i32 v0
  let v2 : BitVec 32 := Scalar.minsi c27_i32 v1
  let c0_i32_0 : BitVec 32 := 0#32
  let c0_i32_1 : BitVec 32 := 0#32
  ![arg0.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.subi arg1 c14_i32
  let c0_i32 : BitVec 32 := 0#32
  let c27_i32 : BitVec 32 := 27#32
  let v1 : BitVec 32 := Scalar.maxsi c0_i32 v0
  let v2 : BitVec 32 := Scalar.minsi c27_i32 v1
  let c0_i32_0 : BitVec 32 := 0#32
  let c0_i32_1 : BitVec 32 := 0#32
  ![arg0.toNat, c0_i32_0.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x896x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x896x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x7168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x896x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x7168x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x896 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x896x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x896x256 .fp8e5m2 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S2x7168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S2x896x2560 : Shape := ⟨3, ![2, 896, 2560]⟩
abbrev S2x896 : Shape := ⟨2, ![2, 896]⟩
abbrev S2x7168x2560 : Shape := ⟨3, ![2, 7168, 2560]⟩
abbrev S2x7168 : Shape := ⟨2, ![2, 7168]⟩
abbrev S2x896x7168 : Shape := ⟨3, ![2, 896, 7168]⟩
abbrev S2x896x1 : Shape := ⟨3, ![2, 896, 1]⟩
abbrev S2x1x7168 : Shape := ⟨3, ![2, 1, 7168]⟩
abbrev S1x126x1 : Shape := ⟨3, ![1, 126, 1]⟩
abbrev S2x126x7168 : Shape := ⟨3, ![2, 126, 7168]⟩
abbrev S2x7168x1 : Shape := ⟨3, ![2, 7168, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x896x2560, .fp8e4m3⟩
  | .hbm, ⟨1, _⟩ => ⟨S2x896, .f32⟩
  | .hbm, ⟨2, _⟩ => ⟨S2x7168x2560, .fp8e4m3⟩
  | .hbm, ⟨3, _⟩ => ⟨S2x7168, .f32⟩
  | .hbm, ⟨4, _⟩ => ⟨S2x896, .i32⟩
  | .hbm, ⟨5, _⟩ => ⟨S2x896, .f32⟩
  | .hbm, ⟨6, _⟩ => ⟨S2x896x2560, .bf16⟩
  | .hbm, ⟨7, _⟩ => ⟨S2x7168x2560, .bf16⟩
  | .hbm, ⟨8, _⟩ => ⟨S2x896x7168, .fp8e5m2⟩
  | .hbm, ⟨9, _⟩ => ⟨S2x7168, .f32⟩
  | .local _ .vmem, ⟨0, _⟩ => ⟨S2x896x2560, .fp8e4m3⟩
  | .local _ .vmem, ⟨1, _⟩ => ⟨S2x896, .f32⟩
  | .local _ .vmem, ⟨2, _⟩ => ⟨S2x7168x2560, .fp8e4m3⟩
  | .local _ .vmem, ⟨3, _⟩ => ⟨S2x7168, .f32⟩
  | .local _ .vmem, ⟨4, _⟩ => ⟨S2x896, .i32⟩
  | .local _ .vmem, ⟨5, _⟩ => ⟨S2x896, .f32⟩
  | .local _ .vmem, ⟨6, _⟩ => ⟨S2x896x2560, .bf16⟩
  | .local _ .vmem, ⟨7, _⟩ => ⟨S2x7168x2560, .bf16⟩
  | .local _ .vmem, ⟨8, _⟩ => ⟨S2x896x7168, .fp8e5m2⟩
  | .local _ .vmem, ⟨9, _⟩ => ⟨S2x7168, .f32⟩
  | _, _ => ⟨S2x896x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x896x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x7168x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x896 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x896 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x896x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x7168x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x896x7168 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x7168 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Run.lean ====
module

public import proofs.«01_k».proof.Proof.Gen.Kernel.Frame
public import proofs.«01_k».proof.Proof.Gen.Kernel.Skeleton
public import Idealize.ShloMosaic.Lib.Pipeline.Frame
public import Idealize.ShloMosaic.Lib.Tactic

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the first region (`t == 0`) and of the third (`t == 13`), as the kernel computes them. -/
def condInit (i : grid0.Coords) : Prop :=
  Scalar.cmpi .ne (Scalar.extui (Scalar.cmpi .eq (BitVec.ofNat 32 (i 1).val) 0#32) : BitVec 32) 0#32 = 1#1
def condStats (i : grid0.Coords) : Prop :=
  Scalar.cmpi .ne (Scalar.extui (Scalar.cmpi .eq (BitVec.ofNat 32 (i 1).val) 13#32) : BitVec 32) 0#32 = 1#1

/-- A memref's buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

variable (c : Dev nD) (i : grid0.Coords)
  (arg2 : Memref sig .tc .vmem S1x896x2560 .fp8e4m3) (harg2 : arg2.IsWhole) (arg3 : Memref sig .tc .vmem S1x896x1 .f32) (harg3 : arg3.IsWhole)
  (arg4 : Memref sig .tc .vmem S1x512x2560 .fp8e4m3) (harg4 : arg4.IsWhole) (arg5 : Memref sig .tc .vmem S1x1x7168 .f32) (harg5 : arg5.IsWhole)
  (arg6 : Memref sig .tc .vmem S1x896x1 .i32) (harg6 : arg6.IsWhole) (arg7 : Memref sig .tc .vmem S1x7168x512 .fp8e4m3) (harg7 : arg7.IsWhole)
  (arg8 : Memref sig .tc .vmem S2x896 .f32) (harg8 : arg8.IsWhole) (arg9 : Memref sig .tc .vmem S1x896x512 .bf16) (harg9 : arg9.IsWhole)
  (arg10 : Memref sig .tc .vmem S1x256x2560 .bf16) (harg10 : arg10.IsWhole) (arg11 : Memref sig .tc .vmem S1x896x256 .fp8e5m2) (harg11 : arg11.IsWhole)
  (arg12 : Memref sig .tc .vmem S2x7168 .f32) (harg12 : arg12.IsWhole) (arg13 : Memref sig .tc .vmem S896x7168 .f32) (harg13 : arg13.IsWhole)
  (arg14 : Memref sig .tc .vmem S896x7168 .fp8e5m2) (harg14 : arg14.IsWhole) (arg15 : Memref sig .tc .vmem S896x2560 .bf16) (harg15 : arg15.IsWhole)
  (arg16 : Memref sig .tc .vmem S896x128 .f32) (harg16 : arg16.IsWhole) (arg17 : Memref sig .tc .vmem S896x128 .f32) (harg17 : arg17.IsWhole)
  (arg18 : Memref sig .tc .vmem S896x128 .f32) (harg18 : arg18.IsWhole) (arg19 : Memref sig .tc .vmem S256x896 .bf16) (harg19 : arg19.IsWhole)
  (arg20 : Memref sig .tc .vmem S1x7168 .f32) (harg20 : arg20.IsWhole)

/-- The body at abstract memrefs. -/
abbrev body : Prog (TpuEff nD τ sig (Elt F) Λ₀ .tc) PUnit :=
  cc0_infonce_fused (F := F) i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20

/-- Phase C alone: the reconstruction and the second product, into the gradient of the queries. -/
def runC (h1 : ¬ condInit i) (h2 : ¬ k0_cond2 i = 1#1) (h3 : ¬ condStats i) (h4 : ¬ k0_cond4 i = 1#1) (h9 : ¬ k0_cond9 i = 1#1)
    (h24 : k0_cond24 i = 1#1)
    (x7 : Vec F S1x7168x512 .fp8e4m3) (x14 : Vec F S896x7168 .fp8e5m2) (x20 : Vec F S1x7168 .f32) :
    { L9 : List (View.Piece (Elt F) S1x896x512 .bf16) //
      ∀ (f9 : Buf (Elt F) (arg9.view.loc (c : Thread nD τ))) (K : PUnit → sProp 𝕄),
        iprop(pt c arg7 (harg7.unread x7) ∗ pt c arg14 (harg14.unread x14) ∗ pt c arg20 (harg20.unread x20) ∗ pt c arg9 f9
          ∗ (iprop(pt c arg7 (harg7.unread x7) ∗ pt c arg14 (harg14.unread x14) ∗ pt c arg20 (harg20.unread x20)
              ∗ pt c arg9 (arg9.view.writes (Elt F) f9 L9)) -∗ K ⟨⟩)) ⊢ wp frame (wpE (defs₀ (F := F)) Variants.none c none) Set.univ
          (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun f9 K => ?run⟩
  case run =>
    unfold condInit at h1
    unfold condStats at h3
    unfold body pt
    simp only [cc0_infonce_fused_eq_skeleton]
    unfold cc0_infonce_fused_skel
    iintro ⟨H7, H14, H20, H9, Hk⟩
    sl_exec
    sl_step
    iapply Hk
    isplitl [H7]; · iexact H7
    isplitl [H14]; · iexact H14
    isplitl [H20]; · iexact H20
    iexact H9
/-- The first point of a batch element: the scratch initialised, then phase A. -/
def runI (h1 : condInit i) (h2 : k0_cond2 i = 1#1) (h3 : ¬ condStats i) (h4 : ¬ k0_cond4 i = 1#1) (h9 : ¬ k0_cond9 i = 1#1) (h24 : ¬ k0_cond24 i = 1#1)
    (x2 : Vec F S1x896x2560 .fp8e4m3) (x3 : Vec F S1x896x1 .f32) (x4 : Vec F S1x512x2560 .fp8e4m3) (x5 : Vec F S1x1x7168 .f32) (x13 : Vec F S896x7168 .f32) (x15 : Vec F S896x2560 .bf16) (x16 : Vec F S896x128 .f32) (x17 : Vec F S896x128 .f32) (x18 : Vec F S896x128 .f32) :
    Σ' (g13 : Buf (Elt F) (arg13.view.loc (c : Thread nD τ))) (g15 : Buf (Elt F) (arg15.view.loc (c : Thread nD τ))) (g16 : Buf (Elt F) (arg16.view.loc (c : Thread nD τ))) (g17 : Buf (Elt F) (arg17.view.loc (c : Thread nD τ))),
    { g18 : Buf (Elt F) (arg18.view.loc (c : Thread nD τ)) //
      ∀ (K : PUnit → sProp 𝕄),
        iprop(pt c arg2 (harg2.unread x2) ∗ pt c arg3 (harg3.unread x3) ∗ pt c arg4 (harg4.unread x4) ∗ pt c arg5 (harg5.unread x5) ∗ pt c arg13 (harg13.unread x13) ∗ pt c arg15 (harg15.unread x15) ∗ pt c arg16 (harg16.unread x16) ∗ pt c arg17 (harg17.unread x17) ∗ pt c arg18 (harg18.unread x18)
          ∗ (iprop(pt c arg2 (harg2.unread x2) ∗ pt c arg3 (harg3.unread x3) ∗ pt c arg4 (harg4.unread x4) ∗ pt c arg5 (harg5.unread x5) ∗ pt c arg13 g13 ∗ pt c arg15 g15 ∗ pt c arg16 g16 ∗ pt c arg17 g17 ∗ pt c arg18 g18) -∗ K ⟨⟩))
        ⊢ wp frame (wpE (defs₀ (F := F)) Variants.none c none) Set.univ
          (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun K => ?run⟩
  case run =>
    unfold condInit at h1
    unfold condStats at h3
    unfold body pt
    simp only [cc0_infonce_fused_eq_skeleton]
    unfold cc0_infonce_fused_skel
    iintro ⟨H2, H3, H4, H5, H13, H15, H16, H17, H18, Hk⟩
    sl_exec_parts
    sl_step
    iapply Hk
    isplitl [H2]; · iexact H2
    isplitl [H3]; · iexact H3
    isplitl [H4]; · iexact H4
    isplitl [H5]; · iexact H5
    isplitl [H13]; · iexact H13
    isplitl [H15]; · iexact H15
    isplitl [H16]; · iexact H16
    isplitl [H17]; · iexact H17
    iexact H18

/-- A point of phase A that is neither its first nor its last. -/
def runA (h1 : ¬ condInit i) (h2 : k0_cond2 i = 1#1) (h3 : ¬ condStats i) (h4 : ¬ k0_cond4 i = 1#1) (h9 : ¬ k0_cond9 i = 1#1) (h24 : ¬ k0_cond24 i = 1#1)
    (x2 : Vec F S1x896x2560 .fp8e4m3) (x3 : Vec F S1x896x1 .f32) (x4 : Vec F S1x512x2560 .fp8e4m3) (x5 : Vec F S1x1x7168 .f32) (x13 : Vec F S896x7168 .f32) (x16 : Vec F S896x128 .f32) (x17 : Vec F S896x128 .f32) :
    Σ' (g13 : Buf (Elt F) (arg13.view.loc (c : Thread nD τ))) (g16 : Buf (Elt F) (arg16.view.loc (c : Thread nD τ))),
    { g17 : Buf (Elt F) (arg17.view.loc (c : Thread nD τ)) //
      ∀ (K : PUnit → sProp 𝕄),
        iprop(pt c arg2 (harg2.unread x2) ∗ pt c arg3 (harg3.unread x3) ∗ pt c arg4 (harg4.unread x4) ∗ pt c arg5 (harg5.unread x5) ∗ pt c arg13 (harg13.unread x13) ∗ pt c arg16 (harg16.unread x16) ∗ pt c arg17 (harg17.unread x17)
          ∗ (iprop(pt c arg2 (harg2.unread x2) ∗ pt c arg3 (harg3.unread x3) ∗ pt c arg4 (harg4.unread x4) ∗ pt c arg5 (harg5.unread x5) ∗ pt c arg13 g13 ∗ pt c arg16 g16 ∗ pt c arg17 g17) -∗ K ⟨⟩))
        ⊢ wp frame (wpE (defs₀ (F := F)) Variants.none c none) Set.univ
          (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun K => ?run⟩
  case run =>
    unfold condInit at h1
    unfold condStats at h3
    unfold body pt
    simp only [cc0_infonce_fused_eq_skeleton]
    unfold cc0_infonce_fused_skel
    iintro ⟨H2, H3, H4, H5, H13, H16, H17, Hk⟩
    sl_exec_parts
    sl_step
    iapply Hk
    isplitl [H2]; · iexact H2
    isplitl [H3]; · iexact H3
    isplitl [H4]; · iexact H4
    isplitl [H5]; · iexact H5
    isplitl [H13]; · iexact H13
    isplitl [H16]; · iexact H16
    iexact H17

/-- The last point of phase A, with the row statistics. -/
def runS (h1 : ¬ condInit i) (h2 : k0_cond2 i = 1#1) (h3 : condStats i) (h4 : ¬ k0_cond4 i = 1#1) (h9 : ¬ k0_cond9 i = 1#1) (h24 : ¬ k0_cond24 i = 1#1)
    (x2 : Vec F S1x896x2560 .fp8e4m3) (x3 : Vec F S1x896x1 .f32) (x4 : Vec F S1x512x2560 .fp8e4m3) (x5 : Vec F S1x1x7168 .f32) (x13 : Vec F S896x7168 .f32) (x16 : Vec F S896x128 .f32) (x17 : Vec F S896x128 .f32) :
    Σ' (g13 : Buf (Elt F) (arg13.view.loc (c : Thread nD τ))) (g16 : Buf (Elt F) (arg16.view.loc (c : Thread nD τ))),
    { g17 : Buf (Elt F) (arg17.view.loc (c : Thread nD τ)) //
      ∀ (K : PUnit → sProp 𝕄),
        iprop(pt c arg2 (harg2.unread x2) ∗ pt c arg3 (harg3.unread x3) ∗ pt c arg4 (harg4.unread x4) ∗ pt c arg5 (harg5.unread x5) ∗ pt c arg13 (harg13.unread x13) ∗ pt c arg16 (harg16.unread x16) ∗ pt c arg17 (harg17.unread x17)
          ∗ (iprop(pt c arg2 (harg2.unread x2) ∗ pt c arg3 (harg3.unread x3) ∗ pt c arg4 (harg4.unread x4) ∗ pt c arg5 (harg5.unread x5) ∗ pt c arg13 g13 ∗ pt c arg16 g16 ∗ pt c arg17 g17) -∗ K ⟨⟩))
        ⊢ wp frame (wpE (defs₀ (F := F)) Variants.none c none) Set.univ
          (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun K => ?run⟩
  case run =>
    unfold condInit at h1
    unfold condStats at h3
    unfold body pt
    simp only [cc0_infonce_fused_eq_skeleton]
    unfold cc0_infonce_fused_skel
    iintro ⟨H2, H3, H4, H5, H13, H16, H17, Hk⟩
    sl_exec_parts
    sl_step
    iapply Hk
    isplitl [H2]; · iexact H2
    isplitl [H3]; · iexact H3
    isplitl [H4]; · iexact H4
    isplitl [H5]; · iexact H5
    isplitl [H13]; · iexact H13
    isplitl [H16]; · iexact H16
    iexact H17

end Cert.Kernel.Run
-- ==== Proof.RunB.lean ====
module

public import proofs.«01_k».proof.Proof.Gen.Kernel.Frame
public import proofs.«01_k».proof.Proof.Gen.Kernel.Skeleton
public import Idealize.ShloMosaic.Lib.Pipeline.Frame
public import Idealize.ShloMosaic.Lib.Tactic
public import proofs.«01_k».proof.Proof.Run

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The column offsets the kernel computes at a point of phase B, in closed form over the stripe's first column `cw`. -/
structure Offs (i : grid0.Coords) (cw : ℕ) : Prop where
  e3_0 : k0_off3 i 0#32 = ![0, cw]
  e3_128 : k0_off3 i 128#32 = ![0, cw + 128]
  e4_0 : k0_off4 i 0#32 = ![128, cw]
  e4_128 : k0_off4 i 128#32 = ![128, cw + 128]
  e5_0 : k0_off5 i 0#32 = ![256, cw]
  e5_128 : k0_off5 i 128#32 = ![256, cw + 128]
  e6_0 : k0_off6 i 0#32 = ![384, cw]
  e6_128 : k0_off6 i 128#32 = ![384, cw + 128]
  e7_0 : k0_off7 i 0#32 = ![512, cw]
  e7_128 : k0_off7 i 128#32 = ![512, cw + 128]
  e8_0 : k0_off8 i 0#32 = ![640, cw]
  e8_128 : k0_off8 i 128#32 = ![640, cw + 128]
  e9_0 : k0_off9 i 0#32 = ![768, cw]
  e9_128 : k0_off9 i 128#32 = ![768, cw + 128]
  e12_0 : k0_off12 i 0#32 = ![0, 0, cw]
  e13_0 : k0_off13 i 0#32 = ![0, cw]
  e12_128 : k0_off12 i 128#32 = ![0, 0, cw + 128]
  e13_128 : k0_off13 i 128#32 = ![0, cw + 128]
  e10 : k0_off10 i = ![0, cw]
  e11 : k0_off11 i = ![1, cw]
  e14 : k0_off14 i = ![0, cw + 128]
  e15 : k0_off15 i = ![1, cw + 128]

variable (c : Dev nD) (i : grid0.Coords)
  (arg2 : Memref sig .tc .vmem S1x896x2560 .fp8e4m3) (harg2 : arg2.IsWhole) (arg3 : Memref sig .tc .vmem S1x896x1 .f32) (harg3 : arg3.IsWhole)
  (arg4 : Memref sig .tc .vmem S1x512x2560 .fp8e4m3) (harg4 : arg4.IsWhole) (arg5 : Memref sig .tc .vmem S1x1x7168 .f32) (harg5 : arg5.IsWhole)
  (arg6 : Memref sig .tc .vmem S1x896x1 .i32) (harg6 : arg6.IsWhole) (arg7 : Memref sig .tc .vmem S1x7168x512 .fp8e4m3) (harg7 : arg7.IsWhole)
  (arg8 : Memref sig .tc .vmem S2x896 .f32) (harg8 : arg8.IsWhole) (arg9 : Memref sig .tc .vmem S1x896x512 .bf16) (harg9 : arg9.IsWhole)
  (arg10 : Memref sig .tc .vmem S1x256x2560 .bf16) (harg10 : arg10.IsWhole) (arg11 : Memref sig .tc .vmem S1x896x256 .fp8e5m2) (harg11 : arg11.IsWhole)
  (arg12 : Memref sig .tc .vmem S2x7168 .f32) (harg12 : arg12.IsWhole) (arg13 : Memref sig .tc .vmem S896x7168 .f32) (harg13 : arg13.IsWhole)
  (arg14 : Memref sig .tc .vmem S896x7168 .fp8e5m2) (harg14 : arg14.IsWhole) (arg15 : Memref sig .tc .vmem S896x2560 .bf16) (harg15 : arg15.IsWhole)
  (arg16 : Memref sig .tc .vmem S896x128 .f32) (harg16 : arg16.IsWhole) (arg17 : Memref sig .tc .vmem S896x128 .f32) (harg17 : arg17.IsWhole)
  (arg18 : Memref sig .tc .vmem S896x128 .f32) (harg18 : arg18.IsWhole) (arg19 : Memref sig .tc .vmem S256x896 .bf16) (harg19 : arg19.IsWhole)
  (arg20 : Memref sig .tc .vmem S1x7168 .f32) (harg20 : arg20.IsWhole)

/-- A point of phase B. -/
def runB (h1 : ¬ condInit i) (h2 : ¬ k0_cond2 i = 1#1) (h3 : ¬ condStats i) (h4 : k0_cond4 i = 1#1) (h9 : ¬ k0_cond9 i = 1#1) (h24 : ¬ k0_cond24 i = 1#1)
    (cw : ℕ) (ho : Offs i cw)
    (x5 : Vec F S1x1x7168 .f32) (x6 : Vec F S1x896x1 .i32) (x15 : Vec F S896x2560 .bf16) (x16 : Vec F S896x128 .f32) (x17 : Vec F S896x128 .f32) (x10 : Vec F S1x256x2560 .bf16) (x11 : Vec F S1x896x256 .fp8e5m2) (x12 : Vec F S2x7168 .f32) (x13 : Vec F S896x7168 .f32) (x14 : Vec F S896x7168 .fp8e5m2) (x18 : Vec F S896x128 .f32) (x19 : Vec F S256x896 .bf16) (x20 : Vec F S1x7168 .f32) :
    Σ' (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g18 : Buf (Elt F) (arg18.view.loc (c : Thread nD τ))) (g19 : Buf (Elt F) (arg19.view.loc (c : Thread nD τ))),
    { g20 : Buf (Elt F) (arg20.view.loc (c : Thread nD τ)) //
      ∀ (K : PUnit → sProp 𝕄),
        iprop(pt c arg5 (harg5.unread x5) ∗ pt c arg6 (harg6.unread x6) ∗ pt c arg15 (harg15.unread x15) ∗ pt c arg16 (harg16.unread x16) ∗ pt c arg17 (harg17.unread x17) ∗ pt c arg10 (harg10.unread x10) ∗ pt c arg11 (harg11.unread x11) ∗ pt c arg12 (harg12.unread x12) ∗ pt c arg13 (harg13.unread x13) ∗ pt c arg14 (harg14.unread x14) ∗ pt c arg18 (harg18.unread x18) ∗ pt c arg19 (harg19.unread x19) ∗ pt c arg20 (harg20.unread x20)
          ∗ (iprop(pt c arg5 (harg5.unread x5) ∗ pt c arg6 (harg6.unread x6) ∗ pt c arg15 (harg15.unread x15) ∗ pt c arg16 (harg16.unread x16) ∗ pt c arg17 (harg17.unread x17) ∗ pt c arg10 g10 ∗ pt c arg11 g11 ∗ pt c arg12 g12 ∗ pt c arg13 g13 ∗ pt c arg14 g14 ∗ pt c arg18 g18 ∗ pt c arg19 g19 ∗ pt c arg20 g20) -∗ K ⟨⟩))
        ⊢ wp frame (wpE (defs₀ (F := F)) Variants.none c none) Set.univ
          (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, fun K => ?run⟩
  case run =>
    unfold condInit at h1
    unfold condStats at h3
    unfold body pt
    simp only [cc0_infonce_fused_eq_skeleton]
    unfold cc0_infonce_fused_skel
    letI : ClosedOff (k0_off3 i 0#32) := ⟨![0, cw], ho.e3_0⟩
    letI : ClosedOff (k0_off3 i 128#32) := ⟨![0, cw + 128], ho.e3_128⟩
    letI : ClosedOff (k0_off4 i 0#32) := ⟨![128, cw], ho.e4_0⟩
    letI : ClosedOff (k0_off4 i 128#32) := ⟨![128, cw + 128], ho.e4_128⟩
    letI : ClosedOff (k0_off5 i 0#32) := ⟨![256, cw], ho.e5_0⟩
    letI : ClosedOff (k0_off5 i 128#32) := ⟨![256, cw + 128], ho.e5_128⟩
    letI : ClosedOff (k0_off6 i 0#32) := ⟨![384, cw], ho.e6_0⟩
    letI : ClosedOff (k0_off6 i 128#32) := ⟨![384, cw + 128], ho.e6_128⟩
    letI : ClosedOff (k0_off7 i 0#32) := ⟨![512, cw], ho.e7_0⟩
    letI : ClosedOff (k0_off7 i 128#32) := ⟨![512, cw + 128], ho.e7_128⟩
    letI : ClosedOff (k0_off8 i 0#32) := ⟨![640, cw], ho.e8_0⟩
    letI : ClosedOff (k0_off8 i 128#32) := ⟨![640, cw + 128], ho.e8_128⟩
    letI : ClosedOff (k0_off9 i 0#32) := ⟨![768, cw], ho.e9_0⟩
    letI : ClosedOff (k0_off9 i 128#32) := ⟨![768, cw + 128], ho.e9_128⟩
    letI : ClosedOff (k0_off12 i 0#32) := ⟨![0, 0, cw], ho.e12_0⟩
    letI : ClosedOff (k0_off13 i 0#32) := ⟨![0, cw], ho.e13_0⟩
    letI : ClosedOff (k0_off12 i 128#32) := ⟨![0, 0, cw + 128], ho.e12_128⟩
    letI : ClosedOff (k0_off13 i 128#32) := ⟨![0, cw + 128], ho.e13_128⟩
    letI : ClosedOff (k0_off10 i) := ⟨![0, cw], ho.e10⟩
    letI : ClosedOff (k0_off11 i) := ⟨![1, cw], ho.e11⟩
    letI : ClosedOff (k0_off14 i) := ⟨![0, cw + 128], ho.e14⟩
    letI : ClosedOff (k0_off15 i) := ⟨![1, cw + 128], ho.e15⟩
    iintro ⟨H5, H6, H15, H16, H17, H10, H11, H12, H13, H14, H18, H19, H20, Hk⟩
    sl_exec_parts
    sl_step
    iapply Hk
    isplitl [H5]; · iexact H5
    isplitl [H6]; · iexact H6
    isplitl [H15]; · iexact H15
    isplitl [H16]; · iexact H16
    isplitl [H17]; · iexact H17
    isplitl [H10]; · iexact H10
    isplitl [H11]; · iexact H11
    isplitl [H12]; · iexact H12
    isplitl [H13]; · iexact H13
    isplitl [H14]; · iexact H14
    isplitl [H18]; · iexact H18
    isplitl [H19]; · iexact H19
    iexact H20

end Cert.Kernel.Run
-- ==== Proof.RunL.lean ====
module

public import proofs.«01_k».proof.Proof.Gen.Kernel.Frame
public import proofs.«01_k».proof.Proof.Gen.Kernel.Skeleton
public import Idealize.ShloMosaic.Lib.Pipeline.Frame
public import Idealize.ShloMosaic.Lib.Tactic
public import proofs.«01_k».proof.Proof.Run

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1x896x2560 .fp8e4m3) (harg2 : arg2.IsWhole) (arg3 : Memref sig .tc .vmem S1x896x1 .f32) (harg3 : arg3.IsWhole)
  (arg4 : Memref sig .tc .vmem S1x512x2560 .fp8e4m3) (harg4 : arg4.IsWhole) (arg5 : Memref sig .tc .vmem S1x1x7168 .f32) (harg5 : arg5.IsWhole)
  (arg6 : Memref sig .tc .vmem S1x896x1 .i32) (harg6 : arg6.IsWhole) (arg7 : Memref sig .tc .vmem S1x7168x512 .fp8e4m3) (harg7 : arg7.IsWhole)
  (arg8 : Memref sig .tc .vmem S2x896 .f32) (harg8 : arg8.IsWhole) (arg9 : Memref sig .tc .vmem S1x896x512 .bf16) (harg9 : arg9.IsWhole)
  (arg10 : Memref sig .tc .vmem S1x256x2560 .bf16) (harg10 : arg10.IsWhole) (arg11 : Memref sig .tc .vmem S1x896x256 .fp8e5m2) (harg11 : arg11.IsWhole)
  (arg12 : Memref sig .tc .vmem S2x7168 .f32) (harg12 : arg12.IsWhole) (arg13 : Memref sig .tc .vmem S896x7168 .f32) (harg13 : arg13.IsWhole)
  (arg14 : Memref sig .tc .vmem S896x7168 .fp8e5m2) (harg14 : arg14.IsWhole) (arg15 : Memref sig .tc .vmem S896x2560 .bf16) (harg15 : arg15.IsWhole)
  (arg16 : Memref sig .tc .vmem S896x128 .f32) (harg16 : arg16.IsWhole) (arg17 : Memref sig .tc .vmem S896x128 .f32) (harg17 : arg17.IsWhole)
  (arg18 : Memref sig .tc .vmem S896x128 .f32) (harg18 : arg18.IsWhole) (arg19 : Memref sig .tc .vmem S256x896 .bf16) (harg19 : arg19.IsWhole)
  (arg20 : Memref sig .tc .vmem S1x7168 .f32) (harg20 : arg20.IsWhole)

/-- The first point of phase C, with the loss. -/
def runL (h1 : ¬ condInit i) (h2 : ¬ k0_cond2 i = 1#1) (h3 : ¬ condStats i) (h4 : ¬ k0_cond4 i = 1#1) (h9 : k0_cond9 i = 1#1) (h24 : k0_cond24 i = 1#1)
    (x7 : Vec F S1x7168x512 .fp8e4m3) (x14 : Vec F S896x7168 .fp8e5m2) (x18 : Vec F S896x128 .f32) (x20 : Vec F S1x7168 .f32) (x8 : Vec F S2x896 .f32) (x9 : Vec F S1x896x512 .bf16) :
    Σ' (g8 : Buf (Elt F) (arg8.view.loc (c : Thread nD τ))),
    { g9 : Buf (Elt F) (arg9.view.loc (c : Thread nD τ)) //
      ∀ (K : PUnit → sProp 𝕄),
        iprop(pt c arg7 (harg7.unread x7) ∗ pt c arg14 (harg14.unread x14) ∗ pt c arg18 (harg18.unread x18) ∗ pt c arg20 (harg20.unread x20) ∗ pt c arg8 (harg8.unread x8) ∗ pt c arg9 (harg9.unread x9)
          ∗ (iprop(pt c arg7 (harg7.unread x7) ∗ pt c arg14 (harg14.unread x14) ∗ pt c arg18 (harg18.unread x18) ∗ pt c arg20 (harg20.unread x20) ∗ pt c arg8 g8 ∗ pt c arg9 g9) -∗ K ⟨⟩))
        ⊢ wp frame (wpE (defs₀ (F := F)) Variants.none c none) Set.univ
          (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun K => ?run⟩
  case run =>
    unfold condInit at h1
    unfold condStats at h3
    unfold body pt
    simp only [cc0_infonce_fused_eq_skeleton]
    unfold cc0_infonce_fused_skel
    iintro ⟨H7, H14, H18, H20, H8, H9, Hk⟩
    sl_exec_parts
    sl_step
    iapply Hk
    isplitl [H7]; · iexact H7
    isplitl [H14]; · iexact H14
    isplitl [H18]; · iexact H18
    isplitl [H20]; · iexact H20
    isplitl [H8]; · iexact H8
    iexact H9

end Cert.Kernel.Run
-- ==== Proof.Cases.lean ====
module

public import proofs.«01_k».proof.Proof.RunB
public import proofs.«01_k».proof.Proof.RunL

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The body's six kinds of grid point, each as a step from the contents of its buffers to their contents afterwards. -/

/-- What the six input windows hold. -/
structure Ins (F : FTy → Type) where
  x2 : Vec F S1x896x2560 .fp8e4m3
  x3 : Vec F S1x896x1 .f32
  x4 : Vec F S1x512x2560 .fp8e4m3
  x5 : Vec F S1x1x7168 .f32
  x6 : Vec F S1x896x1 .i32
  x7 : Vec F S1x7168x512 .fp8e4m3

/-- What the five output windows and the eight scratch buffers hold. -/
structure St (F : FTy → Type) where
  x8 : Vec F S2x896 .f32
  x9 : Vec F S1x896x512 .bf16
  x10 : Vec F S1x256x2560 .bf16
  x11 : Vec F S1x896x256 .fp8e5m2
  x12 : Vec F S2x7168 .f32
  x13 : Vec F S896x7168 .f32
  x14 : Vec F S896x7168 .fp8e5m2
  x15 : Vec F S896x2560 .bf16
  x16 : Vec F S896x128 .f32
  x17 : Vec F S896x128 .f32
  x18 : Vec F S896x128 .f32
  x19 : Vec F S256x896 .bf16
  x20 : Vec F S1x7168 .f32

variable (c : Dev nD) (i : grid0.Coords)
  (arg2 : Memref sig .tc .vmem S1x896x2560 .fp8e4m3) (harg2 : arg2.IsWhole)
  (arg3 : Memref sig .tc .vmem S1x896x1 .f32) (harg3 : arg3.IsWhole)
  (arg4 : Memref sig .tc .vmem S1x512x2560 .fp8e4m3) (harg4 : arg4.IsWhole)
  (arg5 : Memref sig .tc .vmem S1x1x7168 .f32) (harg5 : arg5.IsWhole)
  (arg6 : Memref sig .tc .vmem S1x896x1 .i32) (harg6 : arg6.IsWhole)
  (arg7 : Memref sig .tc .vmem S1x7168x512 .fp8e4m3) (harg7 : arg7.IsWhole)
  (arg8 : Memref sig .tc .vmem S2x896 .f32) (harg8 : arg8.IsWhole)
  (arg9 : Memref sig .tc .vmem S1x896x512 .bf16) (harg9 : arg9.IsWhole)
  (arg10 : Memref sig .tc .vmem S1x256x2560 .bf16) (harg10 : arg10.IsWhole)
  (arg11 : Memref sig .tc .vmem S1x896x256 .fp8e5m2) (harg11 : arg11.IsWhole)
  (arg12 : Memref sig .tc .vmem S2x7168 .f32) (harg12 : arg12.IsWhole)
  (arg13 : Memref sig .tc .vmem S896x7168 .f32) (harg13 : arg13.IsWhole)
  (arg14 : Memref sig .tc .vmem S896x7168 .fp8e5m2) (harg14 : arg14.IsWhole)
  (arg15 : Memref sig .tc .vmem S896x2560 .bf16) (harg15 : arg15.IsWhole)
  (arg16 : Memref sig .tc .vmem S896x128 .f32) (harg16 : arg16.IsWhole)
  (arg17 : Memref sig .tc .vmem S896x128 .f32) (harg17 : arg17.IsWhole)
  (arg18 : Memref sig .tc .vmem S896x128 .f32) (harg18 : arg18.IsWhole)
  (arg19 : Memref sig .tc .vmem S256x896 .bf16) (harg19 : arg19.IsWhole)
  (arg20 : Memref sig .tc .vmem S1x7168 .f32) (harg20 : arg20.IsWhole)

/-- The input windows' buffers at `I`. -/
def insPts (I : Ins F) : sProp 𝕄 := iprop(pt c arg2 (harg2.unread I.x2) ∗ pt c arg3 (harg3.unread I.x3) ∗ pt c arg4 (harg4.unread I.x4) ∗ pt c arg5 (harg5.unread I.x5) ∗ pt c arg6 (harg6.unread I.x6) ∗ pt c arg7 (harg7.unread I.x7))
/-- The output windows' buffers at `s`. -/
def outPts (s : St F) : sProp 𝕄 := iprop(pt c arg8 (harg8.unread s.x8) ∗ pt c arg9 (harg9.unread s.x9) ∗ pt c arg10 (harg10.unread s.x10) ∗ pt c arg11 (harg11.unread s.x11) ∗ pt c arg12 (harg12.unread s.x12))
/-- The scratch buffers at `s`. -/
def scPts (s : St F) : sProp 𝕄 := iprop(pt c arg13 (harg13.unread s.x13) ∗ pt c arg14 (harg14.unread s.x14) ∗ pt c arg15 (harg15.unread s.x15) ∗ pt c arg16 (harg16.unread s.x16) ∗ pt c arg17 (harg17.unread s.x17) ∗ pt c arg18 (harg18.unread s.x18) ∗ pt c arg19 (harg19.unread s.x19) ∗ pt c arg20 (harg20.unread s.x20))

/-- The first point of a batch element. The contents afterwards. -/
def nextI (h1 : condInit i) (h2 : k0_cond2 i = 1#1) (h3 : ¬ condStats i) (h4 : ¬ k0_cond4 i = 1#1) (h9 : ¬ k0_cond9 i = 1#1) (h24 : ¬ k0_cond24 i = 1#1) (I : Ins F) (s : St F) : St F :=
  { s with
    x13 := arg13.view.read (Elt F) ((runI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x15 s.x16 s.x17 s.x18).1),
    x15 := arg15.view.read (Elt F) ((runI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x15 s.x16 s.x17 s.x18).2.1),
    x16 := arg16.view.read (Elt F) ((runI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x15 s.x16 s.x17 s.x18).2.2.1),
    x17 := arg17.view.read (Elt F) ((runI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x15 s.x16 s.x17 s.x18).2.2.2.1),
    x18 := arg18.view.read (Elt F) ((runI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x15 s.x16 s.x17 s.x18).2.2.2.2.1) }

/-- The first point of a batch element. The run. -/
theorem tripleI (h1 : condInit i) (h2 : k0_cond2 i = 1#1) (h3 : ¬ condStats i) (h4 : ¬ k0_cond4 i = 1#1) (h9 : ¬ k0_cond9 i = 1#1) (h24 : ¬ k0_cond24 i = 1#1) (I : Ins F) (s : St F) :
    iprop(insPts c arg2 harg2 arg3 harg3 arg4 harg4 arg5 harg5 arg6 harg6 arg7 harg7 I ∗ outPts c arg8 harg8 arg9 harg9 arg10 harg10 arg11 harg11 arg12 harg12 s ∗ scPts c arg13 harg13 arg14 harg14 arg15 harg15 arg16 harg16 arg17 harg17 arg18 harg18 arg19 harg19 arg20 harg20 s)
      ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        fun _ => iprop(insPts c arg2 harg2 arg3 harg3 arg4 harg4 arg5 harg5 arg6 harg6 arg7 harg7 I ∗ outPts c arg8 harg8 arg9 harg9 arg10 harg10 arg11 harg11 arg12 harg12 (nextI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s) ∗ scPts c arg13 harg13 arg14 harg14 arg15 harg15 arg16 harg16 arg17 harg17 arg18 harg18 arg19 harg19 arg20 harg20 (nextI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s)) := by
  unfold insPts outPts scPts nextI
  simp only [Memref.IsWhole.unread_read]
  iintro ⟨⟨H2, H3, H4, H5, H6, H7⟩, ⟨H8, H9, H10, H11, H12⟩, H13, H14, H15, H16, H17, H18, H19, H20⟩
  iapply (runI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x15 s.x16 s.x17 s.x18).2.2.2.2.2
  isplitl [H2]; · iexact H2
  isplitl [H3]; · iexact H3
  isplitl [H4]; · iexact H4
  isplitl [H5]; · iexact H5
  isplitl [H13]; · iexact H13
  isplitl [H15]; · iexact H15
  isplitl [H16]; · iexact H16
  isplitl [H17]; · iexact H17
  isplitl [H18]; · iexact H18
  iintro ⟨H2, H3, H4, H5, H13, H15, H16, H17, H18⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- A point of phase A that is neither its first nor its last. The contents afterwards. -/
def nextA (h1 : ¬ condInit i) (h2 : k0_cond2 i = 1#1) (h3 : ¬ condStats i) (h4 : ¬ k0_cond4 i = 1#1) (h9 : ¬ k0_cond9 i = 1#1) (h24 : ¬ k0_cond24 i = 1#1) (I : Ins F) (s : St F) : St F :=
  { s with
    x13 := arg13.view.read (Elt F) ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).1),
    x16 := arg16.view.read (Elt F) ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).2.1),
    x17 := arg17.view.read (Elt F) ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).2.2.1) }

/-- A point of phase A that is neither its first nor its last. The run. -/
theorem tripleA (h1 : ¬ condInit i) (h2 : k0_cond2 i = 1#1) (h3 : ¬ condStats i) (h4 : ¬ k0_cond4 i = 1#1) (h9 : ¬ k0_cond9 i = 1#1) (h24 : ¬ k0_cond24 i = 1#1) (I : Ins F) (s : St F) :
    iprop(insPts c arg2 harg2 arg3 harg3 arg4 harg4 arg5 harg5 arg6 harg6 arg7 harg7 I ∗ outPts c arg8 harg8 arg9 harg9 arg10 harg10 arg11 harg11 arg12 harg12 s ∗ scPts c arg13 harg13 arg14 harg14 arg15 harg15 arg16 harg16 arg17 harg17 arg18 harg18 arg19 harg19 arg20 harg20 s)
      ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        fun _ => iprop(insPts c arg2 harg2 arg3 harg3 arg4 harg4 arg5 harg5 arg6 harg6 arg7 harg7 I ∗ outPts c arg8 harg8 arg9 harg9 arg10 harg10 arg11 harg11 arg12 harg12 (nextA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s) ∗ scPts c arg13 harg13 arg14 harg14 arg15 harg15 arg16 harg16 arg17 harg17 arg18 harg18 arg19 harg19 arg20 harg20 (nextA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s)) := by
  unfold insPts outPts scPts nextA
  simp only [Memref.IsWhole.unread_read]
  iintro ⟨⟨H2, H3, H4, H5, H6, H7⟩, ⟨H8, H9, H10, H11, H12⟩, H13, H14, H15, H16, H17, H18, H19, H20⟩
  iapply (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).2.2.2
  isplitl [H2]; · iexact H2
  isplitl [H3]; · iexact H3
  isplitl [H4]; · iexact H4
  isplitl [H5]; · iexact H5
  isplitl [H13]; · iexact H13
  isplitl [H16]; · iexact H16
  isplitl [H17]; · iexact H17
  iintro ⟨H2, H3, H4, H5, H13, H16, H17⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The last point of phase A. The contents afterwards. -/
def nextS (h1 : ¬ condInit i) (h2 : k0_cond2 i = 1#1) (h3 : condStats i) (h4 : ¬ k0_cond4 i = 1#1) (h9 : ¬ k0_cond9 i = 1#1) (h24 : ¬ k0_cond24 i = 1#1) (I : Ins F) (s : St F) : St F :=
  { s with
    x13 := arg13.view.read (Elt F) ((runS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).1),
    x16 := arg16.view.read (Elt F) ((runS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).2.1),
    x17 := arg17.view.read (Elt F) ((runS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).2.2.1) }

/-- The last point of phase A. The run. -/
theorem tripleS (h1 : ¬ condInit i) (h2 : k0_cond2 i = 1#1) (h3 : condStats i) (h4 : ¬ k0_cond4 i = 1#1) (h9 : ¬ k0_cond9 i = 1#1) (h24 : ¬ k0_cond24 i = 1#1) (I : Ins F) (s : St F) :
    iprop(insPts c arg2 harg2 arg3 harg3 arg4 harg4 arg5 harg5 arg6 harg6 arg7 harg7 I ∗ outPts c arg8 harg8 arg9 harg9 arg10 harg10 arg11 harg11 arg12 harg12 s ∗ scPts c arg13 harg13 arg14 harg14 arg15 harg15 arg16 harg16 arg17 harg17 arg18 harg18 arg19 harg19 arg20 harg20 s)
      ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        fun _ => iprop(insPts c arg2 harg2 arg3 harg3 arg4 harg4 arg5 harg5 arg6 harg6 arg7 harg7 I ∗ outPts c arg8 harg8 arg9 harg9 arg10 harg10 arg11 harg11 arg12 harg12 (nextS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s) ∗ scPts c arg13 harg13 arg14 harg14 arg15 harg15 arg16 harg16 arg17 harg17 arg18 harg18 arg19 harg19 arg20 harg20 (nextS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s)) := by
  unfold insPts outPts scPts nextS
  simp only [Memref.IsWhole.unread_read]
  iintro ⟨⟨H2, H3, H4, H5, H6, H7⟩, ⟨H8, H9, H10, H11, H12⟩, H13, H14, H15, H16, H17, H18, H19, H20⟩
  iapply (runS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).2.2.2
  isplitl [H2]; · iexact H2
  isplitl [H3]; · iexact H3
  isplitl [H4]; · iexact H4
  isplitl [H5]; · iexact H5
  isplitl [H13]; · iexact H13
  isplitl [H16]; · iexact H16
  isplitl [H17]; · iexact H17
  iintro ⟨H2, H3, H4, H5, H13, H16, H17⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- A point of phase B. The contents afterwards. -/
def nextB (h1 : ¬ condInit i) (h2 : ¬ k0_cond2 i = 1#1) (h3 : ¬ condStats i) (h4 : k0_cond4 i = 1#1) (h9 : ¬ k0_cond9 i = 1#1) (h24 : ¬ k0_cond24 i = 1#1) (cw : ℕ) (ho : Offs i cw) (I : Ins F) (s : St F) : St F :=
  { s with
    x10 := arg10.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).1),
    x11 := arg11.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.1),
    x12 := arg12.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.1),
    x13 := arg13.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.2.1),
    x14 := arg14.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.2.2.1),
    x18 := arg18.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.2.2.2.1),
    x19 := arg19.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.2.2.2.2.1),
    x20 := arg20.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.2.2.2.2.2.1) }

/-- A point of phase B. The run. -/
theorem tripleB (h1 : ¬ condInit i) (h2 : ¬ k0_cond2 i = 1#1) (h3 : ¬ condStats i) (h4 : k0_cond4 i = 1#1) (h9 : ¬ k0_cond9 i = 1#1) (h24 : ¬ k0_cond24 i = 1#1) (cw : ℕ) (ho : Offs i cw) (I : Ins F) (s : St F) :
    iprop(insPts c arg2 harg2 arg3 harg3 arg4 harg4 arg5 harg5 arg6 harg6 arg7 harg7 I ∗ outPts c arg8 harg8 arg9 harg9 arg10 harg10 arg11 harg11 arg12 harg12 s ∗ scPts c arg13 harg13 arg14 harg14 arg15 harg15 arg16 harg16 arg17 harg17 arg18 harg18 arg19 harg19 arg20 harg20 s)
      ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        fun _ => iprop(insPts c arg2 harg2 arg3 harg3 arg4 harg4 arg5 harg5 arg6 harg6 arg7 harg7 I ∗ outPts c arg8 harg8 arg9 harg9 arg10 harg10 arg11 harg11 arg12 harg12 (nextB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I s) ∗ scPts c arg13 harg13 arg14 harg14 arg15 harg15 arg16 harg16 arg17 harg17 arg18 harg18 arg19 harg19 arg20 harg20 (nextB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I s)) := by
  unfold insPts outPts scPts nextB
  simp only [Memref.IsWhole.unread_read]
  iintro ⟨⟨H2, H3, H4, H5, H6, H7⟩, ⟨H8, H9, H10, H11, H12⟩, H13, H14, H15, H16, H17, H18, H19, H20⟩
  iapply (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.2.2.2.2.2.2
  isplitl [H5]; · iexact H5
  isplitl [H6]; · iexact H6
  isplitl [H15]; · iexact H15
  isplitl [H16]; · iexact H16
  isplitl [H17]; · iexact H17
  isplitl [H10]; · iexact H10
  isplitl [H11]; · iexact H11
  isplitl [H12]; · iexact H12
  isplitl [H13]; · iexact H13
  isplitl [H14]; · iexact H14
  isplitl [H18]; · iexact H18
  isplitl [H19]; · iexact H19
  isplitl [H20]; · iexact H20
  iintro ⟨H5, H6, H15, H16, H17, H10, H11, H12, H13, H14, H18, H19, H20⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The first point of phase C. The contents afterwards. -/
def nextL (h1 : ¬ condInit i) (h2 : ¬ k0_cond2 i = 1#1) (h3 : ¬ condStats i) (h4 : ¬ k0_cond4 i = 1#1) (h9 : k0_cond9 i = 1#1) (h24 : k0_cond24 i = 1#1) (I : Ins F) (s : St F) : St F :=
  { s with
    x8 := arg8.view.read (Elt F) ((runL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x7 s.x14 s.x18 s.x20 s.x8 s.x9).1),
    x9 := arg9.view.read (Elt F) ((runL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x7 s.x14 s.x18 s.x20 s.x8 s.x9).2.1) }

/-- The first point of phase C. The run. -/
theorem tripleL (h1 : ¬ condInit i) (h2 : ¬ k0_cond2 i = 1#1) (h3 : ¬ condStats i) (h4 : ¬ k0_cond4 i = 1#1) (h9 : k0_cond9 i = 1#1) (h24 : k0_cond24 i = 1#1) (I : Ins F) (s : St F) :
    iprop(insPts c arg2 harg2 arg3 harg3 arg4 harg4 arg5 harg5 arg6 harg6 arg7 harg7 I ∗ outPts c arg8 harg8 arg9 harg9 arg10 harg10 arg11 harg11 arg12 harg12 s ∗ scPts c arg13 harg13 arg14 harg14 arg15 harg15 arg16 harg16 arg17 harg17 arg18 harg18 arg19 harg19 arg20 harg20 s)
      ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        fun _ => iprop(insPts c arg2 harg2 arg3 harg3 arg4 harg4 arg5 harg5 arg6 harg6 arg7 harg7 I ∗ outPts c arg8 harg8 arg9 harg9 arg10 harg10 arg11 harg11 arg12 harg12 (nextL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s) ∗ scPts c arg13 harg13 arg14 harg14 arg15 harg15 arg16 harg16 arg17 harg17 arg18 harg18 arg19 harg19 arg20 harg20 (nextL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s)) := by
  unfold insPts outPts scPts nextL
  simp only [Memref.IsWhole.unread_read]
  iintro ⟨⟨H2, H3, H4, H5, H6, H7⟩, ⟨H8, H9, H10, H11, H12⟩, H13, H14, H15, H16, H17, H18, H19, H20⟩
  iapply (runL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x7 s.x14 s.x18 s.x20 s.x8 s.x9).2.2
  isplitl [H7]; · iexact H7
  isplitl [H14]; · iexact H14
  isplitl [H18]; · iexact H18
  isplitl [H20]; · iexact H20
  isplitl [H8]; · iexact H8
  isplitl [H9]; · iexact H9
  iintro ⟨H7, H14, H18, H20, H8, H9⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- A later point of phase C. The contents afterwards. -/
def nextC (h1 : ¬ condInit i) (h2 : ¬ k0_cond2 i = 1#1) (h3 : ¬ condStats i) (h4 : ¬ k0_cond4 i = 1#1) (h9 : ¬ k0_cond9 i = 1#1) (h24 : k0_cond24 i = 1#1) (I : Ins F) (s : St F) : St F :=
  { s with
    x9 := arg9.view.read (Elt F) (arg9.view.writes (Elt F) (harg9.unread s.x9) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x7 s.x14 s.x20).1) }

/-- A later point of phase C. The run. -/
theorem tripleC (h1 : ¬ condInit i) (h2 : ¬ k0_cond2 i = 1#1) (h3 : ¬ condStats i) (h4 : ¬ k0_cond4 i = 1#1) (h9 : ¬ k0_cond9 i = 1#1) (h24 : k0_cond24 i = 1#1) (I : Ins F) (s : St F) :
    iprop(insPts c arg2 harg2 arg3 harg3 arg4 harg4 arg5 harg5 arg6 harg6 arg7 harg7 I ∗ outPts c arg8 harg8 arg9 harg9 arg10 harg10 arg11 harg11 arg12 harg12 s ∗ scPts c arg13 harg13 arg14 harg14 arg15 harg15 arg16 harg16 arg17 harg17 arg18 harg18 arg19 harg19 arg20 harg20 s)
      ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        fun _ => iprop(insPts c arg2 harg2 arg3 harg3 arg4 harg4 arg5 harg5 arg6 harg6 arg7 harg7 I ∗ outPts c arg8 harg8 arg9 harg9 arg10 harg10 arg11 harg11 arg12 harg12 (nextC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s) ∗ scPts c arg13 harg13 arg14 harg14 arg15 harg15 arg16 harg16 arg17 harg17 arg18 harg18 arg19 harg19 arg20 harg20 (nextC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s)) := by
  unfold insPts outPts scPts nextC
  simp only [Memref.IsWhole.unread_read]
  iintro ⟨⟨H2, H3, H4, H5, H6, H7⟩, ⟨H8, H9, H10, H11, H12⟩, H13, H14, H15, H16, H17, H18, H19, H20⟩
  iapply (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x7 s.x14 s.x20).2
  isplitl [H7]; · iexact H7
  isplitl [H14]; · iexact H14
  isplitl [H20]; · iexact H20
  isplitl [H9]; · iexact H9
  iintro ⟨H7, H14, H20, H9⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

end Cert.Kernel.Run
-- ==== Proof.Points.lean ====
module

public import proofs.«01_k».proof.Proof.RunB

@[expose] public section

set_option maxRecDepth 16384

noncomputable section

namespace Cert.Kernel.Run

open Cert.Kernel Cert.Kernel.Gen
open Idealize.ShloMosaic Idealize.ShloMosaic.TcCoe

/-! The region conditions and the column offsets at a grid point, from the point's place `t % 47` in its batch element. -/

instance (i : grid0.Coords) : Decidable (condInit i) := by unfold condInit; infer_instance
instance (i : grid0.Coords) : Decidable (condStats i) := by unfold condStats; infer_instance

theorem condInit_iff : ∀ t : Fin grid0.N, condInit (grid0.coords t) ↔ t.val % 47 = 0 := by decide +kernel
theorem condStats_iff : ∀ t : Fin grid0.N, condStats (grid0.coords t) ↔ t.val % 47 = 13 := by decide +kernel
theorem cond2_iff : ∀ t : Fin grid0.N, k0_cond2 (grid0.coords t) = 1#1 ↔ t.val % 47 < 14 := by decide +kernel
theorem cond4_iff : ∀ t : Fin grid0.N, k0_cond4 (grid0.coords t) = 1#1 ↔ 14 ≤ t.val % 47 ∧ t.val % 47 < 42 := by decide +kernel
theorem cond9_iff : ∀ t : Fin grid0.N, k0_cond9 (grid0.coords t) = 1#1 ↔ t.val % 47 = 42 := by decide +kernel
theorem cond24_iff : ∀ t : Fin grid0.N, k0_cond24 (grid0.coords t) = 1#1 ↔ 42 ≤ t.val % 47 := by decide +kernel

/-- The offsets of a stripe of phase B. -/
theorem offs (t : Fin grid0.N) (h : 14 ≤ t.val % 47 ∧ t.val % 47 < 42) : Offs (grid0.coords t) (256 * (t.val % 47 - 14)) := by
  constructor <;> revert t <;> decide +kernel

end Cert.Kernel.Run
-- ==== Proof.Launch.lean ====
module

public import proofs.«01_k».proof.Proof.Cases
public import proofs.«01_k».proof.Proof.Points

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (UR sig nD τ) ℕ

variable (c : Dev nD)

/-! The body at each grid point as a step of contents (`next`), and the launch over any invariant the steps keep. -/

/-- `nextI` at grid point `t`. -/
def atI (t : Fin cfg0.N) (h : t.val % 47 = 0) (I : Ins F) (s : St F) : St F :=
  nextI c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) ((condInit_iff t).2 (by omega)) ((cond2_iff t).2 (by omega)) (fun e => absurd ((condStats_iff t).1 e) (by omega)) (fun e => absurd ((cond4_iff t).1 e) (by omega)) (fun e => absurd ((cond9_iff t).1 e) (by omega)) (fun e => absurd ((cond24_iff t).1 e) (by omega)) I s

/-- `nextA` at grid point `t`. -/
def atA (t : Fin cfg0.N) (h : 0 < t.val % 47 ∧ t.val % 47 < 13) (I : Ins F) (s : St F) : St F :=
  nextA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) ((cond2_iff t).2 (by omega)) (fun e => absurd ((condStats_iff t).1 e) (by omega)) (fun e => absurd ((cond4_iff t).1 e) (by omega)) (fun e => absurd ((cond9_iff t).1 e) (by omega)) (fun e => absurd ((cond24_iff t).1 e) (by omega)) I s

/-- `nextS` at grid point `t`. -/
def atS (t : Fin cfg0.N) (h : t.val % 47 = 13) (I : Ins F) (s : St F) : St F :=
  nextS c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) ((cond2_iff t).2 (by omega)) ((condStats_iff t).2 (by omega)) (fun e => absurd ((cond4_iff t).1 e) (by omega)) (fun e => absurd ((cond9_iff t).1 e) (by omega)) (fun e => absurd ((cond24_iff t).1 e) (by omega)) I s

/-- `nextB` at grid point `t`. -/
def atB (t : Fin cfg0.N) (h : 14 ≤ t.val % 47 ∧ t.val % 47 < 42) (I : Ins F) (s : St F) : St F :=
  nextB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) (fun e => absurd ((cond2_iff t).1 e) (by omega)) (fun e => absurd ((condStats_iff t).1 e) (by omega)) ((cond4_iff t).2 (by omega)) (fun e => absurd ((cond9_iff t).1 e) (by omega)) (fun e => absurd ((cond24_iff t).1 e) (by omega)) (256 * (t.val % 47 - 14)) (offs t h) I s

/-- `nextL` at grid point `t`. -/
def atL (t : Fin cfg0.N) (h : t.val % 47 = 42) (I : Ins F) (s : St F) : St F :=
  nextL c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) (fun e => absurd ((cond2_iff t).1 e) (by omega)) (fun e => absurd ((condStats_iff t).1 e) (by omega)) (fun e => absurd ((cond4_iff t).1 e) (by omega)) ((cond9_iff t).2 (by omega)) ((cond24_iff t).2 (by omega)) I s

/-- `nextC` at grid point `t`. -/
def atC (t : Fin cfg0.N) (h : 42 < t.val % 47) (I : Ins F) (s : St F) : St F :=
  nextC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) (fun e => absurd ((cond2_iff t).1 e) (by omega)) (fun e => absurd ((condStats_iff t).1 e) (by omega)) (fun e => absurd ((cond4_iff t).1 e) (by omega)) (fun e => absurd ((cond9_iff t).1 e) (by omega)) ((cond24_iff t).2 (by omega)) I s

/-- The contents after the body at grid point `t`. -/
def next (t : Fin cfg0.N) (I : Ins F) (s : St F) : St F :=
  if h : t.val % 47 = 0 then atI c t h I s
  else if h : t.val % 47 = 13 then atS c t h I s
  else if h : 14 ≤ t.val % 47 ∧ t.val % 47 < 42 then atB c t h I s
  else if h : t.val % 47 = 42 then atL c t h I s
  else if h : 42 < t.val % 47 then atC c t h I s
  else if h : 0 < t.val % 47 ∧ t.val % 47 < 13 then atA c t h I s else s

/-- The input windows' current staging buffers at `t`. -/
def insAt (t : Fin cfg0.N) (I : Ins F) : sProp 𝕄 := insPts c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) I
/-- The output windows' current staging buffers at `t`. -/
def outAt (t : Fin cfg0.N) (s : St F) : sProp 𝕄 := outPts c (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) s
/-- The scratch buffers. -/
def scr (s : St F) : sProp 𝕄 := scPts c (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) s

/-- The body at a grid point. -/
theorem triple (t : Fin cfg0.N) (I : Ins F) (s : St F) :
    iprop(insAt c t I ∗ outAt c t s ∗ scr c s)
      ⊢ wp frame (wpE (defs₀ (F := F)) Variants.none c none) Set.univ (bodyAt0 t)
        fun _ => iprop(insAt c t I ∗ outAt c t (next c t I s) ∗ scr c (next c t I s)) := by
  unfold next
  split
  · next h => exact tripleI c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) ((condInit_iff t).2 (by omega)) ((cond2_iff t).2 (by omega)) (fun e => absurd ((condStats_iff t).1 e) (by omega)) (fun e => absurd ((cond4_iff t).1 e) (by omega)) (fun e => absurd ((cond9_iff t).1 e) (by omega)) (fun e => absurd ((cond24_iff t).1 e) (by omega)) I s
  split
  · next h => exact tripleS c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) ((cond2_iff t).2 (by omega)) ((condStats_iff t).2 (by omega)) (fun e => absurd ((cond4_iff t).1 e) (by omega)) (fun e => absurd ((cond9_iff t).1 e) (by omega)) (fun e => absurd ((cond24_iff t).1 e) (by omega)) I s
  split
  · next h => exact tripleB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) (fun e => absurd ((cond2_iff t).1 e) (by omega)) (fun e => absurd ((condStats_iff t).1 e) (by omega)) ((cond4_iff t).2 (by omega)) (fun e => absurd ((cond9_iff t).1 e) (by omega)) (fun e => absurd ((cond24_iff t).1 e) (by omega)) (256 * (t.val % 47 - 14)) (offs t h) I s
  split
  · next h => exact tripleL c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) (fun e => absurd ((cond2_iff t).1 e) (by omega)) (fun e => absurd ((condStats_iff t).1 e) (by omega)) (fun e => absurd ((cond4_iff t).1 e) (by omega)) ((cond9_iff t).2 (by omega)) ((cond24_iff t).2 (by omega)) I s
  split
  · next h => exact tripleC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) (fun e => absurd ((cond2_iff t).1 e) (by omega)) (fun e => absurd ((condStats_iff t).1 e) (by omega)) (fun e => absurd ((cond4_iff t).1 e) (by omega)) (fun e => absurd ((cond9_iff t).1 e) (by omega)) ((cond24_iff t).2 (by omega)) I s
  split
  · next h => exact tripleA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) ((cond2_iff t).2 (by omega)) (fun e => absurd ((condStats_iff t).1 e) (by omega)) (fun e => absurd ((cond4_iff t).1 e) (by omega)) (fun e => absurd ((cond9_iff t).1 e) (by omega)) (fun e => absurd ((cond24_iff t).1 e) (by omega)) I s
  · exfalso; omega

/-- A whole buffer owned at what it reads is the buffer at the contents that read so. -/
theorem owns_eq_pt {sp : Space} {S : Shape} {e : EltTy} (M : Memref sig .tc sp S e) (h : M.IsWhole) (X : S.Idx → Elt F e) :
    (owns (c : Thread nD τ) M fullShare X : sProp 𝕄) = pt c M (h.unread X) := by
  unfold owns pt
  have h₁ : (iprop(∃ f, ⌜M.view.read (Elt F) f = X⌝ ∗ (M.view.loc (c : Thread nD τ) ↦[M.view.set]{fullShare} f)) : sProp 𝕄)
      ⊢ M.view.loc (c : Thread nD τ) ↦{fullShare} h.unread X := by
    rw [h.set_eq_univ]
    iintro ⟨%f, %hf, H⟩
    rw [h.eq_unread hf]
    iexact H
  have h₂ : (M.view.loc (c : Thread nD τ) ↦{fullShare} h.unread X : sProp 𝕄)
      ⊢ iprop(∃ f, ⌜M.view.read (Elt F) f = X⌝ ∗ (M.view.loc (c : Thread nD τ) ↦[M.view.set]{fullShare} f)) := by
    rw [h.set_eq_univ]
    iintro H
    iexists _
    isplitr
    swap
    · iexact H
    ipureintro
    exact h.read_unread X
  exact BI.equiv_iff.mp ⟨h₁, h₂⟩

theorem insAt_owns (t : Fin cfg0.N) (I : Ins F) :
    insAt c t I = (iprop(owns (c : Thread nD τ) (win0_0.stage (cfg0.slots t 0)) fullShare I.x2 ∗ owns (c : Thread nD τ) (win0_1.stage (cfg0.slots t 1)) fullShare I.x3 ∗ owns (c : Thread nD τ) (win0_2.stage (cfg0.slots t 2)) fullShare I.x4 ∗ owns (c : Thread nD τ) (win0_3.stage (cfg0.slots t 3)) fullShare I.x5 ∗ owns (c : Thread nD τ) (win0_4.stage (cfg0.slots t 4)) fullShare I.x6 ∗ owns (c : Thread nD τ) (win0_5.stage (cfg0.slots t 5)) fullShare I.x7) : sProp 𝕄) := by
  unfold insAt insPts
  rw [owns_eq_pt c (win0_0.stage (cfg0.slots t 0)) (hstage0_0 ((cfg0.slots t 0).cast nbuf0_0)) I.x2, owns_eq_pt c (win0_1.stage (cfg0.slots t 1)) (hstage0_1 ((cfg0.slots t 1).cast nbuf0_1)) I.x3, owns_eq_pt c (win0_2.stage (cfg0.slots t 2)) (hstage0_2 ((cfg0.slots t 2).cast nbuf0_2)) I.x4, owns_eq_pt c (win0_3.stage (cfg0.slots t 3)) (hstage0_3 ((cfg0.slots t 3).cast nbuf0_3)) I.x5, owns_eq_pt c (win0_4.stage (cfg0.slots t 4)) (hstage0_4 ((cfg0.slots t 4).cast nbuf0_4)) I.x6, owns_eq_pt c (win0_5.stage (cfg0.slots t 5)) (hstage0_5 ((cfg0.slots t 5).cast nbuf0_5)) I.x7]

theorem outAt_owns (t : Fin cfg0.N) (s : St F) :
    outAt c t s = (iprop(owns (c : Thread nD τ) (win0_6.stage (cfg0.slots t 6)) fullShare s.x8 ∗ owns (c : Thread nD τ) (win0_7.stage (cfg0.slots t 7)) fullShare s.x9 ∗ owns (c : Thread nD τ) (win0_8.stage (cfg0.slots t 8)) fullShare s.x10 ∗ owns (c : Thread nD τ) (win0_9.stage (cfg0.slots t 9)) fullShare s.x11 ∗ owns (c : Thread nD τ) (win0_10.stage (cfg0.slots t 10)) fullShare s.x12) : sProp 𝕄) := by
  unfold outAt outPts
  rw [owns_eq_pt c (win0_6.stage (cfg0.slots t 6)) (hstage0_6 ((cfg0.slots t 6).cast nbuf0_6)) s.x8, owns_eq_pt c (win0_7.stage (cfg0.slots t 7)) (hstage0_7 ((cfg0.slots t 7).cast nbuf0_7)) s.x9, owns_eq_pt c (win0_8.stage (cfg0.slots t 8)) (hstage0_8 ((cfg0.slots t 8).cast nbuf0_8)) s.x10, owns_eq_pt c (win0_9.stage (cfg0.slots t 9)) (hstage0_9 ((cfg0.slots t 9).cast nbuf0_9)) s.x11, owns_eq_pt c (win0_10.stage (cfg0.slots t 10)) (hstage0_10 ((cfg0.slots t 10).cast nbuf0_10)) s.x12]

/-- The input windows' contents out of all the windows'. -/
def insOf (Y : (w : Fin cfg0.W) → (cfg0.win w).block.Idx → Elt F (cfg0.win w).elt) : Ins F :=
  ⟨Y 0, Y 1, Y 2, Y 3, Y 4, Y 5⟩
/-- The state whose output windows are as in `Y` and whose scratch is `s`'s. -/
def outsOf (Y : (w : Fin cfg0.W) → (cfg0.win w).block.Idx → Elt F (cfg0.win w).elt) (s : St F) : St F :=
  ⟨Y 6, Y 7, Y 8, Y 9, Y 10, s.x13, s.x14, s.x15, s.x16, s.x17, s.x18, s.x19, s.x20⟩
/-- All the windows' contents from the inputs' and the outputs'. -/
def pack (I : Ins F) (s : St F) : (w : Fin cfg0.W) → (cfg0.win w).block.Idx → Elt F (cfg0.win w).elt
  | ⟨0, _⟩ => I.x2 | ⟨1, _⟩ => I.x3 | ⟨2, _⟩ => I.x4 | ⟨3, _⟩ => I.x5 | ⟨4, _⟩ => I.x6 | ⟨5, _⟩ => I.x7
  | ⟨6, _⟩ => s.x8 | ⟨7, _⟩ => s.x9 | ⟨8, _⟩ => s.x10 | ⟨9, _⟩ => s.x11 | ⟨10, _⟩ => s.x12
  | ⟨n + 11, h⟩ => absurd h (by intro h; exact absurd (show n + 11 < 11 from h) (by omega))

variable (m : (ℓ : Loc nD τ sig) → Buf (Elt F) ℓ) (ρ : Dev nD → PrngReg)

/-- The invariant between grid points: the scratch at contents satisfying `Inv`, the generator register at some state. -/
def Phi (Inv : ℕ → St F → Prop) (n : ℕ) : sProp 𝕄 :=
  iprop((∃ s : St F, ⌜Inv n s⌝ ∗ scr c s) ∗ ∃ r, prngReg c r)

/-- The proof data over an invariant `Inv` of the scratch and a relation `aft` of what the body leaves in each window. -/
def rdat (Inv : Dev nD → ℕ → St F → Prop)
    (aft : Dev nD → (w : Fin cfg0.W) → Fin cfg0.N → (Y X : (cfg0.win w).block.Idx → Elt F (cfg0.win w).elt) → Prop)
    (c : Dev nD) : RDat τ (Elt F) Unit ℕ (UR sig nD τ) ℕ cfg0 c where
  A w := V m c (Pipeline.arrRef spec0 w)
  after w t Y X := aft c w t Y X
  Φ t := Phi c (Inv c) t.val
  q w := Pipeline.shareOf spec0 w
  owed _ := 0

theorem ΦA_eq : (Pipeline.ΦA spec0 c : sProp 𝕄)
    ⊣⊢ Phi c (fun _ _ => True) 0 := by
  unfold Pipeline.ΦA Phi scr scPts
  rw [scopedRest0_eq]
  constructor
  · iintro ⟨⟨⟨%f0, H0⟩, ⟨%f1, H1⟩, ⟨%f2, H2⟩, ⟨%f3, H3⟩, ⟨%f4, H4⟩, ⟨%f5, H5⟩, ⟨%f6, H6⟩, ⟨%f7, H7⟩⟩, Hg⟩
    isplitr [Hg]; swap; · iexact Hg
    iexists (⟨fun _ => (Scalar.ofBits .f32 0 : F .f32), fun _ => (Scalar.ofBits .bf16 0 : F .bf16), fun _ => (Scalar.ofBits .bf16 0 : F .bf16), fun _ => (Scalar.ofBits .fp8e5m2 0 : F .fp8e5m2), fun _ => (Scalar.ofBits .f32 0 : F .f32), f0, f1, f2, f3, f4, f5, f6, f7⟩ : St F)
    isplitr; · ipureintro; trivial
    isplitl [H0]; · rw [← owns_eq_pt c (Memref.whole cc0_scratch0) (Memref.isWhole_whole _), owns_whole]; iexact H0
    isplitl [H1]; · rw [← owns_eq_pt c (Memref.whole cc0_scratch1) (Memref.isWhole_whole _), owns_whole]; iexact H1
    isplitl [H2]; · rw [← owns_eq_pt c (Memref.whole cc0_scratch2) (Memref.isWhole_whole _), owns_whole]; iexact H2
    isplitl [H3]; · rw [← owns_eq_pt c (Memref.whole cc0_scratch3) (Memref.isWhole_whole _), owns_whole]; iexact H3
    isplitl [H4]; · rw [← owns_eq_pt c (Memref.whole cc0_scratch4) (Memref.isWhole_whole _), owns_whole]; iexact H4
    isplitl [H5]; · rw [← owns_eq_pt c (Memref.whole cc0_scratch5) (Memref.isWhole_whole _), owns_whole]; iexact H5
    isplitl [H6]; · rw [← owns_eq_pt c (Memref.whole cc0_scratch6) (Memref.isWhole_whole _), owns_whole]; iexact H6
    rw [← owns_eq_pt c (Memref.whole cc0_scratch7) (Memref.isWhole_whole _), owns_whole]; iexact H7
  · iintro ⟨⟨%s, -, H0, H1, H2, H3, H4, H5, H6, H7⟩, Hg⟩
    isplitr [Hg]; swap; · iexact Hg
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7

theorem Phi_mono {P Q : ℕ → St F → Prop} {n k : ℕ} (h : ∀ s, P n s → Q k s) : (Phi c P n : sProp 𝕄) ⊢ Phi c Q k := by
  unfold Phi
  iintro ⟨⟨%s, %hs, H⟩, Hg⟩
  isplitr [Hg]; swap; · iexact Hg
  iexists s
  isplitr; · ipureintro; exact h s hs
  iexact H

/-- The body table's row at a grid point. -/
theorem defs₀_row (t : Fin cfg0.N) : defs₀ (F := F) .tc cfg0.body (cfg0.bodyArgs t (cfg0.slots t)) = bodyAt0 t := by
  unfold defs₀; rw [Defs.onTc_tc]

/-- The body obligation, from what one step keeps. -/
theorem obligation (Inv : Dev nD → ℕ → St F → Prop)
    (aft : Dev nD → (w : Fin cfg0.W) → Fin cfg0.N → (Y X : (cfg0.win w).block.Idx → Elt F (cfg0.win w).elt) → Prop)
    (hstep : ∀ (c : Dev nD) (t : Fin cfg0.N) (Y : (w : Fin cfg0.W) → (cfg0.win w).block.Idx → Elt F (cfg0.win w).elt) (s : St F),
      (∀ w, (rdat m Inv aft c).Finds w t (Y w)) → Inv c t.val s →
        Inv c (t.val + 1) (next c t (insOf Y) (outsOf Y s)) ∧ ∀ w, aft c w t (Y w) (pack (insOf Y) (next c t (insOf Y) (outsOf Y s)) w))
    (c : Dev nD) : (rdat m Inv aft c).BodyObligation (defs₀ (F := F)) Variants.none () Set.univ := fun t Y hY => by
  rw [bigSep_W0, bigSep_W0, defs₀_row]
  rw [show (rdat m Inv aft c).Φ t.succ = Phi c (Inv c) (t.val + 1) from rfl,
    show (rdat m Inv aft c).Φ t.castSucc = Phi c (Inv c) t.val from rfl,
    show (rdat m Inv aft c).owesAt () t.succ = (rdat m Inv aft c).owesAt () t.castSucc from rfl]
  have key : ∀ s : St F, Inv c t.val s →
      iprop((scr c s ∗ (∃ r, prngReg c r)) ∗ (rdat m Inv aft c).owesAt () t.castSucc ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9) ∗ owns (c : Thread nD τ) ((cfg0.win 10).stage (cfg0.slots t 10)) fullShare (Y 10))
      ⊢ wp frame (wpE (defs₀ (F := F)) Variants.none c none) Set.univ (bodyAt0 t) fun _ =>
          iprop(Phi c (Inv c) (t.val + 1) ∗ (rdat m Inv aft c).owesAt () t.castSucc ∗ (∃ X, ⌜(rdat m Inv aft c).after 0 t (Y 0) X⌝ ∗ owns (c : Thread nD τ) ((cfg0.win 0).stage (cfg0.slots t 0)) fullShare X) ∗ (∃ X, ⌜(rdat m Inv aft c).after 1 t (Y 1) X⌝ ∗ owns (c : Thread nD τ) ((cfg0.win 1).stage (cfg0.slots t 1)) fullShare X) ∗ (∃ X, ⌜(rdat m Inv aft c).after 2 t (Y 2) X⌝ ∗ owns (c : Thread nD τ) ((cfg0.win 2).stage (cfg0.slots t 2)) fullShare X) ∗ (∃ X, ⌜(rdat m Inv aft c).after 3 t (Y 3) X⌝ ∗ owns (c : Thread nD τ) ((cfg0.win 3).stage (cfg0.slots t 3)) fullShare X) ∗ (∃ X, ⌜(rdat m Inv aft c).after 4 t (Y 4) X⌝ ∗ owns (c : Thread nD τ) ((cfg0.win 4).stage (cfg0.slots t 4)) fullShare X) ∗ (∃ X, ⌜(rdat m Inv aft c).after 5 t (Y 5) X⌝ ∗ owns (c : Thread nD τ) ((cfg0.win 5).stage (cfg0.slots t 5)) fullShare X) ∗ (∃ X, ⌜(rdat m Inv aft c).after 6 t (Y 6) X⌝ ∗ owns (c : Thread nD τ) ((cfg0.win 6).stage (cfg0.slots t 6)) fullShare X) ∗ (∃ X, ⌜(rdat m Inv aft c).after 7 t (Y 7) X⌝ ∗ owns (c : Thread nD τ) ((cfg0.win 7).stage (cfg0.slots t 7)) fullShare X) ∗ (∃ X, ⌜(rdat m Inv aft c).after 8 t (Y 8) X⌝ ∗ owns (c : Thread nD τ) ((cfg0.win 8).stage (cfg0.slots t 8)) fullShare X) ∗ (∃ X, ⌜(rdat m Inv aft c).after 9 t (Y 9) X⌝ ∗ owns (c : Thread nD τ) ((cfg0.win 9).stage (cfg0.slots t 9)) fullShare X) ∗ (∃ X, ⌜(rdat m Inv aft c).after 10 t (Y 10) X⌝ ∗ owns (c : Thread nD τ) ((cfg0.win 10).stage (cfg0.slots t 10)) fullShare X)) := fun s hs => by
    obtain ⟨hI, hA⟩ := hstep c t Y s hY hs
    have ht : iprop((insAt c t (insOf Y) ∗ outAt c t (outsOf Y s) ∗ scr c (outsOf Y s)) ∗ ((∃ r, prngReg c r) ∗ (rdat m Inv aft c).owesAt () t.castSucc))
        ⊢ wp frame (wpE (defs₀ (F := F)) Variants.none c none) Set.univ (bodyAt0 t) fun _ =>
          iprop((insAt c t (insOf Y) ∗ outAt c t (next c t (insOf Y) (outsOf Y s)) ∗ scr c (next c t (insOf Y) (outsOf Y s)))
            ∗ ((∃ r, prngReg c r) ∗ (rdat m Inv aft c).owesAt () t.castSucc)) :=
      (BI.sep_mono_l (triple c t (insOf Y) (outsOf Y s))).trans (wp_frame_r _ _ _)
    refine triple_restated ht rfl ?_ fun _ => ?_
    · iintro ⟨⟨HS, Hg⟩, HO, H0, H1, H2, H3, H4, H5, H6, H7, H8, H9, H10⟩
      isplitr [Hg HO]
      · isplitr [H6 H7 H8 H9 H10 HS]
        · rw [insAt_owns]
          isplitl [H0]; · iexact H0
          isplitl [H1]; · iexact H1
          isplitl [H2]; · iexact H2
          isplitl [H3]; · iexact H3
          isplitl [H4]; · iexact H4
          iexact H5
        isplitr [HS]
        · rw [outAt_owns]
          isplitl [H6]; · iexact H6
          isplitl [H7]; · iexact H7
          isplitl [H8]; · iexact H8
          isplitl [H9]; · iexact H9
          iexact H10
        iexact HS
      isplitl [Hg]; · iexact Hg
      iexact HO
    · rw [insAt_owns, outAt_owns]
      iintro ⟨⟨⟨H0, H1, H2, H3, H4, H5⟩, ⟨H6, H7, H8, H9, H10⟩, HS⟩, Hg, HO⟩
      isplitl [HS Hg]
      · unfold Phi
        isplitr [Hg]; swap; · iexact Hg
        iexists _
        isplitr; · ipureintro; exact hI
        iexact HS
      isplitl [HO]; · iexact HO
      isplitl [H0]
      · iexists (pack (insOf Y) (next c t (insOf Y) (outsOf Y s)) 0)
        isplitr; · ipureintro; exact hA 0
        iexact H0
      isplitl [H1]
      · iexists (pack (insOf Y) (next c t (insOf Y) (outsOf Y s)) 1)
        isplitr; · ipureintro; exact hA 1
        iexact H1
      isplitl [H2]
      · iexists (pack (insOf Y) (next c t (insOf Y) (outsOf Y s)) 2)
        isplitr; · ipureintro; exact hA 2
        iexact H2
      isplitl [H3]
      · iexists (pack (insOf Y) (next c t (insOf Y) (outsOf Y s)) 3)
        isplitr; · ipureintro; exact hA 3
        iexact H3
      isplitl [H4]
      · iexists (pack (insOf Y) (next c t (insOf Y) (outsOf Y s)) 4)
        isplitr; · ipureintro; exact hA 4
        iexact H4
      isplitl [H5]
      · iexists (pack (insOf Y) (next c t (insOf Y) (outsOf Y s)) 5)
        isplitr; · ipureintro; exact hA 5
        iexact H5
      isplitl [H6]
      · iexists (pack (insOf Y) (next c t (insOf Y) (outsOf Y s)) 6)
        isplitr; · ipureintro; exact hA 6
        iexact H6
      isplitl [H7]
      · iexists (pack (insOf Y) (next c t (insOf Y) (outsOf Y s)) 7)
        isplitr; · ipureintro; exact hA 7
        iexact H7
      isplitl [H8]
      · iexists (pack (insOf Y) (next c t (insOf Y) (outsOf Y s)) 8)
        isplitr; · ipureintro; exact hA 8
        iexact H8
      isplitl [H9]
      · iexists (pack (insOf Y) (next c t (insOf Y) (outsOf Y s)) 9)
        isplitr; · ipureintro; exact hA 9
        iexact H9
      iexists (pack (insOf Y) (next c t (insOf Y) (outsOf Y s)) 10)
      isplitr; · ipureintro; exact hA 10
      iexact H10
  unfold Phi
  iintro ⟨⟨⟨%s, %hs, HS⟩, Hg⟩, HO, H⟩
  iapply (key s hs)
  isplitl [HS Hg]
  · isplitl [HS]; · iexact HS
    iexact Hg
  isplitl [HO]; · iexact HO
  iexact H

theorem Phi_end {P : ℕ → St F → Prop} {n : ℕ} : (Phi c P n : sProp 𝕄) ⊢ Pipeline.ΦA spec0 c :=
  (Phi_mono c fun _ _ => trivial).trans (ΦA_eq c).2

set_option backward.isDefEq.respectTransparency.types false in
/-- The launch: every fair execution ends, at the arrays the steps' relations describe, every argument kept, every counter at zero. -/
theorem run_main (Inv : Dev nD → ℕ → St F → Prop)
    (aft : Dev nD → (w : Fin cfg0.W) → Fin cfg0.N → (Y X : (cfg0.win w).block.Idx → Elt F (cfg0.win w).elt) → Prop)
    (h0 : ∀ c s, Inv c 0 s)
    (hstep : ∀ (c : Dev nD) (t : Fin cfg0.N) (Y : (w : Fin cfg0.W) → (cfg0.win w).block.Idx → Elt F (cfg0.win w).elt) (s : St F),
      (∀ w, (rdat m Inv aft c).Finds w t (Y w)) → Inv c t.val s →
        Inv c (t.val + 1) (next c t (insOf Y) (outsOf Y s)) ∧ ∀ w, aft c w t (Y w) (pack (insOf Y) (next c t (insOf Y) (outsOf Y s)) w)) :
    θ_run defs (onTc (τ := τ) (main (F := F))) (s₀ m ρ)
      (fun r => RDat.FramePost cfg0 (rdat m Inv aft) (V m) r ∧ r.2.sem = fun _ => 0) :=
  RDat.θ_run_frame_track_shared (Q' := _) cfgs (0 : Fin 1) launch₀0 defs₀ Variants.none (rdat m Inv aft) m ρ main
    (hbody := obligation m Inv aft hstep) (hq := fun _ _ _ => rfl)
    (howed := fun _ _ => rfl) (V := V m) (hmain := hmain m Variants.none) (hA := fun _ _ => rfl)
    (hin := fun c => (ΦA_eq c).1.trans (Phi_mono c fun s _ => h0 c s)) (hout := fun c => Phi_end c)

/-- The arguments after a run: each as at launch. -/
theorem args_kept (Inv : Dev nD → ℕ → St F → Prop)
    (aft : Dev nD → (w : Fin cfg0.W) → Fin cfg0.N → (Y X : (cfg0.win w).block.Idx → Elt F (cfg0.win w).elt) → Prop)
    {r : PUnit × MemSt nD τ sig (Elt F)} (h : RDat.FramePost cfg0 (rdat m Inv aft) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.arr_in c 0 rfl).trans (V_main_arg0 m c),
    ((h c).2 main_arg1 (Pipeline.mem_restRefs_of main_arg1 (by decide) (by decide))).trans (V_main_arg1 m c),
    (h.arr_in c 5 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: nothing said of the results. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨args_kept m _ _ h.1, h.2⟩)
    (run_main m ρ (fun _ _ _ => True) (fun _ _ _ _ _ => True) (fun _ _ => trivial) fun _ _ _ _ _ _ => ⟨trivial, fun _ => trivial⟩)

end Cert.Kernel.Run
-- ==== Proof.Ideal.Run.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the first region (`t == 0`) and of the third (`t == 13`), as the kernel computes them. -/
def condInit (i : grid0.Coords) : Prop :=
  Scalar.cmpi .ne (Scalar.extui (Scalar.cmpi .eq (BitVec.ofNat 32 (i 1).val) 0#32) : BitVec 32) 0#32 = 1#1
def condStats (i : grid0.Coords) : Prop :=
  Scalar.cmpi .ne (Scalar.extui (Scalar.cmpi .eq (BitVec.ofNat 32 (i 1).val) 13#32) : BitVec 32) 0#32 = 1#1

/-- A memref's buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

variable (c : Dev nD) (i : grid0.Coords)
  (arg2 : Memref sig .tc .vmem S1x896x2560 .fp8e4m3) (harg2 : arg2.IsWhole) (arg3 : Memref sig .tc .vmem S1x896x1 .f32) (harg3 : arg3.IsWhole)
  (arg4 : Memref sig .tc .vmem S1x512x2560 .fp8e4m3) (harg4 : arg4.IsWhole) (arg5 : Memref sig .tc .vmem S1x1x7168 .f32) (harg5 : arg5.IsWhole)
  (arg6 : Memref sig .tc .vmem S1x896x1 .i32) (harg6 : arg6.IsWhole) (arg7 : Memref sig .tc .vmem S1x7168x512 .fp8e4m3) (harg7 : arg7.IsWhole)
  (arg8 : Memref sig .tc .vmem S2x896 .f32) (harg8 : arg8.IsWhole) (arg9 : Memref sig .tc .vmem S1x896x512 .bf16) (harg9 : arg9.IsWhole)
  (arg10 : Memref sig .tc .vmem S1x256x2560 .bf16) (harg10 : arg10.IsWhole) (arg11 : Memref sig .tc .vmem S1x896x256 .fp8e5m2) (harg11 : arg11.IsWhole)
  (arg12 : Memref sig .tc .vmem S2x7168 .f32) (harg12 : arg12.IsWhole) (arg13 : Memref sig .tc .vmem S896x7168 .f32) (harg13 : arg13.IsWhole)
  (arg14 : Memref sig .tc .vmem S896x7168 .fp8e5m2) (harg14 : arg14.IsWhole) (arg15 : Memref sig .tc .vmem S896x2560 .bf16) (harg15 : arg15.IsWhole)
  (arg16 : Memref sig .tc .vmem S896x128 .f32) (harg16 : arg16.IsWhole) (arg17 : Memref sig .tc .vmem S896x128 .f32) (harg17 : arg17.IsWhole)
  (arg18 : Memref sig .tc .vmem S896x128 .f32) (harg18 : arg18.IsWhole) (arg19 : Memref sig .tc .vmem S256x896 .bf16) (harg19 : arg19.IsWhole)
  (arg20 : Memref sig .tc .vmem S1x7168 .f32) (harg20 : arg20.IsWhole)

/-- The body at abstract memrefs. -/
abbrev body : Prog (TpuEff nD τ sig (Elt F) Λ₀ .tc) PUnit :=
  cc0_infonce_fused (F := F) i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20 harg20

/-- Phase C alone: the reconstruction and the second product, into the gradient of the queries. -/
def runC (h1 : ¬ condInit i) (h2 : ¬ k0_cond2 i = 1#1) (h3 : ¬ condStats i) (h4 : ¬ k0_cond4 i = 1#1) (h9 : ¬ k0_cond9 i = 1#1)
    (h24 : k0_cond24 i = 1#1)
    (x7 : Vec F S1x7168x512 .fp8e4m3) (x14 : Vec F S896x7168 .fp8e5m2) (x20 : Vec F S1x7168 .f32) :
    { L9 : List (View.Piece (Elt F) S1x896x512 .bf16) //
      ∀ (f9 : Buf (Elt F) (arg9.view.loc (c : Thread nD τ))) (K : PUnit → sProp 𝕄),
        iprop(pt c arg7 (harg7.unread x7) ∗ pt c arg14 (harg14.unread x14) ∗ pt c arg20 (harg20.unread x20) ∗ pt c arg9 f9
          ∗ (iprop(pt c arg7 (harg7.unread x7) ∗ pt c arg14 (harg14.unread x14) ∗ pt c arg20 (harg20.unread x20)
              ∗ pt c arg9 (arg9.view.writes (Elt F) f9 L9)) -∗ K ⟨⟩)) ⊢ wp frame (wpE (defs₀ (F := F)) Variants.none c none) Set.univ
          (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun f9 K => ?run⟩
  case run =>
    unfold condInit at h1
    unfold condStats at h3
    unfold body pt
    simp only [cc0_infonce_fused_eq_skeleton]
    unfold cc0_infonce_fused_skel
    iintro ⟨H7, H14, H20, H9, Hk⟩
    sl_exec
    sl_step
    iapply Hk
    isplitl [H7]; · iexact H7
    isplitl [H14]; · iexact H14
    isplitl [H20]; · iexact H20
    iexact H9
/-- The first point of a batch element: the scratch initialised, then phase A. -/
def runI (h1 : condInit i) (h2 : k0_cond2 i = 1#1) (h3 : ¬ condStats i) (h4 : ¬ k0_cond4 i = 1#1) (h9 : ¬ k0_cond9 i = 1#1) (h24 : ¬ k0_cond24 i = 1#1)
    (x2 : Vec F S1x896x2560 .fp8e4m3) (x3 : Vec F S1x896x1 .f32) (x4 : Vec F S1x512x2560 .fp8e4m3) (x5 : Vec F S1x1x7168 .f32) (x13 : Vec F S896x7168 .f32) (x15 : Vec F S896x2560 .bf16) (x16 : Vec F S896x128 .f32) (x17 : Vec F S896x128 .f32) (x18 : Vec F S896x128 .f32) :
    Σ' (g13 : Buf (Elt F) (arg13.view.loc (c : Thread nD τ))) (g15 : Buf (Elt F) (arg15.view.loc (c : Thread nD τ))) (g16 : Buf (Elt F) (arg16.view.loc (c : Thread nD τ))) (g17 : Buf (Elt F) (arg17.view.loc (c : Thread nD τ))),
    { g18 : Buf (Elt F) (arg18.view.loc (c : Thread nD τ)) //
      ∀ (K : PUnit → sProp 𝕄),
        iprop(pt c arg2 (harg2.unread x2) ∗ pt c arg3 (harg3.unread x3) ∗ pt c arg4 (harg4.unread x4) ∗ pt c arg5 (harg5.unread x5) ∗ pt c arg13 (harg13.unread x13) ∗ pt c arg15 (harg15.unread x15) ∗ pt c arg16 (harg16.unread x16) ∗ pt c arg17 (harg17.unread x17) ∗ pt c arg18 (harg18.unread x18)
          ∗ (iprop(pt c arg2 (harg2.unread x2) ∗ pt c arg3 (harg3.unread x3) ∗ pt c arg4 (harg4.unread x4) ∗ pt c arg5 (harg5.unread x5) ∗ pt c arg13 g13 ∗ pt c arg15 g15 ∗ pt c arg16 g16 ∗ pt c arg17 g17 ∗ pt c arg18 g18) -∗ K ⟨⟩))
        ⊢ wp frame (wpE (defs₀ (F := F)) Variants.none c none) Set.univ
          (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun K => ?run⟩
  case run =>
    unfold condInit at h1
    unfold condStats at h3
    unfold body pt
    simp only [cc0_infonce_fused_eq_skeleton]
    unfold cc0_infonce_fused_skel
    iintro ⟨H2, H3, H4, H5, H13, H15, H16, H17, H18, Hk⟩
    sl_exec_parts
    sl_step
    iapply Hk
    isplitl [H2]; · iexact H2
    isplitl [H3]; · iexact H3
    isplitl [H4]; · iexact H4
    isplitl [H5]; · iexact H5
    isplitl [H13]; · iexact H13
    isplitl [H15]; · iexact H15
    isplitl [H16]; · iexact H16
    isplitl [H17]; · iexact H17
    iexact H18

/-- A point of phase A that is neither its first nor its last. -/
def runA (h1 : ¬ condInit i) (h2 : k0_cond2 i = 1#1) (h3 : ¬ condStats i) (h4 : ¬ k0_cond4 i = 1#1) (h9 : ¬ k0_cond9 i = 1#1) (h24 : ¬ k0_cond24 i = 1#1)
    (x2 : Vec F S1x896x2560 .fp8e4m3) (x3 : Vec F S1x896x1 .f32) (x4 : Vec F S1x512x2560 .fp8e4m3) (x5 : Vec F S1x1x7168 .f32) (x13 : Vec F S896x7168 .f32) (x16 : Vec F S896x128 .f32) (x17 : Vec F S896x128 .f32) :
    Σ' (g13 : Buf (Elt F) (arg13.view.loc (c : Thread nD τ))) (g16 : Buf (Elt F) (arg16.view.loc (c : Thread nD τ))),
    { g17 : Buf (Elt F) (arg17.view.loc (c : Thread nD τ)) //
      ∀ (K : PUnit → sProp 𝕄),
        iprop(pt c arg2 (harg2.unread x2) ∗ pt c arg3 (harg3.unread x3) ∗ pt c arg4 (harg4.unread x4) ∗ pt c arg5 (harg5.unread x5) ∗ pt c arg13 (harg13.unread x13) ∗ pt c arg16 (harg16.unread x16) ∗ pt c arg17 (harg17.unread x17)
          ∗ (iprop(pt c arg2 (harg2.unread x2) ∗ pt c arg3 (harg3.unread x3) ∗ pt c arg4 (harg4.unread x4) ∗ pt c arg5 (harg5.unread x5) ∗ pt c arg13 g13 ∗ pt c arg16 g16 ∗ pt c arg17 g17) -∗ K ⟨⟩))
        ⊢ wp frame (wpE (defs₀ (F := F)) Variants.none c none) Set.univ
          (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun K => ?run⟩
  case run =>
    unfold condInit at h1
    unfold condStats at h3
    unfold body pt
    simp only [cc0_infonce_fused_eq_skeleton]
    unfold cc0_infonce_fused_skel
    iintro ⟨H2, H3, H4, H5, H13, H16, H17, Hk⟩
    sl_exec_parts
    sl_step
    iapply Hk
    isplitl [H2]; · iexact H2
    isplitl [H3]; · iexact H3
    isplitl [H4]; · iexact H4
    isplitl [H5]; · iexact H5
    isplitl [H13]; · iexact H13
    isplitl [H16]; · iexact H16
    iexact H17

/-- The last point of phase A, with the row statistics. -/
def runS (h1 : ¬ condInit i) (h2 : k0_cond2 i = 1#1) (h3 : condStats i) (h4 : ¬ k0_cond4 i = 1#1) (h9 : ¬ k0_cond9 i = 1#1) (h24 : ¬ k0_cond24 i = 1#1)
    (x2 : Vec F S1x896x2560 .fp8e4m3) (x3 : Vec F S1x896x1 .f32) (x4 : Vec F S1x512x2560 .fp8e4m3) (x5 : Vec F S1x1x7168 .f32) (x13 : Vec F S896x7168 .f32) (x16 : Vec F S896x128 .f32) (x17 : Vec F S896x128 .f32) :
    Σ' (g13 : Buf (Elt F) (arg13.view.loc (c : Thread nD τ))) (g16 : Buf (Elt F) (arg16.view.loc (c : Thread nD τ))),
    { g17 : Buf (Elt F) (arg17.view.loc (c : Thread nD τ)) //
      ∀ (K : PUnit → sProp 𝕄),
        iprop(pt c arg2 (harg2.unread x2) ∗ pt c arg3 (harg3.unread x3) ∗ pt c arg4 (harg4.unread x4) ∗ pt c arg5 (harg5.unread x5) ∗ pt c arg13 (harg13.unread x13) ∗ pt c arg16 (harg16.unread x16) ∗ pt c arg17 (harg17.unread x17)
          ∗ (iprop(pt c arg2 (harg2.unread x2) ∗ pt c arg3 (harg3.unread x3) ∗ pt c arg4 (harg4.unread x4) ∗ pt c arg5 (harg5.unread x5) ∗ pt c arg13 g13 ∗ pt c arg16 g16 ∗ pt c arg17 g17) -∗ K ⟨⟩))
        ⊢ wp frame (wpE (defs₀ (F := F)) Variants.none c none) Set.univ
          (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun K => ?run⟩
  case run =>
    unfold condInit at h1
    unfold condStats at h3
    unfold body pt
    simp only [cc0_infonce_fused_eq_skeleton]
    unfold cc0_infonce_fused_skel
    iintro ⟨H2, H3, H4, H5, H13, H16, H17, Hk⟩
    sl_exec_parts
    sl_step
    iapply Hk
    isplitl [H2]; · iexact H2
    isplitl [H3]; · iexact H3
    isplitl [H4]; · iexact H4
    isplitl [H5]; · iexact H5
    isplitl [H13]; · iexact H13
    isplitl [H16]; · iexact H16
    iexact H17

end Cert.KernelIdeal.Run
-- ==== Proof.Ideal.RunB.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import proofs.«01_k».proof.Proof.Ideal.Run

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The column offsets the kernel computes at a point of phase B, in closed form over the stripe's first column `cw`. -/
structure Offs (i : grid0.Coords) (cw : ℕ) : Prop where
  e3_0 : k0_off3 i 0#32 = ![0, cw]
  e3_128 : k0_off3 i 128#32 = ![0, cw + 128]
  e4_0 : k0_off4 i 0#32 = ![128, cw]
  e4_128 : k0_off4 i 128#32 = ![128, cw + 128]
  e5_0 : k0_off5 i 0#32 = ![256, cw]
  e5_128 : k0_off5 i 128#32 = ![256, cw + 128]
  e6_0 : k0_off6 i 0#32 = ![384, cw]
  e6_128 : k0_off6 i 128#32 = ![384, cw + 128]
  e7_0 : k0_off7 i 0#32 = ![512, cw]
  e7_128 : k0_off7 i 128#32 = ![512, cw + 128]
  e8_0 : k0_off8 i 0#32 = ![640, cw]
  e8_128 : k0_off8 i 128#32 = ![640, cw + 128]
  e9_0 : k0_off9 i 0#32 = ![768, cw]
  e9_128 : k0_off9 i 128#32 = ![768, cw + 128]
  e12_0 : k0_off12 i 0#32 = ![0, 0, cw]
  e13_0 : k0_off13 i 0#32 = ![0, cw]
  e12_128 : k0_off12 i 128#32 = ![0, 0, cw + 128]
  e13_128 : k0_off13 i 128#32 = ![0, cw + 128]
  e10 : k0_off10 i = ![0, cw]
  e11 : k0_off11 i = ![1, cw]
  e14 : k0_off14 i = ![0, cw + 128]
  e15 : k0_off15 i = ![1, cw + 128]

variable (c : Dev nD) (i : grid0.Coords)
  (arg2 : Memref sig .tc .vmem S1x896x2560 .fp8e4m3) (harg2 : arg2.IsWhole) (arg3 : Memref sig .tc .vmem S1x896x1 .f32) (harg3 : arg3.IsWhole)
  (arg4 : Memref sig .tc .vmem S1x512x2560 .fp8e4m3) (harg4 : arg4.IsWhole) (arg5 : Memref sig .tc .vmem S1x1x7168 .f32) (harg5 : arg5.IsWhole)
  (arg6 : Memref sig .tc .vmem S1x896x1 .i32) (harg6 : arg6.IsWhole) (arg7 : Memref sig .tc .vmem S1x7168x512 .fp8e4m3) (harg7 : arg7.IsWhole)
  (arg8 : Memref sig .tc .vmem S2x896 .f32) (harg8 : arg8.IsWhole) (arg9 : Memref sig .tc .vmem S1x896x512 .bf16) (harg9 : arg9.IsWhole)
  (arg10 : Memref sig .tc .vmem S1x256x2560 .bf16) (harg10 : arg10.IsWhole) (arg11 : Memref sig .tc .vmem S1x896x256 .fp8e5m2) (harg11 : arg11.IsWhole)
  (arg12 : Memref sig .tc .vmem S2x7168 .f32) (harg12 : arg12.IsWhole) (arg13 : Memref sig .tc .vmem S896x7168 .f32) (harg13 : arg13.IsWhole)
  (arg14 : Memref sig .tc .vmem S896x7168 .fp8e5m2) (harg14 : arg14.IsWhole) (arg15 : Memref sig .tc .vmem S896x2560 .bf16) (harg15 : arg15.IsWhole)
  (arg16 : Memref sig .tc .vmem S896x128 .f32) (harg16 : arg16.IsWhole) (arg17 : Memref sig .tc .vmem S896x128 .f32) (harg17 : arg17.IsWhole)
  (arg18 : Memref sig .tc .vmem S896x128 .f32) (harg18 : arg18.IsWhole) (arg19 : Memref sig .tc .vmem S256x896 .bf16) (harg19 : arg19.IsWhole)
  (arg20 : Memref sig .tc .vmem S1x7168 .f32) (harg20 : arg20.IsWhole)

/-- A point of phase B. -/
def runB (h1 : ¬ condInit i) (h2 : ¬ k0_cond2 i = 1#1) (h3 : ¬ condStats i) (h4 : k0_cond4 i = 1#1) (h9 : ¬ k0_cond9 i = 1#1) (h24 : ¬ k0_cond24 i = 1#1)
    (cw : ℕ) (ho : Offs i cw)
    (x5 : Vec F S1x1x7168 .f32) (x6 : Vec F S1x896x1 .i32) (x15 : Vec F S896x2560 .bf16) (x16 : Vec F S896x128 .f32) (x17 : Vec F S896x128 .f32) (x10 : Vec F S1x256x2560 .bf16) (x11 : Vec F S1x896x256 .fp8e5m2) (x12 : Vec F S2x7168 .f32) (x13 : Vec F S896x7168 .f32) (x14 : Vec F S896x7168 .fp8e5m2) (x18 : Vec F S896x128 .f32) (x19 : Vec F S256x896 .bf16) (x20 : Vec F S1x7168 .f32) :
    Σ' (g10 : Buf (Elt F) (arg10.view.loc (c : Thread nD τ))) (g11 : Buf (Elt F) (arg11.view.loc (c : Thread nD τ))) (g12 : Buf (Elt F) (arg12.view.loc (c : Thread nD τ))) (g13 : Buf (Elt F) (arg13.view.loc (c : Thread nD τ))) (g14 : Buf (Elt F) (arg14.view.loc (c : Thread nD τ))) (g18 : Buf (Elt F) (arg18.view.loc (c : Thread nD τ))) (g19 : Buf (Elt F) (arg19.view.loc (c : Thread nD τ))),
    { g20 : Buf (Elt F) (arg20.view.loc (c : Thread nD τ)) //
      ∀ (K : PUnit → sProp 𝕄),
        iprop(pt c arg5 (harg5.unread x5) ∗ pt c arg6 (harg6.unread x6) ∗ pt c arg15 (harg15.unread x15) ∗ pt c arg16 (harg16.unread x16) ∗ pt c arg17 (harg17.unread x17) ∗ pt c arg10 (harg10.unread x10) ∗ pt c arg11 (harg11.unread x11) ∗ pt c arg12 (harg12.unread x12) ∗ pt c arg13 (harg13.unread x13) ∗ pt c arg14 (harg14.unread x14) ∗ pt c arg18 (harg18.unread x18) ∗ pt c arg19 (harg19.unread x19) ∗ pt c arg20 (harg20.unread x20)
          ∗ (iprop(pt c arg5 (harg5.unread x5) ∗ pt c arg6 (harg6.unread x6) ∗ pt c arg15 (harg15.unread x15) ∗ pt c arg16 (harg16.unread x16) ∗ pt c arg17 (harg17.unread x17) ∗ pt c arg10 g10 ∗ pt c arg11 g11 ∗ pt c arg12 g12 ∗ pt c arg13 g13 ∗ pt c arg14 g14 ∗ pt c arg18 g18 ∗ pt c arg19 g19 ∗ pt c arg20 g20) -∗ K ⟨⟩))
        ⊢ wp frame (wpE (defs₀ (F := F)) Variants.none c none) Set.univ
          (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, fun K => ?run⟩
  case run =>
    unfold condInit at h1
    unfold condStats at h3
    unfold body pt
    simp only [cc0_infonce_fused_eq_skeleton]
    unfold cc0_infonce_fused_skel
    letI : ClosedOff (k0_off3 i 0#32) := ⟨![0, cw], ho.e3_0⟩
    letI : ClosedOff (k0_off3 i 128#32) := ⟨![0, cw + 128], ho.e3_128⟩
    letI : ClosedOff (k0_off4 i 0#32) := ⟨![128, cw], ho.e4_0⟩
    letI : ClosedOff (k0_off4 i 128#32) := ⟨![128, cw + 128], ho.e4_128⟩
    letI : ClosedOff (k0_off5 i 0#32) := ⟨![256, cw], ho.e5_0⟩
    letI : ClosedOff (k0_off5 i 128#32) := ⟨![256, cw + 128], ho.e5_128⟩
    letI : ClosedOff (k0_off6 i 0#32) := ⟨![384, cw], ho.e6_0⟩
    letI : ClosedOff (k0_off6 i 128#32) := ⟨![384, cw + 128], ho.e6_128⟩
    letI : ClosedOff (k0_off7 i 0#32) := ⟨![512, cw], ho.e7_0⟩
    letI : ClosedOff (k0_off7 i 128#32) := ⟨![512, cw + 128], ho.e7_128⟩
    letI : ClosedOff (k0_off8 i 0#32) := ⟨![640, cw], ho.e8_0⟩
    letI : ClosedOff (k0_off8 i 128#32) := ⟨![640, cw + 128], ho.e8_128⟩
    letI : ClosedOff (k0_off9 i 0#32) := ⟨![768, cw], ho.e9_0⟩
    letI : ClosedOff (k0_off9 i 128#32) := ⟨![768, cw + 128], ho.e9_128⟩
    letI : ClosedOff (k0_off12 i 0#32) := ⟨![0, 0, cw], ho.e12_0⟩
    letI : ClosedOff (k0_off13 i 0#32) := ⟨![0, cw], ho.e13_0⟩
    letI : ClosedOff (k0_off12 i 128#32) := ⟨![0, 0, cw + 128], ho.e12_128⟩
    letI : ClosedOff (k0_off13 i 128#32) := ⟨![0, cw + 128], ho.e13_128⟩
    letI : ClosedOff (k0_off10 i) := ⟨![0, cw], ho.e10⟩
    letI : ClosedOff (k0_off11 i) := ⟨![1, cw], ho.e11⟩
    letI : ClosedOff (k0_off14 i) := ⟨![0, cw + 128], ho.e14⟩
    letI : ClosedOff (k0_off15 i) := ⟨![1, cw + 128], ho.e15⟩
    iintro ⟨H5, H6, H15, H16, H17, H10, H11, H12, H13, H14, H18, H19, H20, Hk⟩
    sl_exec_parts
    sl_step
    iapply Hk
    isplitl [H5]; · iexact H5
    isplitl [H6]; · iexact H6
    isplitl [H15]; · iexact H15
    isplitl [H16]; · iexact H16
    isplitl [H17]; · iexact H17
    isplitl [H10]; · iexact H10
    isplitl [H11]; · iexact H11
    isplitl [H12]; · iexact H12
    isplitl [H13]; · iexact H13
    isplitl [H14]; · iexact H14
    isplitl [H18]; · iexact H18
    isplitl [H19]; · iexact H19
    iexact H20

end Cert.KernelIdeal.Run
-- ==== Proof.Ideal.RunL.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import proofs.«01_k».proof.Proof.Ideal.Run

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1x896x2560 .fp8e4m3) (harg2 : arg2.IsWhole) (arg3 : Memref sig .tc .vmem S1x896x1 .f32) (harg3 : arg3.IsWhole)
  (arg4 : Memref sig .tc .vmem S1x512x2560 .fp8e4m3) (harg4 : arg4.IsWhole) (arg5 : Memref sig .tc .vmem S1x1x7168 .f32) (harg5 : arg5.IsWhole)
  (arg6 : Memref sig .tc .vmem S1x896x1 .i32) (harg6 : arg6.IsWhole) (arg7 : Memref sig .tc .vmem S1x7168x512 .fp8e4m3) (harg7 : arg7.IsWhole)
  (arg8 : Memref sig .tc .vmem S2x896 .f32) (harg8 : arg8.IsWhole) (arg9 : Memref sig .tc .vmem S1x896x512 .bf16) (harg9 : arg9.IsWhole)
  (arg10 : Memref sig .tc .vmem S1x256x2560 .bf16) (harg10 : arg10.IsWhole) (arg11 : Memref sig .tc .vmem S1x896x256 .fp8e5m2) (harg11 : arg11.IsWhole)
  (arg12 : Memref sig .tc .vmem S2x7168 .f32) (harg12 : arg12.IsWhole) (arg13 : Memref sig .tc .vmem S896x7168 .f32) (harg13 : arg13.IsWhole)
  (arg14 : Memref sig .tc .vmem S896x7168 .fp8e5m2) (harg14 : arg14.IsWhole) (arg15 : Memref sig .tc .vmem S896x2560 .bf16) (harg15 : arg15.IsWhole)
  (arg16 : Memref sig .tc .vmem S896x128 .f32) (harg16 : arg16.IsWhole) (arg17 : Memref sig .tc .vmem S896x128 .f32) (harg17 : arg17.IsWhole)
  (arg18 : Memref sig .tc .vmem S896x128 .f32) (harg18 : arg18.IsWhole) (arg19 : Memref sig .tc .vmem S256x896 .bf16) (harg19 : arg19.IsWhole)
  (arg20 : Memref sig .tc .vmem S1x7168 .f32) (harg20 : arg20.IsWhole)

/-- The first point of phase C, with the loss. -/
def runL (h1 : ¬ condInit i) (h2 : ¬ k0_cond2 i = 1#1) (h3 : ¬ condStats i) (h4 : ¬ k0_cond4 i = 1#1) (h9 : k0_cond9 i = 1#1) (h24 : k0_cond24 i = 1#1)
    (x7 : Vec F S1x7168x512 .fp8e4m3) (x14 : Vec F S896x7168 .fp8e5m2) (x18 : Vec F S896x128 .f32) (x20 : Vec F S1x7168 .f32) (x8 : Vec F S2x896 .f32) (x9 : Vec F S1x896x512 .bf16) :
    Σ' (g8 : Buf (Elt F) (arg8.view.loc (c : Thread nD τ))),
    { g9 : Buf (Elt F) (arg9.view.loc (c : Thread nD τ)) //
      ∀ (K : PUnit → sProp 𝕄),
        iprop(pt c arg7 (harg7.unread x7) ∗ pt c arg14 (harg14.unread x14) ∗ pt c arg18 (harg18.unread x18) ∗ pt c arg20 (harg20.unread x20) ∗ pt c arg8 (harg8.unread x8) ∗ pt c arg9 (harg9.unread x9)
          ∗ (iprop(pt c arg7 (harg7.unread x7) ∗ pt c arg14 (harg14.unread x14) ∗ pt c arg18 (harg18.unread x18) ∗ pt c arg20 (harg20.unread x20) ∗ pt c arg8 g8 ∗ pt c arg9 g9) -∗ K ⟨⟩))
        ⊢ wp frame (wpE (defs₀ (F := F)) Variants.none c none) Set.univ
          (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun K => ?run⟩
  case run =>
    unfold condInit at h1
    unfold condStats at h3
    unfold body pt
    simp only [cc0_infonce_fused_eq_skeleton]
    unfold cc0_infonce_fused_skel
    iintro ⟨H7, H14, H18, H20, H8, H9, Hk⟩
    sl_exec_parts
    sl_step
    iapply Hk
    isplitl [H7]; · iexact H7
    isplitl [H14]; · iexact H14
    isplitl [H18]; · iexact H18
    isplitl [H20]; · iexact H20
    isplitl [H8]; · iexact H8
    iexact H9

end Cert.KernelIdeal.Run
-- ==== Proof.Ideal.Cases.lean ====
module

public import proofs.«01_k».proof.Proof.Ideal.RunB
public import proofs.«01_k».proof.Proof.Ideal.RunL

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! The body's six kinds of grid point, each as a step from the contents of its buffers to their contents afterwards. -/

/-- What the six input windows hold. -/
structure Ins (F : FTy → Type) where
  x2 : Vec F S1x896x2560 .fp8e4m3
  x3 : Vec F S1x896x1 .f32
  x4 : Vec F S1x512x2560 .fp8e4m3
  x5 : Vec F S1x1x7168 .f32
  x6 : Vec F S1x896x1 .i32
  x7 : Vec F S1x7168x512 .fp8e4m3

/-- What the five output windows and the eight scratch buffers hold. -/
structure St (F : FTy → Type) where
  x8 : Vec F S2x896 .f32
  x9 : Vec F S1x896x512 .bf16
  x10 : Vec F S1x256x2560 .bf16
  x11 : Vec F S1x896x256 .fp8e5m2
  x12 : Vec F S2x7168 .f32
  x13 : Vec F S896x7168 .f32
  x14 : Vec F S896x7168 .fp8e5m2
  x15 : Vec F S896x2560 .bf16
  x16 : Vec F S896x128 .f32
  x17 : Vec F S896x128 .f32
  x18 : Vec F S896x128 .f32
  x19 : Vec F S256x896 .bf16
  x20 : Vec F S1x7168 .f32

variable (c : Dev nD) (i : grid0.Coords)
  (arg2 : Memref sig .tc .vmem S1x896x2560 .fp8e4m3) (harg2 : arg2.IsWhole)
  (arg3 : Memref sig .tc .vmem S1x896x1 .f32) (harg3 : arg3.IsWhole)
  (arg4 : Memref sig .tc .vmem S1x512x2560 .fp8e4m3) (harg4 : arg4.IsWhole)
  (arg5 : Memref sig .tc .vmem S1x1x7168 .f32) (harg5 : arg5.IsWhole)
  (arg6 : Memref sig .tc .vmem S1x896x1 .i32) (harg6 : arg6.IsWhole)
  (arg7 : Memref sig .tc .vmem S1x7168x512 .fp8e4m3) (harg7 : arg7.IsWhole)
  (arg8 : Memref sig .tc .vmem S2x896 .f32) (harg8 : arg8.IsWhole)
  (arg9 : Memref sig .tc .vmem S1x896x512 .bf16) (harg9 : arg9.IsWhole)
  (arg10 : Memref sig .tc .vmem S1x256x2560 .bf16) (harg10 : arg10.IsWhole)
  (arg11 : Memref sig .tc .vmem S1x896x256 .fp8e5m2) (harg11 : arg11.IsWhole)
  (arg12 : Memref sig .tc .vmem S2x7168 .f32) (harg12 : arg12.IsWhole)
  (arg13 : Memref sig .tc .vmem S896x7168 .f32) (harg13 : arg13.IsWhole)
  (arg14 : Memref sig .tc .vmem S896x7168 .fp8e5m2) (harg14 : arg14.IsWhole)
  (arg15 : Memref sig .tc .vmem S896x2560 .bf16) (harg15 : arg15.IsWhole)
  (arg16 : Memref sig .tc .vmem S896x128 .f32) (harg16 : arg16.IsWhole)
  (arg17 : Memref sig .tc .vmem S896x128 .f32) (harg17 : arg17.IsWhole)
  (arg18 : Memref sig .tc .vmem S896x128 .f32) (harg18 : arg18.IsWhole)
  (arg19 : Memref sig .tc .vmem S256x896 .bf16) (harg19 : arg19.IsWhole)
  (arg20 : Memref sig .tc .vmem S1x7168 .f32) (harg20 : arg20.IsWhole)

/-- The input windows' buffers at `I`. -/
def insPts (I : Ins F) : sProp 𝕄 := iprop(pt c arg2 (harg2.unread I.x2) ∗ pt c arg3 (harg3.unread I.x3) ∗ pt c arg4 (harg4.unread I.x4) ∗ pt c arg5 (harg5.unread I.x5) ∗ pt c arg6 (harg6.unread I.x6) ∗ pt c arg7 (harg7.unread I.x7))
/-- The output windows' buffers at `s`. -/
def outPts (s : St F) : sProp 𝕄 := iprop(pt c arg8 (harg8.unread s.x8) ∗ pt c arg9 (harg9.unread s.x9) ∗ pt c arg10 (harg10.unread s.x10) ∗ pt c arg11 (harg11.unread s.x11) ∗ pt c arg12 (harg12.unread s.x12))
/-- The scratch buffers at `s`. -/
def scPts (s : St F) : sProp 𝕄 := iprop(pt c arg13 (harg13.unread s.x13) ∗ pt c arg14 (harg14.unread s.x14) ∗ pt c arg15 (harg15.unread s.x15) ∗ pt c arg16 (harg16.unread s.x16) ∗ pt c arg17 (harg17.unread s.x17) ∗ pt c arg18 (harg18.unread s.x18) ∗ pt c arg19 (harg19.unread s.x19) ∗ pt c arg20 (harg20.unread s.x20))

/-- The first point of a batch element. The contents afterwards. -/
def nextI (h1 : condInit i) (h2 : k0_cond2 i = 1#1) (h3 : ¬ condStats i) (h4 : ¬ k0_cond4 i = 1#1) (h9 : ¬ k0_cond9 i = 1#1) (h24 : ¬ k0_cond24 i = 1#1) (I : Ins F) (s : St F) : St F :=
  { s with
    x13 := arg13.view.read (Elt F) ((runI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x15 s.x16 s.x17 s.x18).1),
    x15 := arg15.view.read (Elt F) ((runI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x15 s.x16 s.x17 s.x18).2.1),
    x16 := arg16.view.read (Elt F) ((runI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x15 s.x16 s.x17 s.x18).2.2.1),
    x17 := arg17.view.read (Elt F) ((runI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x15 s.x16 s.x17 s.x18).2.2.2.1),
    x18 := arg18.view.read (Elt F) ((runI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x15 s.x16 s.x17 s.x18).2.2.2.2.1) }

/-- The first point of a batch element. The run. -/
theorem tripleI (h1 : condInit i) (h2 : k0_cond2 i = 1#1) (h3 : ¬ condStats i) (h4 : ¬ k0_cond4 i = 1#1) (h9 : ¬ k0_cond9 i = 1#1) (h24 : ¬ k0_cond24 i = 1#1) (I : Ins F) (s : St F) :
    iprop(insPts c arg2 harg2 arg3 harg3 arg4 harg4 arg5 harg5 arg6 harg6 arg7 harg7 I ∗ outPts c arg8 harg8 arg9 harg9 arg10 harg10 arg11 harg11 arg12 harg12 s ∗ scPts c arg13 harg13 arg14 harg14 arg15 harg15 arg16 harg16 arg17 harg17 arg18 harg18 arg19 harg19 arg20 harg20 s)
      ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        fun _ => iprop(insPts c arg2 harg2 arg3 harg3 arg4 harg4 arg5 harg5 arg6 harg6 arg7 harg7 I ∗ outPts c arg8 harg8 arg9 harg9 arg10 harg10 arg11 harg11 arg12 harg12 (nextI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s) ∗ scPts c arg13 harg13 arg14 harg14 arg15 harg15 arg16 harg16 arg17 harg17 arg18 harg18 arg19 harg19 arg20 harg20 (nextI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s)) := by
  unfold insPts outPts scPts nextI
  simp only [Memref.IsWhole.unread_read]
  iintro ⟨⟨H2, H3, H4, H5, H6, H7⟩, ⟨H8, H9, H10, H11, H12⟩, H13, H14, H15, H16, H17, H18, H19, H20⟩
  iapply (runI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x15 s.x16 s.x17 s.x18).2.2.2.2.2
  isplitl [H2]; · iexact H2
  isplitl [H3]; · iexact H3
  isplitl [H4]; · iexact H4
  isplitl [H5]; · iexact H5
  isplitl [H13]; · iexact H13
  isplitl [H15]; · iexact H15
  isplitl [H16]; · iexact H16
  isplitl [H17]; · iexact H17
  isplitl [H18]; · iexact H18
  iintro ⟨H2, H3, H4, H5, H13, H15, H16, H17, H18⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- A point of phase A that is neither its first nor its last. The contents afterwards. -/
def nextA (h1 : ¬ condInit i) (h2 : k0_cond2 i = 1#1) (h3 : ¬ condStats i) (h4 : ¬ k0_cond4 i = 1#1) (h9 : ¬ k0_cond9 i = 1#1) (h24 : ¬ k0_cond24 i = 1#1) (I : Ins F) (s : St F) : St F :=
  { s with
    x13 := arg13.view.read (Elt F) ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).1),
    x16 := arg16.view.read (Elt F) ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).2.1),
    x17 := arg17.view.read (Elt F) ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).2.2.1) }

/-- A point of phase A that is neither its first nor its last. The run. -/
theorem tripleA (h1 : ¬ condInit i) (h2 : k0_cond2 i = 1#1) (h3 : ¬ condStats i) (h4 : ¬ k0_cond4 i = 1#1) (h9 : ¬ k0_cond9 i = 1#1) (h24 : ¬ k0_cond24 i = 1#1) (I : Ins F) (s : St F) :
    iprop(insPts c arg2 harg2 arg3 harg3 arg4 harg4 arg5 harg5 arg6 harg6 arg7 harg7 I ∗ outPts c arg8 harg8 arg9 harg9 arg10 harg10 arg11 harg11 arg12 harg12 s ∗ scPts c arg13 harg13 arg14 harg14 arg15 harg15 arg16 harg16 arg17 harg17 arg18 harg18 arg19 harg19 arg20 harg20 s)
      ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        fun _ => iprop(insPts c arg2 harg2 arg3 harg3 arg4 harg4 arg5 harg5 arg6 harg6 arg7 harg7 I ∗ outPts c arg8 harg8 arg9 harg9 arg10 harg10 arg11 harg11 arg12 harg12 (nextA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s) ∗ scPts c arg13 harg13 arg14 harg14 arg15 harg15 arg16 harg16 arg17 harg17 arg18 harg18 arg19 harg19 arg20 harg20 (nextA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s)) := by
  unfold insPts outPts scPts nextA
  simp only [Memref.IsWhole.unread_read]
  iintro ⟨⟨H2, H3, H4, H5, H6, H7⟩, ⟨H8, H9, H10, H11, H12⟩, H13, H14, H15, H16, H17, H18, H19, H20⟩
  iapply (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).2.2.2
  isplitl [H2]; · iexact H2
  isplitl [H3]; · iexact H3
  isplitl [H4]; · iexact H4
  isplitl [H5]; · iexact H5
  isplitl [H13]; · iexact H13
  isplitl [H16]; · iexact H16
  isplitl [H17]; · iexact H17
  iintro ⟨H2, H3, H4, H5, H13, H16, H17⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The last point of phase A. The contents afterwards. -/
def nextS (h1 : ¬ condInit i) (h2 : k0_cond2 i = 1#1) (h3 : condStats i) (h4 : ¬ k0_cond4 i = 1#1) (h9 : ¬ k0_cond9 i = 1#1) (h24 : ¬ k0_cond24 i = 1#1) (I : Ins F) (s : St F) : St F :=
  { s with
    x13 := arg13.view.read (Elt F) ((runS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).1),
    x16 := arg16.view.read (Elt F) ((runS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).2.1),
    x17 := arg17.view.read (Elt F) ((runS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).2.2.1) }

/-- The last point of phase A. The run. -/
theorem tripleS (h1 : ¬ condInit i) (h2 : k0_cond2 i = 1#1) (h3 : condStats i) (h4 : ¬ k0_cond4 i = 1#1) (h9 : ¬ k0_cond9 i = 1#1) (h24 : ¬ k0_cond24 i = 1#1) (I : Ins F) (s : St F) :
    iprop(insPts c arg2 harg2 arg3 harg3 arg4 harg4 arg5 harg5 arg6 harg6 arg7 harg7 I ∗ outPts c arg8 harg8 arg9 harg9 arg10 harg10 arg11 harg11 arg12 harg12 s ∗ scPts c arg13 harg13 arg14 harg14 arg15 harg15 arg16 harg16 arg17 harg17 arg18 harg18 arg19 harg19 arg20 harg20 s)
      ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        fun _ => iprop(insPts c arg2 harg2 arg3 harg3 arg4 harg4 arg5 harg5 arg6 harg6 arg7 harg7 I ∗ outPts c arg8 harg8 arg9 harg9 arg10 harg10 arg11 harg11 arg12 harg12 (nextS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s) ∗ scPts c arg13 harg13 arg14 harg14 arg15 harg15 arg16 harg16 arg17 harg17 arg18 harg18 arg19 harg19 arg20 harg20 (nextS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s)) := by
  unfold insPts outPts scPts nextS
  simp only [Memref.IsWhole.unread_read]
  iintro ⟨⟨H2, H3, H4, H5, H6, H7⟩, ⟨H8, H9, H10, H11, H12⟩, H13, H14, H15, H16, H17, H18, H19, H20⟩
  iapply (runS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x2 I.x3 I.x4 I.x5 s.x13 s.x16 s.x17).2.2.2
  isplitl [H2]; · iexact H2
  isplitl [H3]; · iexact H3
  isplitl [H4]; · iexact H4
  isplitl [H5]; · iexact H5
  isplitl [H13]; · iexact H13
  isplitl [H16]; · iexact H16
  isplitl [H17]; · iexact H17
  iintro ⟨H2, H3, H4, H5, H13, H16, H17⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- A point of phase B. The contents afterwards. -/
def nextB (h1 : ¬ condInit i) (h2 : ¬ k0_cond2 i = 1#1) (h3 : ¬ condStats i) (h4 : k0_cond4 i = 1#1) (h9 : ¬ k0_cond9 i = 1#1) (h24 : ¬ k0_cond24 i = 1#1) (cw : ℕ) (ho : Offs i cw) (I : Ins F) (s : St F) : St F :=
  { s with
    x10 := arg10.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).1),
    x11 := arg11.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.1),
    x12 := arg12.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.1),
    x13 := arg13.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.2.1),
    x14 := arg14.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.2.2.1),
    x18 := arg18.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.2.2.2.1),
    x19 := arg19.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.2.2.2.2.1),
    x20 := arg20.view.read (Elt F) ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.2.2.2.2.2.1) }

/-- A point of phase B. The run. -/
theorem tripleB (h1 : ¬ condInit i) (h2 : ¬ k0_cond2 i = 1#1) (h3 : ¬ condStats i) (h4 : k0_cond4 i = 1#1) (h9 : ¬ k0_cond9 i = 1#1) (h24 : ¬ k0_cond24 i = 1#1) (cw : ℕ) (ho : Offs i cw) (I : Ins F) (s : St F) :
    iprop(insPts c arg2 harg2 arg3 harg3 arg4 harg4 arg5 harg5 arg6 harg6 arg7 harg7 I ∗ outPts c arg8 harg8 arg9 harg9 arg10 harg10 arg11 harg11 arg12 harg12 s ∗ scPts c arg13 harg13 arg14 harg14 arg15 harg15 arg16 harg16 arg17 harg17 arg18 harg18 arg19 harg19 arg20 harg20 s)
      ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        fun _ => iprop(insPts c arg2 harg2 arg3 harg3 arg4 harg4 arg5 harg5 arg6 harg6 arg7 harg7 I ∗ outPts c arg8 harg8 arg9 harg9 arg10 harg10 arg11 harg11 arg12 harg12 (nextB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I s) ∗ scPts c arg13 harg13 arg14 harg14 arg15 harg15 arg16 harg16 arg17 harg17 arg18 harg18 arg19 harg19 arg20 harg20 (nextB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I s)) := by
  unfold insPts outPts scPts nextB
  simp only [Memref.IsWhole.unread_read]
  iintro ⟨⟨H2, H3, H4, H5, H6, H7⟩, ⟨H8, H9, H10, H11, H12⟩, H13, H14, H15, H16, H17, H18, H19, H20⟩
  iapply (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I.x5 I.x6 s.x15 s.x16 s.x17 s.x10 s.x11 s.x12 s.x13 s.x14 s.x18 s.x19 s.x20).2.2.2.2.2.2.2.2
  isplitl [H5]; · iexact H5
  isplitl [H6]; · iexact H6
  isplitl [H15]; · iexact H15
  isplitl [H16]; · iexact H16
  isplitl [H17]; · iexact H17
  isplitl [H10]; · iexact H10
  isplitl [H11]; · iexact H11
  isplitl [H12]; · iexact H12
  isplitl [H13]; · iexact H13
  isplitl [H14]; · iexact H14
  isplitl [H18]; · iexact H18
  isplitl [H19]; · iexact H19
  isplitl [H20]; · iexact H20
  iintro ⟨H5, H6, H15, H16, H17, H10, H11, H12, H13, H14, H18, H19, H20⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The first point of phase C. The contents afterwards. -/
def nextL (h1 : ¬ condInit i) (h2 : ¬ k0_cond2 i = 1#1) (h3 : ¬ condStats i) (h4 : ¬ k0_cond4 i = 1#1) (h9 : k0_cond9 i = 1#1) (h24 : k0_cond24 i = 1#1) (I : Ins F) (s : St F) : St F :=
  { s with
    x8 := arg8.view.read (Elt F) ((runL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x7 s.x14 s.x18 s.x20 s.x8 s.x9).1),
    x9 := arg9.view.read (Elt F) ((runL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x7 s.x14 s.x18 s.x20 s.x8 s.x9).2.1) }

/-- The first point of phase C. The run. -/
theorem tripleL (h1 : ¬ condInit i) (h2 : ¬ k0_cond2 i = 1#1) (h3 : ¬ condStats i) (h4 : ¬ k0_cond4 i = 1#1) (h9 : k0_cond9 i = 1#1) (h24 : k0_cond24 i = 1#1) (I : Ins F) (s : St F) :
    iprop(insPts c arg2 harg2 arg3 harg3 arg4 harg4 arg5 harg5 arg6 harg6 arg7 harg7 I ∗ outPts c arg8 harg8 arg9 harg9 arg10 harg10 arg11 harg11 arg12 harg12 s ∗ scPts c arg13 harg13 arg14 harg14 arg15 harg15 arg16 harg16 arg17 harg17 arg18 harg18 arg19 harg19 arg20 harg20 s)
      ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        fun _ => iprop(insPts c arg2 harg2 arg3 harg3 arg4 harg4 arg5 harg5 arg6 harg6 arg7 harg7 I ∗ outPts c arg8 harg8 arg9 harg9 arg10 harg10 arg11 harg11 arg12 harg12 (nextL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s) ∗ scPts c arg13 harg13 arg14 harg14 arg15 harg15 arg16 harg16 arg17 harg17 arg18 harg18 arg19 harg19 arg20 harg20 (nextL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s)) := by
  unfold insPts outPts scPts nextL
  simp only [Memref.IsWhole.unread_read]
  iintro ⟨⟨H2, H3, H4, H5, H6, H7⟩, ⟨H8, H9, H10, H11, H12⟩, H13, H14, H15, H16, H17, H18, H19, H20⟩
  iapply (runL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x7 s.x14 s.x18 s.x20 s.x8 s.x9).2.2
  isplitl [H7]; · iexact H7
  isplitl [H14]; · iexact H14
  isplitl [H18]; · iexact H18
  isplitl [H20]; · iexact H20
  isplitl [H8]; · iexact H8
  isplitl [H9]; · iexact H9
  iintro ⟨H7, H14, H18, H20, H8, H9⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- A later point of phase C. The contents afterwards. -/
def nextC (h1 : ¬ condInit i) (h2 : ¬ k0_cond2 i = 1#1) (h3 : ¬ condStats i) (h4 : ¬ k0_cond4 i = 1#1) (h9 : ¬ k0_cond9 i = 1#1) (h24 : k0_cond24 i = 1#1) (I : Ins F) (s : St F) : St F :=
  { s with
    x9 := arg9.view.read (Elt F) (arg9.view.writes (Elt F) (harg9.unread s.x9) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x7 s.x14 s.x20).1) }

/-- A later point of phase C. The run. -/
theorem tripleC (h1 : ¬ condInit i) (h2 : ¬ k0_cond2 i = 1#1) (h3 : ¬ condStats i) (h4 : ¬ k0_cond4 i = 1#1) (h9 : ¬ k0_cond9 i = 1#1) (h24 : k0_cond24 i = 1#1) (I : Ins F) (s : St F) :
    iprop(insPts c arg2 harg2 arg3 harg3 arg4 harg4 arg5 harg5 arg6 harg6 arg7 harg7 I ∗ outPts c arg8 harg8 arg9 harg9 arg10 harg10 arg11 harg11 arg12 harg12 s ∗ scPts c arg13 harg13 arg14 harg14 arg15 harg15 arg16 harg16 arg17 harg17 arg18 harg18 arg19 harg19 arg20 harg20 s)
      ⊢ wp frame (wpE (defs₀ (F := F)) Variants.none c none) Set.univ (body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        fun _ => iprop(insPts c arg2 harg2 arg3 harg3 arg4 harg4 arg5 harg5 arg6 harg6 arg7 harg7 I ∗ outPts c arg8 harg8 arg9 harg9 arg10 harg10 arg11 harg11 arg12 harg12 (nextC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s) ∗ scPts c arg13 harg13 arg14 harg14 arg15 harg15 arg16 harg16 arg17 harg17 arg18 harg18 arg19 harg19 arg20 harg20 (nextC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s)) := by
  unfold insPts outPts scPts nextC
  simp only [Memref.IsWhole.unread_read]
  iintro ⟨⟨H2, H3, H4, H5, H6, H7⟩, ⟨H8, H9, H10, H11, H12⟩, H13, H14, H15, H16, H17, H18, H19, H20⟩
  iapply (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I.x7 s.x14 s.x20).2
  isplitl [H7]; · iexact H7
  isplitl [H14]; · iexact H14
  isplitl [H20]; · iexact H20
  isplitl [H9]; · iexact H9
  iintro ⟨H7, H14, H20, H9⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

end Cert.KernelIdeal.Run
-- ==== Proof.Ideal.Points.lean ====
module

public import proofs.«01_k».proof.Proof.Ideal.RunB

@[expose] public section

set_option maxRecDepth 16384

noncomputable section

namespace Cert.KernelIdeal.Run

open Cert.KernelIdeal Cert.KernelIdeal.Gen
open Idealize.ShloMosaic Idealize.ShloMosaic.TcCoe

/-! The region conditions and the column offsets at a grid point, from the point's place `t % 47` in its batch element. -/

instance (i : grid0.Coords) : Decidable (condInit i) := by unfold condInit; infer_instance
instance (i : grid0.Coords) : Decidable (condStats i) := by unfold condStats; infer_instance

theorem condInit_iff : ∀ t : Fin grid0.N, condInit (grid0.coords t) ↔ t.val % 47 = 0 := by decide +kernel
theorem condStats_iff : ∀ t : Fin grid0.N, condStats (grid0.coords t) ↔ t.val % 47 = 13 := by decide +kernel
theorem cond2_iff : ∀ t : Fin grid0.N, k0_cond2 (grid0.coords t) = 1#1 ↔ t.val % 47 < 14 := by decide +kernel
theorem cond4_iff : ∀ t : Fin grid0.N, k0_cond4 (grid0.coords t) = 1#1 ↔ 14 ≤ t.val % 47 ∧ t.val % 47 < 42 := by decide +kernel
theorem cond9_iff : ∀ t : Fin grid0.N, k0_cond9 (grid0.coords t) = 1#1 ↔ t.val % 47 = 42 := by decide +kernel
theorem cond24_iff : ∀ t : Fin grid0.N, k0_cond24 (grid0.coords t) = 1#1 ↔ 42 ≤ t.val % 47 := by decide +kernel

/-- The offsets of a stripe of phase B. -/
theorem offs (t : Fin grid0.N) (h : 14 ≤ t.val % 47 ∧ t.val % 47 < 42) : Offs (grid0.coords t) (256 * (t.val % 47 - 14)) := by
  constructor <;> revert t <;> decide +kernel

end Cert.KernelIdeal.Run
-- ==== Proof.Ideal.Launch.lean ====
module

public import proofs.«01_k».proof.Proof.Ideal.Cases
public import proofs.«01_k».proof.Proof.Ideal.Points

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (UR sig nD τ) ℕ

variable (c : Dev nD)

/-! The body at each grid point as a step of contents (`next`), and the launch over any invariant the steps keep. -/

/-- `nextI` at grid point `t`. -/
def atI (t : Fin cfg0.N) (h : t.val % 47 = 0) (I : Ins F) (s : St F) : St F :=
  nextI c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) ((condInit_iff t).2 (by omega)) ((cond2_iff t).2 (by omega)) (fun e => absurd ((condStats_iff t).1 e) (by omega)) (fun e => absurd ((cond4_iff t).1 e) (by omega)) (fun e => absurd ((cond9_iff t).1 e) (by omega)) (fun e => absurd ((cond24_iff t).1 e) (by omega)) I s

/-- `nextA` at grid point `t`. -/
def atA (t : Fin cfg0.N) (h : 0 < t.val % 47 ∧ t.val % 47 < 13) (I : Ins F) (s : St F) : St F :=
  nextA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) ((cond2_iff t).2 (by omega)) (fun e => absurd ((condStats_iff t).1 e) (by omega)) (fun e => absurd ((cond4_iff t).1 e) (by omega)) (fun e => absurd ((cond9_iff t).1 e) (by omega)) (fun e => absurd ((cond24_iff t).1 e) (by omega)) I s

/-- `nextS` at grid point `t`. -/
def atS (t : Fin cfg0.N) (h : t.val % 47 = 13) (I : Ins F) (s : St F) : St F :=
  nextS c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) ((cond2_iff t).2 (by omega)) ((condStats_iff t).2 (by omega)) (fun e => absurd ((cond4_iff t).1 e) (by omega)) (fun e => absurd ((cond9_iff t).1 e) (by omega)) (fun e => absurd ((cond24_iff t).1 e) (by omega)) I s

/-- `nextB` at grid point `t`. -/
def atB (t : Fin cfg0.N) (h : 14 ≤ t.val % 47 ∧ t.val % 47 < 42) (I : Ins F) (s : St F) : St F :=
  nextB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) (fun e => absurd ((cond2_iff t).1 e) (by omega)) (fun e => absurd ((condStats_iff t).1 e) (by omega)) ((cond4_iff t).2 (by omega)) (fun e => absurd ((cond9_iff t).1 e) (by omega)) (fun e => absurd ((cond24_iff t).1 e) (by omega)) (256 * (t.val % 47 - 14)) (offs t h) I s

/-- `nextL` at grid point `t`. -/
def atL (t : Fin cfg0.N) (h : t.val % 47 = 42) (I : Ins F) (s : St F) : St F :=
  nextL c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) (fun e => absurd ((cond2_iff t).1 e) (by omega)) (fun e => absurd ((condStats_iff t).1 e) (by omega)) (fun e => absurd ((cond4_iff t).1 e) (by omega)) ((cond9_iff t).2 (by omega)) ((cond24_iff t).2 (by omega)) I s

/-- `nextC` at grid point `t`. -/
def atC (t : Fin cfg0.N) (h : 42 < t.val % 47) (I : Ins F) (s : St F) : St F :=
  nextC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) (fun e => absurd ((cond2_iff t).1 e) (by omega)) (fun e => absurd ((condStats_iff t).1 e) (by omega)) (fun e => absurd ((cond4_iff t).1 e) (by omega)) (fun e => absurd ((cond9_iff t).1 e) (by omega)) ((cond24_iff t).2 (by omega)) I s

/-- The contents after the body at grid point `t`. -/
def next (t : Fin cfg0.N) (I : Ins F) (s : St F) : St F :=
  if h : t.val % 47 = 0 then atI c t h I s
  else if h : t.val % 47 = 13 then atS c t h I s
  else if h : 14 ≤ t.val % 47 ∧ t.val % 47 < 42 then atB c t h I s
  else if h : t.val % 47 = 42 then atL c t h I s
  else if h : 42 < t.val % 47 then atC c t h I s
  else if h : 0 < t.val % 47 ∧ t.val % 47 < 13 then atA c t h I s else s

/-- The input windows' current staging buffers at `t`. -/
def insAt (t : Fin cfg0.N) (I : Ins F) : sProp 𝕄 := insPts c (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) I
/-- The output windows' current staging buffers at `t`. -/
def outAt (t : Fin cfg0.N) (s : St F) : sProp 𝕄 := outPts c (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) s
/-- The scratch buffers. -/
def scr (s : St F) : sProp 𝕄 := scPts c (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) s

/-- The body at a grid point. -/
theorem triple (t : Fin cfg0.N) (I : Ins F) (s : St F) :
    iprop(insAt c t I ∗ outAt c t s ∗ scr c s)
      ⊢ wp frame (wpE (defs₀ (F := F)) Variants.none c none) Set.univ (bodyAt0 t)
        fun _ => iprop(insAt c t I ∗ outAt c t (next c t I s) ∗ scr c (next c t I s)) := by
  unfold next
  split
  · next h => exact tripleI c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) ((condInit_iff t).2 (by omega)) ((cond2_iff t).2 (by omega)) (fun e => absurd ((condStats_iff t).1 e) (by omega)) (fun e => absurd ((cond4_iff t).1 e) (by omega)) (fun e => absurd ((cond9_iff t).1 e) (by omega)) (fun e => absurd ((cond24_iff t).1 e) (by omega)) I s
  split
  · next h => exact tripleS c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) ((cond2_iff t).2 (by omega)) ((condStats_iff t).2 (by omega)) (fun e => absurd ((cond4_iff t).1 e) (by omega)) (fun e => absurd ((cond9_iff t).1 e) (by omega)) (fun e => absurd ((cond24_iff t).1 e) (by omega)) I s
  split
  · next h => exact tripleB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) (fun e => absurd ((cond2_iff t).1 e) (by omega)) (fun e => absurd ((condStats_iff t).1 e) (by omega)) ((cond4_iff t).2 (by omega)) (fun e => absurd ((cond9_iff t).1 e) (by omega)) (fun e => absurd ((cond24_iff t).1 e) (by omega)) (256 * (t.val % 47 - 14)) (offs t h) I s
  split
  · next h => exact tripleL c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) (fun e => absurd ((cond2_iff t).1 e) (by omega)) (fun e => absurd ((condStats_iff t).1 e) (by omega)) (fun e => absurd ((cond4_iff t).1 e) (by omega)) ((cond9_iff t).2 (by omega)) ((cond24_iff t).2 (by omega)) I s
  split
  · next h => exact tripleC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) (fun e => absurd ((cond2_iff t).1 e) (by omega)) (fun e => absurd ((condStats_iff t).1 e) (by omega)) (fun e => absurd ((cond4_iff t).1 e) (by omega)) (fun e => absurd ((cond9_iff t).1 e) (by omega)) ((cond24_iff t).2 (by omega)) I s
  split
  · next h => exact tripleA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (fun e => absurd ((condInit_iff t).1 e) (by omega)) ((cond2_iff t).2 (by omega)) (fun e => absurd ((condStats_iff t).1 e) (by omega)) (fun e => absurd ((cond4_iff t).1 e) (by omega)) (fun e => absurd ((cond9_iff t).1 e) (by omega)) (fun e => absurd ((cond24_iff t).1 e) (by omega)) I s
  · exfalso; omega

/-- A whole buffer owned at what it reads is the buffer at the contents that read so. -/
theorem owns_eq_pt {sp : Space} {S : Shape} {e : EltTy} (M : Memref sig .tc sp S e) (h : M.IsWhole) (X : S.Idx → Elt F e) :
    (owns (c : Thread nD τ) M fullShare X : sProp 𝕄) = pt c M (h.unread X) := by
  unfold owns pt
  have h₁ : (iprop(∃ f, ⌜M.view.read (Elt F) f = X⌝ ∗ (M.view.loc (c : Thread nD τ) ↦[M.view.set]{fullShare} f)) : sProp 𝕄)
      ⊢ M.view.loc (c : Thread nD τ) ↦{fullShare} h.unread X := by
    rw [h.set_eq_univ]
    iintro ⟨%f, %hf, H⟩
    rw [h.eq_unread hf]
    iexact H
  have h₂ : (M.view.loc (c : Thread nD τ) ↦{fullShare} h.unread X : sProp 𝕄)
      ⊢ iprop(∃ f, ⌜M.view.read (Elt F) f = X⌝ ∗ (M.view.loc (c : Thread nD τ) ↦[M.view.set]{fullShare} f)) := by
    rw [h.set_eq_univ]
    iintro H
    iexists _
    isplitr
    swap
    · iexact H
    ipureintro
    exact h.read_unread X
  exact BI.equiv_iff.mp ⟨h₁, h₂⟩

theorem insAt_owns (t : Fin cfg0.N) (I : Ins F) :
    insAt c t I = (iprop(owns (c : Thread nD τ) (win0_0.stage (cfg0.slots t 0)) fullShare I.x2 ∗ owns (c : Thread nD τ) (win0_1.stage (cfg0.slots t 1)) fullShare I.x3 ∗ owns (c : Thread nD τ) (win0_2.stage (cfg0.slots t 2)) fullShare I.x4 ∗ owns (c : Thread nD τ) (win0_3.stage (cfg0.slots t 3)) fullShare I.x5 ∗ owns (c : Thread nD τ) (win0_4.stage (cfg0.slots t 4)) fullShare I.x6 ∗ owns (c : Thread nD τ) (win0_5.stage (cfg0.slots t 5)) fullShare I.x7) : sProp 𝕄) := by
  unfold insAt insPts
  rw [owns_eq_pt c (win0_0.stage (cfg0.slots t 0)) (hstage0_0 ((cfg0.slots t 0).cast nbuf0_0)) I.x2, owns_eq_pt c (win0_1.stage (cfg0.slots t 1)) (hstage0_1 ((cfg0.slots t 1).cast nbuf0_1)) I.x3, owns_eq_pt c (win0_2.stage (cfg0.slots t 2)) (hstage0_2 ((cfg0.slots t 2).cast nbuf0_2)) I.x4, owns_eq_pt c (win0_3.stage (cfg0.slots t 3)) (hstage0_3 ((cfg0.slots t 3).cast nbuf0_3)) I.x5, owns_eq_pt c (win0_4.stage (cfg0.slots t 4)) (hstage0_4 ((cfg0.slots t 4).cast nbuf0_4)) I.x6, owns_eq_pt c (win0_5.stage (cfg0.slots t 5)) (hstage0_5 ((cfg0.slots t 5).cast nbuf0_5)) I.x7]

theorem outAt_owns (t : Fin cfg0.N) (s : St F) :
    outAt c t s = (iprop(owns (c : Thread nD τ) (win0_6.stage (cfg0.slots t 6)) fullShare s.x8 ∗ owns (c : Thread nD τ) (win0_7.stage (cfg0.slots t 7)) fullShare s.x9 ∗ owns (c : Thread nD τ) (win0_8.stage (cfg0.slots t 8)) fullShare s.x10 ∗ owns (c : Thread nD τ) (win0_9.stage (cfg0.slots t 9)) fullShare s.x11 ∗ owns (c : Thread nD τ) (win0_10.stage (cfg0.slots t 10)) fullShare s.x12) : sProp 𝕄) := by
  unfold outAt outPts
  rw [owns_eq_pt c (win0_6.stage (cfg0.slots t 6)) (hstage0_6 ((cfg0.slots t 6).cast nbuf0_6)) s.x8, owns_eq_pt c (win0_7.stage (cfg0.slots t 7)) (hstage0_7 ((cfg0.slots t 7).cast nbuf0_7)) s.x9, owns_eq_pt c (win0_8.stage (cfg0.slots t 8)) (hstage0_8 ((cfg0.slots t 8).cast nbuf0_8)) s.x10, owns_eq_pt c (win0_9.stage (cfg0.slots t 9)) (hstage0_9 ((cfg0.slots t 9).cast nbuf0_9)) s.x11, owns_eq_pt c (win0_10.stage (cfg0.slots t 10)) (hstage0_10 ((cfg0.slots t 10).cast nbuf0_10)) s.x12]

/-- The input windows' contents out of all the windows'. -/
def insOf (Y : (w : Fin cfg0.W) → (cfg0.win w).block.Idx → Elt F (cfg0.win w).elt) : Ins F :=
  ⟨Y 0, Y 1, Y 2, Y 3, Y 4, Y 5⟩
/-- The state whose output windows are as in `Y` and whose scratch is `s`'s. -/
def outsOf (Y : (w : Fin cfg0.W) → (cfg0.win w).block.Idx → Elt F (cfg0.win w).elt) (s : St F) : St F :=
  ⟨Y 6, Y 7, Y 8, Y 9, Y 10, s.x13, s.x14, s.x15, s.x16, s.x17, s.x18, s.x19, s.x20⟩
/-- All the windows' contents from the inputs' and the outputs'. -/
def pack (I : Ins F) (s : St F) : (w : Fin cfg0.W) → (cfg0.win w).block.Idx → Elt F (cfg0.win w).elt
  | ⟨0, _⟩ => I.x2 | ⟨1, _⟩ => I.x3 | ⟨2, _⟩ => I.x4 | ⟨3, _⟩ => I.x5 | ⟨4, _⟩ => I.x6 | ⟨5, _⟩ => I.x7
  | ⟨6, _⟩ => s.x8 | ⟨7, _⟩ => s.x9 | ⟨8, _⟩ => s.x10 | ⟨9, _⟩ => s.x11 | ⟨10, _⟩ => s.x12
  | ⟨n + 11, h⟩ => absurd h (by intro h; exact absurd (show n + 11 < 11 from h) (by omega))

variable (m : (ℓ : Loc nD τ sig) → Buf (Elt F) ℓ) (ρ : Dev nD → PrngReg)

/-- The invariant between grid points: the scratch at contents satisfying `Inv`, the generator register at some state. -/
def Phi (Inv : ℕ → St F → Prop) (n : ℕ) : sProp 𝕄 :=
  iprop((∃ s : St F, ⌜Inv n s⌝ ∗ scr c s) ∗ ∃ r, prngReg c r)

/-- The proof data over an invariant `Inv` of the scratch and a relation `aft` of what the body leaves in each window. -/
def rdat (Inv : Dev nD → ℕ → St F → Prop)
    (aft : Dev nD → (w : Fin cfg0.W) → Fin cfg0.N → (Y X : (cfg0.win w).block.Idx → Elt F (cfg0.win w).elt) → Prop)
    (c : Dev nD) : RDat τ (Elt F) Unit ℕ (UR sig nD τ) ℕ cfg0 c where
  A w := V m c (Pipeline.arrRef spec0 w)
  after w t Y X := aft c w t Y X
  Φ t := Phi c (Inv c) t.val
  q w := Pipeline.shareOf spec0 w
  owed _ := 0

theorem ΦA_eq : (Pipeline.ΦA spec0 c : sProp 𝕄)
    ⊣⊢ Phi c (fun _ _ => True) 0 := by
  unfold Pipeline.ΦA Phi scr scPts
  rw [scopedRest0_eq]
  constructor
  · iintro ⟨⟨⟨%f0, H0⟩, ⟨%f1, H1⟩, ⟨%f2, H2⟩, ⟨%f3, H3⟩, ⟨%f4, H4⟩, ⟨%f5, H5⟩, ⟨%f6, H6⟩, ⟨%f7, H7⟩⟩, Hg⟩
    isplitr [Hg]; swap; · iexact Hg
    iexists (⟨fun _ => (Scalar.ofBits .f32 0 : F .f32), fun _ => (Scalar.ofBits .bf16 0 : F .bf16), fun _ => (Scalar.ofBits .bf16 0 : F .bf16), fun _ => (Scalar.ofBits .fp8e5m2 0 : F .fp8e5m2), fun _ => (Scalar.ofBits .f32 0 : F .f32), f0, f1, f2, f3, f4, f5, f6, f7⟩ : St F)
    isplitr; · ipureintro; trivial
    isplitl [H0]; · rw [← owns_eq_pt c (Memref.whole cc0_scratch0) (Memref.isWhole_whole _), owns_whole]; iexact H0
    isplitl [H1]; · rw [← owns_eq_pt c (Memref.whole cc0_scratch1) (Memref.isWhole_whole _), owns_whole]; iexact H1
    isplitl [H2]; · rw [← owns_eq_pt c (Memref.whole cc0_scratch2) (Memref.isWhole_whole _), owns_whole]; iexact H2
    isplitl [H3]; · rw [← owns_eq_pt c (Memref.whole cc0_scratch3) (Memref.isWhole_whole _), owns_whole]; iexact H3
    isplitl [H4]; · rw [← owns_eq_pt c (Memref.whole cc0_scratch4) (Memref.isWhole_whole _), owns_whole]; iexact H4
    isplitl [H5]; · rw [← owns_eq_pt c (Memref.whole cc0_scratch5) (Memref.isWhole_whole _), owns_whole]; iexact H5
    isplitl [H6]; · rw [← owns_eq_pt c (Memref.whole cc0_scratch6) (Memref.isWhole_whole _), owns_whole]; iexact H6
    rw [← owns_eq_pt c (Memref.whole cc0_scratch7) (Memref.isWhole_whole _), owns_whole]; iexact H7
  · iintro ⟨⟨%s, -, H0, H1, H2, H3, H4, H5, H6, H7⟩, Hg⟩
    isplitr [Hg]; swap; · iexact Hg
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexists _; iexact H7

theorem Phi_mono {P Q : ℕ → St F → Prop} {n k : ℕ} (h : ∀ s, P n s → Q k s) : (Phi c P n : sProp 𝕄) ⊢ Phi c Q k := by
  unfold Phi
  iintro ⟨⟨%s, %hs, H⟩, Hg⟩
  isplitr [Hg]; swap; · iexact Hg
  iexists s
  isplitr; · ipureintro; exact h s hs
  iexact H

/-- The body table's row at a grid point. -/
theorem defs₀_row (t : Fin cfg0.N) : defs₀ (F := F) .tc cfg0.body (cfg0.bodyArgs t (cfg0.slots t)) = bodyAt0 t := by
  unfold defs₀; rw [Defs.onTc_tc]

/-- The body obligation, from what one step keeps. -/
theorem obligation (Inv : Dev nD → ℕ → St F → Prop)
    (aft : Dev nD → (w : Fin cfg0.W) → Fin cfg0.N → (Y X : (cfg0.win w).block.Idx → Elt F (cfg0.win w).elt) → Prop)
    (hstep : ∀ (c : Dev nD) (t : Fin cfg0.N) (Y : (w : Fin cfg0.W) → (cfg0.win w).block.Idx → Elt F (cfg0.win w).elt) (s : St F),
      (∀ w, (rdat m Inv aft c).Finds w t (Y w)) → Inv c t.val s →
        Inv c (t.val + 1) (next c t (insOf Y) (outsOf Y s)) ∧ ∀ w, aft c w t (Y w) (pack (insOf Y) (next c t (insOf Y) (outsOf Y s)) w))
    (c : Dev nD) : (rdat m Inv aft c).BodyObligation (defs₀ (F := F)) Variants.none () Set.univ := fun t Y hY => by
  rw [bigSep_W0, bigSep_W0, defs₀_row]
  rw [show (rdat m Inv aft c).Φ t.succ = Phi c (Inv c) (t.val + 1) from rfl,
    show (rdat m Inv aft c).Φ t.castSucc = Phi c (Inv c) t.val from rfl,
    show (rdat m Inv aft c).owesAt () t.succ = (rdat m Inv aft c).owesAt () t.castSucc from rfl]
  have key : ∀ s : St F, Inv c t.val s →
      iprop((scr c s ∗ (∃ r, prngReg c r)) ∗ (rdat m Inv aft c).owesAt () t.castSucc ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9) ∗ owns (c : Thread nD τ) ((cfg0.win 10).stage (cfg0.slots t 10)) fullShare (Y 10))
      ⊢ wp frame (wpE (defs₀ (F := F)) Variants.none c none) Set.univ (bodyAt0 t) fun _ =>
          iprop(Phi c (Inv c) (t.val + 1) ∗ (rdat m Inv aft c).owesAt () t.castSucc ∗ (∃ X, ⌜(rdat m Inv aft c).after 0 t (Y 0) X⌝ ∗ owns (c : Thread nD τ) ((cfg0.win 0).stage (cfg0.slots t 0)) fullShare X) ∗ (∃ X, ⌜(rdat m Inv aft c).after 1 t (Y 1) X⌝ ∗ owns (c : Thread nD τ) ((cfg0.win 1).stage (cfg0.slots t 1)) fullShare X) ∗ (∃ X, ⌜(rdat m Inv aft c).after 2 t (Y 2) X⌝ ∗ owns (c : Thread nD τ) ((cfg0.win 2).stage (cfg0.slots t 2)) fullShare X) ∗ (∃ X, ⌜(rdat m Inv aft c).after 3 t (Y 3) X⌝ ∗ owns (c : Thread nD τ) ((cfg0.win 3).stage (cfg0.slots t 3)) fullShare X) ∗ (∃ X, ⌜(rdat m Inv aft c).after 4 t (Y 4) X⌝ ∗ owns (c : Thread nD τ) ((cfg0.win 4).stage (cfg0.slots t 4)) fullShare X) ∗ (∃ X, ⌜(rdat m Inv aft c).after 5 t (Y 5) X⌝ ∗ owns (c : Thread nD τ) ((cfg0.win 5).stage (cfg0.slots t 5)) fullShare X) ∗ (∃ X, ⌜(rdat m Inv aft c).after 6 t (Y 6) X⌝ ∗ owns (c : Thread nD τ) ((cfg0.win 6).stage (cfg0.slots t 6)) fullShare X) ∗ (∃ X, ⌜(rdat m Inv aft c).after 7 t (Y 7) X⌝ ∗ owns (c : Thread nD τ) ((cfg0.win 7).stage (cfg0.slots t 7)) fullShare X) ∗ (∃ X, ⌜(rdat m Inv aft c).after 8 t (Y 8) X⌝ ∗ owns (c : Thread nD τ) ((cfg0.win 8).stage (cfg0.slots t 8)) fullShare X) ∗ (∃ X, ⌜(rdat m Inv aft c).after 9 t (Y 9) X⌝ ∗ owns (c : Thread nD τ) ((cfg0.win 9).stage (cfg0.slots t 9)) fullShare X) ∗ (∃ X, ⌜(rdat m Inv aft c).after 10 t (Y 10) X⌝ ∗ owns (c : Thread nD τ) ((cfg0.win 10).stage (cfg0.slots t 10)) fullShare X)) := fun s hs => by
    obtain ⟨hI, hA⟩ := hstep c t Y s hY hs
    have ht : iprop((insAt c t (insOf Y) ∗ outAt c t (outsOf Y s) ∗ scr c (outsOf Y s)) ∗ ((∃ r, prngReg c r) ∗ (rdat m Inv aft c).owesAt () t.castSucc))
        ⊢ wp frame (wpE (defs₀ (F := F)) Variants.none c none) Set.univ (bodyAt0 t) fun _ =>
          iprop((insAt c t (insOf Y) ∗ outAt c t (next c t (insOf Y) (outsOf Y s)) ∗ scr c (next c t (insOf Y) (outsOf Y s)))
            ∗ ((∃ r, prngReg c r) ∗ (rdat m Inv aft c).owesAt () t.castSucc)) :=
      (BI.sep_mono_l (triple c t (insOf Y) (outsOf Y s))).trans (wp_frame_r _ _ _)
    refine triple_restated ht rfl ?_ fun _ => ?_
    · iintro ⟨⟨HS, Hg⟩, HO, H0, H1, H2, H3, H4, H5, H6, H7, H8, H9, H10⟩
      isplitr [Hg HO]
      · isplitr [H6 H7 H8 H9 H10 HS]
        · rw [insAt_owns]
          isplitl [H0]; · iexact H0
          isplitl [H1]; · iexact H1
          isplitl [H2]; · iexact H2
          isplitl [H3]; · iexact H3
          isplitl [H4]; · iexact H4
          iexact H5
        isplitr [HS]
        · rw [outAt_owns]
          isplitl [H6]; · iexact H6
          isplitl [H7]; · iexact H7
          isplitl [H8]; · iexact H8
          isplitl [H9]; · iexact H9
          iexact H10
        iexact HS
      isplitl [Hg]; · iexact Hg
      iexact HO
    · rw [insAt_owns, outAt_owns]
      iintro ⟨⟨⟨H0, H1, H2, H3, H4, H5⟩, ⟨H6, H7, H8, H9, H10⟩, HS⟩, Hg, HO⟩
      isplitl [HS Hg]
      · unfold Phi
        isplitr [Hg]; swap; · iexact Hg
        iexists _
        isplitr; · ipureintro; exact hI
        iexact HS
      isplitl [HO]; · iexact HO
      isplitl [H0]
      · iexists (pack (insOf Y) (next c t (insOf Y) (outsOf Y s)) 0)
        isplitr; · ipureintro; exact hA 0
        iexact H0
      isplitl [H1]
      · iexists (pack (insOf Y) (next c t (insOf Y) (outsOf Y s)) 1)
        isplitr; · ipureintro; exact hA 1
        iexact H1
      isplitl [H2]
      · iexists (pack (insOf Y) (next c t (insOf Y) (outsOf Y s)) 2)
        isplitr; · ipureintro; exact hA 2
        iexact H2
      isplitl [H3]
      · iexists (pack (insOf Y) (next c t (insOf Y) (outsOf Y s)) 3)
        isplitr; · ipureintro; exact hA 3
        iexact H3
      isplitl [H4]
      · iexists (pack (insOf Y) (next c t (insOf Y) (outsOf Y s)) 4)
        isplitr; · ipureintro; exact hA 4
        iexact H4
      isplitl [H5]
      · iexists (pack (insOf Y) (next c t (insOf Y) (outsOf Y s)) 5)
        isplitr; · ipureintro; exact hA 5
        iexact H5
      isplitl [H6]
      · iexists (pack (insOf Y) (next c t (insOf Y) (outsOf Y s)) 6)
        isplitr; · ipureintro; exact hA 6
        iexact H6
      isplitl [H7]
      · iexists (pack (insOf Y) (next c t (insOf Y) (outsOf Y s)) 7)
        isplitr; · ipureintro; exact hA 7
        iexact H7
      isplitl [H8]
      · iexists (pack (insOf Y) (next c t (insOf Y) (outsOf Y s)) 8)
        isplitr; · ipureintro; exact hA 8
        iexact H8
      isplitl [H9]
      · iexists (pack (insOf Y) (next c t (insOf Y) (outsOf Y s)) 9)
        isplitr; · ipureintro; exact hA 9
        iexact H9
      iexists (pack (insOf Y) (next c t (insOf Y) (outsOf Y s)) 10)
      isplitr; · ipureintro; exact hA 10
      iexact H10
  unfold Phi
  iintro ⟨⟨⟨%s, %hs, HS⟩, Hg⟩, HO, H⟩
  iapply (key s hs)
  isplitl [HS Hg]
  · isplitl [HS]; · iexact HS
    iexact Hg
  isplitl [HO]; · iexact HO
  iexact H

theorem Phi_end {P : ℕ → St F → Prop} {n : ℕ} : (Phi c P n : sProp 𝕄) ⊢ Pipeline.ΦA spec0 c :=
  (Phi_mono c fun _ _ => trivial).trans (ΦA_eq c).2

set_option backward.isDefEq.respectTransparency.types false in
/-- The launch: every fair execution ends, at the arrays the steps' relations describe, every argument kept, every counter at zero. -/
theorem run_main (Inv : Dev nD → ℕ → St F → Prop)
    (aft : Dev nD → (w : Fin cfg0.W) → Fin cfg0.N → (Y X : (cfg0.win w).block.Idx → Elt F (cfg0.win w).elt) → Prop)
    (h0 : ∀ c s, Inv c 0 s)
    (hstep : ∀ (c : Dev nD) (t : Fin cfg0.N) (Y : (w : Fin cfg0.W) → (cfg0.win w).block.Idx → Elt F (cfg0.win w).elt) (s : St F),
      (∀ w, (rdat m Inv aft c).Finds w t (Y w)) → Inv c t.val s →
        Inv c (t.val + 1) (next c t (insOf Y) (outsOf Y s)) ∧ ∀ w, aft c w t (Y w) (pack (insOf Y) (next c t (insOf Y) (outsOf Y s)) w)) :
    θ_run defs (onTc (τ := τ) (main (F := F))) (s₀ m ρ)
      (fun r => RDat.FramePost cfg0 (rdat m Inv aft) (V m) r ∧ r.2.sem = fun _ => 0) :=
  RDat.θ_run_frame_track_shared (Q' := _) cfgs (0 : Fin 1) launch₀0 defs₀ Variants.none (rdat m Inv aft) m ρ main
    (hbody := obligation m Inv aft hstep) (hq := fun _ _ _ => rfl)
    (howed := fun _ _ => rfl) (V := V m) (hmain := hmain m Variants.none) (hA := fun _ _ => rfl)
    (hin := fun c => (ΦA_eq c).1.trans (Phi_mono c fun s _ => h0 c s)) (hout := fun c => Phi_end c)

/-- The arguments after a run: each as at launch. -/
theorem args_kept (Inv : Dev nD → ℕ → St F → Prop)
    (aft : Dev nD → (w : Fin cfg0.W) → Fin cfg0.N → (Y X : (cfg0.win w).block.Idx → Elt F (cfg0.win w).elt) → Prop)
    {r : PUnit × MemSt nD τ sig (Elt F)} (h : RDat.FramePost cfg0 (rdat m Inv aft) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.arr_in c 0 rfl).trans (V_main_arg0 m c),
    ((h c).2 main_arg1 (Pipeline.mem_restRefs_of main_arg1 (by decide) (by decide))).trans (V_main_arg1 m c),
    (h.arr_in c 5 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: nothing said of the results. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨args_kept m _ _ h.1, h.2⟩)
    (run_main m ρ (fun _ _ _ => True) (fun _ _ _ _ _ => True) (fun _ _ => trivial) fun _ _ _ _ _ _ => ⟨trivial, fun _ => trivial⟩)

end Cert.KernelIdeal.Run
-- ==== Proof.Spec.lean ====
module

public import Idealize.ShloMosaic.Lib.Pointwise

@[expose] public section

noncomputable section

/-! What the kernel computes, element by element, as functions of the five arguments over the extended reals. Both
    the reference and the kernel are shown equal to these. -/

namespace Cert.Spec

open Idealize.ShloMosaic

/-- The arguments, read at natural indices: query codes and scales, passage codes and scales, each query's label. -/
structure Inp where
  q : Fin 2 → Fin 896 → Fin 2560 → EReal
  qs : Fin 2 → Fin 896 → EReal
  p : Fin 2 → Fin 7168 → Fin 2560 → EReal
  ps : Fin 2 → Fin 7168 → EReal
  pos : Fin 2 → Fin 896 → BitVec 32

/-- 20, the inverse temperature. -/
def tau : EReal := Scalar.ofBits (F := Ideal) .f32 0x41A00000#32
def one : EReal := Scalar.ofBits (F := Ideal) .f32 0x3F800000#32
def ninf : EReal := Scalar.ofBits (F := Ideal) .f32 0xFF800000#32
def pinf : EReal := Scalar.ofBits (F := Ideal) .f32 0x7F800000#32
/-- 2^-126, the smallest normal number. -/
def tiny : EReal := Scalar.ofBits (F := Ideal) .f32 0x00800000#32
/-- 1/57344 as a single-precision number. -/
def recMax : EReal := Scalar.ofBits (F := Ideal) .f32 0x37924925#32
def hi : EReal := Scalar.ofBits (F := Ideal) .f32 0x47600000#32
def lo : EReal := Scalar.ofBits (F := Ideal) .f32 0xC7600000#32
def absv (x : EReal) : EReal := FloatOps.absf (F := Ideal) (φ := .f32) x

/-- The power of two `2^(j-125)`. -/
def pw (j : Fin 126) : EReal :=
  FloatOps.exp2 (F := Ideal) (φ := .f32) (FloatOps.sitofp (F := Ideal) .f32 (IntOp.subi (BitVec.ofNat 32 j.val) 125#32))

/-- The scale of a column whose largest magnitude over 57344 is `y`. -/
def scaleOf (y : EReal) : EReal :=
  if y < tiny then one else Finset.univ.fold min pinf fun j : Fin 126 => if y < pw j then pw j else pinf

variable (P : Inp) (b : Fin 2)

def X (r : Fin 896) (k : Fin 7168) : EReal := (∑ d, P.q b r d * P.p b k d) * (P.qs b r * P.ps b k) * tau
def M (r : Fin 896) : EReal := Finset.univ.fold max ninf (X P b r)
def L (r : Fin 896) : EReal := Ideal.log (∑ k, Ideal.exp (X P b r k - M P b r))
def logp (r : Fin 896) (k : Fin 7168) : EReal := X P b r k - M P b r - L P b r
def hit (r : Fin 896) (k : Fin 7168) : Prop := BitVec.ofNat 32 k.val = P.pos b r
instance (r : Fin 896) (k : Fin 7168) : Decidable (hit P b r k) := inferInstanceAs (Decidable (_ = _))
def dl (r : Fin 896) (k : Fin 7168) : EReal := Ideal.exp (logp P b r k) - if hit P b r k then one else 0
def y (k : Fin 7168) : EReal := (Finset.univ.fold max ninf fun r => absv (dl P b r k)) * recMax
def scale (k : Fin 7168) : EReal := scaleOf (y P b k)
def code (r : Fin 896) (k : Fin 7168) : EReal := min hi (max lo (dl P b r k * Ideal.div one (scale P b k)))
def loss (r : Fin 896) : EReal := 0 - ∑ k, if hit P b r k then logp P b r k else 0
def dq (r : Fin 896) (d : Fin 2560) : EReal := (∑ k, code P b r k * scale P b k * (P.p b k d * P.ps b k)) * tau
def dp (k : Fin 7168) (d : Fin 2560) : EReal := (∑ r, code P b r k * (P.q b r d * P.qs b r)) * (scale P b k * tau)

end Cert.Spec

end
-- ==== Proof.Ref.lean ====
module

public import proofs.«01_k».proof.Proof.Gen.ReferenceIdeal.Value
public import proofs.«01_k».proof.Proof.Spec

@[expose] public section

set_option maxRecDepth 16384

noncomputable section

/-! The reference's five results at an index are the specification's. -/

namespace Cert.ReferenceIdeal.Value

open Cert.ReferenceIdeal Cert.ReferenceIdeal.Gen Idealize.ShloMosaic Cert

/-- The reference's arguments as the specification's. -/
def inp (a0 : Vec Ideal S2x896x2560 .fp8e4m3) (a1 : Vec Ideal S2x896 .f32) (a2 : Vec Ideal S2x7168x2560 .fp8e4m3)
    (a3 : Vec Ideal S2x7168 .f32) (a4 : Vec Ideal S2x896 .i32) : Spec.Inp where
  q b r d := a0 (ix3 b r d)
  qs b r := a1 (ix2 b r)
  p b k d := a2 (ix3 b k d)
  ps b k := a3 (ix2 b k)
  pos b r := a4 (ix2 b r)

section pieces

theorem broadcast_div (o : Ideal .f32) (y : FVec Ideal S2x1x7168 .f32) (b : Fin 2) (r : Fin 896) (k : Fin 7168) :
    broadcastTo S2x896x7168 (divf (broadcast S2x1x7168 o) y) broadcasts_S2x1x7168_S2x896x7168 (ix3 b r k)
      = Ideal.div o (y (ix3 b 0 k)) := by
  pointwise

theorem least_apply (y : FVec Ideal S2x126x7168 .f32) (b : Fin 2) (k : Fin 7168) :
    shapeCast S2x1x7168 (multiReduction .minimumf [1] S2x7168 y 0x7F800000#32 reduces_S2x126x7168_S2x7168 (.inl rfl) rfl)
        shapeCasts_S2x7168_S2x1x7168 (ix3 b 0 k)
      = Finset.univ.fold min Spec.pinf fun j => y (ix3 b j k) := by
  unfold Spec.pinf
  pointwise

theorem above_apply (y : FVec Ideal S2x1x7168 .f32) (p : FVec Ideal S1x126x1 .f32) (o : Ideal .f32) (b : Fin 2)
    (j : Fin 126) (k : Fin 7168) :
    select (cmpf .ogt (broadcastTo S2x126x7168 p broadcasts_S1x126x1_S2x126x7168)
          (broadcastTo S2x126x7168 y broadcasts_S2x1x7168_S2x126x7168))
        (broadcastTo S2x126x7168 (shapeCast S1x126x1 p shapeCasts_S1x126x1_S1x126x1) broadcasts_S1x126x1_S2x126x7168)
        (broadcast S2x126x7168 o) (ix3 b j k)
      = if y (ix3 b 0 k) < p (ix3 0 j 0) then p (ix3 0 j 0) else o := by
  pointwise

theorem powers_apply (j : Fin 126) :
    (exp2 (sitofp .f32 (subi (iota .tc S1x126x1 32 [1] iota_S1x126x1_d1_w32) (broadcast S1x126x1 125#32))) :
        FVec Ideal S1x126x1 .f32) (ix3 0 j 0) = Spec.pw j := by
  unfold Spec.pw
  pointwise

theorem largest_apply (v : FVec Ideal S2x896x7168 .f32) (b : Fin 2) (k : Fin 7168) :
    shapeCast S2x1x7168 (multiReduction .maximumf [1] S2x7168 (absf v) 0xFF800000#32 reduces_S2x896x7168_S2x7168 (.inl rfl) rfl)
        shapeCasts_S2x7168_S2x1x7168 (ix3 b 0 k)
      = Finset.univ.fold max Spec.ninf fun r => Spec.absv (v (ix3 b r k)) := by
  unfold Spec.absv Spec.ninf
  pointwise

/-- The quantiser's choice between two columns of values. -/
theorem choose_apply (y t o l : FVec Ideal S2x1x7168 .f32) (b : Fin 2) (k : Fin 7168) :
    select (cmpf .olt y t) o l (ix3 b 0 k)
      = if y (ix3 b 0 k) < t (ix3 b 0 k) then o (ix3 b 0 k) else l (ix3 b 0 k) := by
  pointwise

theorem mul_at {S : Shape} (x y : FVec Ideal S .f32) (i : S.Idx) : mulf x y i = (x i * y i : EReal) := rfl

theorem const_at {S : Shape} (x : Ideal .f32) (i : S.Idx) : broadcast S x i = x := rfl

/-- The clipping of a product. -/
theorem clip_at {S : Shape} (x y : FVec Ideal S .f32) (l h : Ideal .f32) (i : S.Idx) (hb) :
    truncf .fp8e5m2 (minimumf (broadcast S h) (maximumf (broadcast S l) (mulf x y))) hb i = min h (max l (x i * y i) : EReal) := rfl

end pieces

variable (a0 : Vec Ideal S2x896x2560 .fp8e4m3) (a1 : Vec Ideal S2x896 .f32) (a2 : Vec Ideal S2x7168x2560 .fp8e4m3)
  (a3 : Vec Ideal S2x7168 .f32) (a4 : Vec Ideal S2x896 .i32)

theorem logp_apply (b : Fin 2) (r : Fin 896) (k : Fin 7168) :
    k0_pay4 (F := Ideal) a0 a2 a1 a3 (ix3 b r k) = Spec.logp (inp a0 a1 a2 a3 a4) b r k := by
  pointwise [k0_pay4, k0_pay3]
  rfl

theorem hit_apply (b : Fin 2) (r : Fin 896) (k : Fin 7168) :
    k0_pay5 (F := Ideal) a4 (ix3 b r k) = if Spec.hit (inp a0 a1 a2 a3 a4) b r k then 1#1 else 0#1 := by
  pointwise [k0_pay5]
  have hb : ∀ x y : BitVec 32, IntOp.cmpi .eq x y = if x = y then 1#1 else 0#1 := by
    intro x y
    by_cases h : x = y
    · subst h; simp [IntOp.cmpi]
    · rw [if_neg h]; unfold IntOp.cmpi; simp only; rw [beq_false_of_ne h]; rfl
  exact hb _ _

theorem select_hit {α : Type} (p : Prop) [Decidable p] (x y : α) : Scalar.select (if p then 1#1 else 0#1) x y = if p then x else y := by
  by_cases h : p <;> simp [h, Scalar.select]

theorem sub_select (c : IVec S2x896x7168 1) (z : Ideal .f32) (v w : FVec Ideal S2x896x7168 .f32) (b : Fin 2) (r : Fin 896) (k : Fin 7168) :
    k0_pay9 (F := Ideal) c v z w (ix3 b r k) = (v (ix3 b r k) : EReal) - Scalar.select (c (ix3 b r k)) (w (ix3 b r k)) z := by
  pointwise [k0_pay9]

/-- The gradient of the logits, the reference's value read by the quantiser. -/
theorem dl_apply (b : Fin 2) (r : Fin 896) (k : Fin 7168) :
    k0_pay9 (k0_pay15 a0 a1 a2 a3 a4) (k0_pay16 a0 a1 a2 a3 a4) (Scalar.ofBits .f32 0x00000000#32) (k0_pay17 a0 a1 a2 a3 a4) (ix3 b r k)
      = Spec.dl (inp a0 a1 a2 a3 a4) b r k := by
  have h15 : k0_pay15 a0 a1 a2 a3 a4 (ix3 b r k) = if Spec.hit (inp a0 a1 a2 a3 a4) b r k then 1#1 else 0#1 := by
    unfold k0_pay15; rw [View.ld_unit_zero (S := S2x896) hz4 _ a4]; exact hit_apply a0 a1 a2 a3 a4 b r k
  have h16 : k0_pay16 a0 a1 a2 a3 a4 (ix3 b r k) = Ideal.exp (Spec.logp (inp a0 a1 a2 a3 a4) b r k) := by
    unfold k0_pay16
    rw [View.ld_unit_zero (S := S2x896x2560) hz0 _ a0, View.ld_unit_zero (S := S2x7168x2560) hz2 _ a2,
      View.ld_unit_zero (S := S2x896) hz1 _ a1, View.ld_unit_zero (S := S2x7168) hz3 _ a3]
    unfold k0_pay7
    exact congrArg Ideal.exp (logp_apply a0 a1 a2 a3 a4 b r k)
  have h17 : k0_pay17 a0 a1 a2 a3 a4 (ix3 b r k) = Spec.one := rfl
  rw [sub_select, h15, h16, h17, select_hit]
  have hz : (Scalar.ofBits (F := Ideal) .f32 0x00000000#32 : EReal) = 0 := Ideal.ofBits_zero_f32
  rw [hz]
  rfl

section quantiser

variable (c : IVec S2x896x7168 1) (z : Ideal .f32) (v w : FVec Ideal S2x896x7168 .f32)

/-- The column maxima over 57344. -/
def maxima (x : FVec Ideal S2x896x7168 .f32) : FVec Ideal S2x1x7168 .f32 :=
  mulf (shapeCast S2x1x7168 (multiReduction .maximumf [1] S2x7168 (absf x) 0xFF800000#32 reduces_S2x896x7168_S2x7168 (.inl rfl) rfl)
      shapeCasts_S2x7168_S2x1x7168)
    (broadcast S2x1x7168 (Scalar.ofBits (F := Ideal) .f32 0x37924925#32))

/-- The powers of two, in a column. -/
def powers : FVec Ideal S1x126x1 .f32 :=
  exp2 (sitofp .f32 (subi (iota .tc S1x126x1 32 [1] iota_S1x126x1_d1_w32) (broadcast S1x126x1 125#32)))

/-- The power of two above the maximum, the infinity where a power is not. -/
def above (y : FVec Ideal S2x1x7168 .f32) : FVec Ideal S2x126x7168 .f32 :=
  select (cmpf .ogt (broadcastTo S2x126x7168 powers broadcasts_S1x126x1_S2x126x7168)
      (broadcastTo S2x126x7168 y broadcasts_S2x1x7168_S2x126x7168))
    (broadcastTo S2x126x7168 (shapeCast S1x126x1 powers shapeCasts_S1x126x1_S1x126x1) broadcasts_S1x126x1_S2x126x7168)
    (broadcast S2x126x7168 (Scalar.ofBits (F := Ideal) .f32 0x7F800000#32))

/-- The scales from the maxima. -/
def scales (y : FVec Ideal S2x1x7168 .f32) : FVec Ideal S2x1x7168 .f32 :=
  select (cmpf .olt y (broadcast S2x1x7168 (Scalar.ofBits (F := Ideal) .f32 0x00800000#32)))
    (broadcast S2x1x7168 (Scalar.ofBits (F := Ideal) .f32 0x3F800000#32))
    (shapeCast S2x1x7168 (multiReduction .minimumf [1] S2x7168 (above y) 0x7F800000#32 reduces_S2x126x7168_S2x7168 (.inl rfl) rfl)
      shapeCasts_S2x7168_S2x1x7168)

theorem scales_eq : k0_pay10 (F := Ideal) c v z w = scales (maxima (k0_pay9 (F := Ideal) c v z w)) := by
  unfold k0_pay10 scales above maxima powers
  rfl

theorem maxima_apply (x : FVec Ideal S2x896x7168 .f32) (b : Fin 2) (k : Fin 7168) :
    maxima x (ix3 b 0 k) = (Finset.univ.fold max Spec.ninf fun r => Spec.absv (x (ix3 b r k))) * Spec.recMax := by
  unfold maxima Spec.recMax
  rw [mul_at, largest_apply, const_at]

theorem powersAt (j : Fin 126) : powers (ix3 0 j 0) = Spec.pw j := by
  unfold powers
  exact powers_apply j

theorem aboveAt (y : FVec Ideal S2x1x7168 .f32) (b : Fin 2) (j : Fin 126) (k : Fin 7168) :
    above y (ix3 b j k) = if y (ix3 b 0 k) < Spec.pw j then Spec.pw j else Spec.pinf := by
  unfold above Spec.pinf
  rw [above_apply, powersAt]

theorem scales_apply (y : FVec Ideal S2x1x7168 .f32) (b : Fin 2) (k : Fin 7168) :
    scales y (ix3 b 0 k) = Spec.scaleOf (y (ix3 b 0 k)) := by
  unfold scales
  rw [choose_apply, least_apply, const_at, const_at]
  simp only [aboveAt]
  unfold Spec.scaleOf Spec.tiny Spec.one
  with_reducible rfl

theorem scale_apply (b : Fin 2) (k : Fin 7168) :
    k0_pay10 (F := Ideal) c v z w (ix3 b 0 k)
      = Spec.scaleOf ((Finset.univ.fold max Spec.ninf fun r => Spec.absv (k0_pay9 (F := Ideal) c v z w (ix3 b r k))) * Spec.recMax) := by
  rw [scales_eq, scales_apply, maxima_apply]

theorem code_apply (b : Fin 2) (r : Fin 896) (k : Fin 7168) :
    k0_pay11 (F := Ideal) c v z w (ix3 b r k)
      = min Spec.hi (max Spec.lo (k0_pay9 (F := Ideal) c v z w (ix3 b r k) * Ideal.div Spec.one (k0_pay10 (F := Ideal) c v z w (ix3 b 0 k)))) := by
  unfold k0_pay11 Spec.one Spec.hi Spec.lo
  rw [clip_at, broadcast_div]

theorem row_apply (y : FVec Ideal S2x1x7168 .f32) (b : Fin 2) (k : Fin 7168) :
    shapeCast S2x7168 y shapeCasts_S2x1x7168_S2x7168 (ix2 b k) = y (ix3 b 0 k) := by
  pointwise

theorem scaled_apply (b : Fin 2) (r : Fin 896) (k : Fin 7168) :
    k0_pay13 (F := Ideal) c v z w (ix3 b r k) = (k0_pay11 (F := Ideal) c v z w (ix3 b r k) * k0_pay10 (F := Ideal) c v z w (ix3 b 0 k) : EReal) := by
  pointwise [k0_pay13]

end quantiser

theorem grad_q_apply (v77 : FVec Ideal S2x896x7168 .bf16) (v78 : FVec Ideal S2x7168x2560 .bf16) (b : Fin 2) (r : Fin 896) (d : Fin 2560) :
    k0_pay1 (F := Ideal) a3 v77 v78 (ix3 b r d) = (∑ k, v77 (ix3 b r k) * (v78 (ix3 b k d) * a3 (ix2 b k)) : EReal) * Spec.tau := by
  unfold Spec.tau
  pointwise [k0_pay1]

theorem grad_p_apply (v3 : FVec Ideal S2x896x1 .f32) (v61 : FVec Ideal S2x1x7168 .f32) (v70 : FVec Ideal S2x896x7168 .fp8e5m2)
    (b : Fin 2) (k : Fin 7168) (d : Fin 2560) :
    k0_pay2 (F := Ideal) a0 v3 v61 v70 (ix3 b k d)
      = (∑ r, v70 (ix3 b r k) * (a0 (ix3 b r d) * v3 (ix3 b r 0)) : EReal) * (v61 (ix3 b 0 k) * Spec.tau) := by
  unfold Spec.tau
  pointwise [k0_pay2]

theorem col_apply (b : Fin 2) (r : Fin 896) : k0_pay3 (F := Ideal) a1 (ix3 b r 0) = a1 (ix2 b r) := by
  pointwise [k0_pay3]

theorem loss_sum_apply (c : IVec S2x896x7168 1) (v : FVec Ideal S2x896x7168 .f32) (b : Fin 2) (r : Fin 896)
   (h : ∀ k, k0_pay5 (F := Ideal) a4 (ix3 b r k) = c (ix3 b r k)) (h' : ∀ k, k0_pay4 (F := Ideal) a0 a2 a1 a3 (ix3 b r k) = v (ix3 b r k)) :
    k0_pay6 (F := Ideal) a0 a2 a1 a3 a4 (ix2 b r)
      = (0 - ∑ k, Scalar.select (c (ix3 b r k)) (v (ix3 b r k)) 0 : EReal) := by
  pointwise [k0_pay6]
  simp only [h, h']

/-! ### The five results -/

/-- The loss. -/
theorem G5_apply (b : Fin 2) (r : Fin 896) : G5 a0 a1 a2 a3 a4 (ix2 b r) = Spec.loss (inp a0 a1 a2 a3 a4) b r := by
  show k0_pay6 (F := Ideal) a0 a2 a1 a3 a4 (ix2 b r) = _
  rw [loss_sum_apply a0 a1 a2 a3 a4 _ _ b r (fun k => rfl) (fun k => rfl)]
  unfold Spec.loss
  congr 1
  refine Finset.sum_congr rfl fun k _ => ?_
  rw [hit_apply a0 a1 a2 a3 a4, select_hit, logp_apply a0 a1 a2 a3 a4]

theorem scale_eq (b : Fin 2) (k : Fin 7168) :
    k0_pay10 (k0_pay15 a0 a1 a2 a3 a4) (k0_pay16 a0 a1 a2 a3 a4) (Scalar.ofBits .f32 0x00000000#32) (k0_pay17 a0 a1 a2 a3 a4) (ix3 b 0 k)
      = Spec.scale (inp a0 a1 a2 a3 a4) b k := by
  rw [scale_apply]
  simp only [dl_apply]
  rfl

theorem code_eq (b : Fin 2) (r : Fin 896) (k : Fin 7168) :
    k0_pay11 (k0_pay15 a0 a1 a2 a3 a4) (k0_pay16 a0 a1 a2 a3 a4) (Scalar.ofBits .f32 0x00000000#32) (k0_pay17 a0 a1 a2 a3 a4) (ix3 b r k)
      = Spec.code (inp a0 a1 a2 a3 a4) b r k := by
  rw [code_apply, scale_eq, dl_apply]
  rfl

/-- The gradient of the queries. -/
theorem G6_apply (b : Fin 2) (r : Fin 896) (d : Fin 2560) : G6 a0 a1 a2 a3 a4 (ix3 b r d) = Spec.dq (inp a0 a1 a2 a3 a4) b r d := by
  show k0_pay1 (F := Ideal) a3 _ _ (ix3 b r d) = _
  rw [grad_q_apply]
  simp only [scaled_apply, code_eq, scale_eq]
  rfl

/-- The gradient of the passages. -/
theorem G7_apply (b : Fin 2) (k : Fin 7168) (d : Fin 2560) : G7 a0 a1 a2 a3 a4 (ix3 b k d) = Spec.dp (inp a0 a1 a2 a3 a4) b k d := by
  show k0_pay2 (F := Ideal) a0 _ _ _ (ix3 b k d) = _
  rw [grad_p_apply]
  simp only [col_apply, code_eq, scale_eq]
  rfl

/-- The codes. -/
theorem G8_apply (b : Fin 2) (r : Fin 896) (k : Fin 7168) : G8 a0 a1 a2 a3 a4 (ix3 b r k) = Spec.code (inp a0 a1 a2 a3 a4) b r k := by
  unfold G8
  exact code_eq a0 a1 a2 a3 a4 b r k

/-- The scales. -/
theorem G9_apply (b : Fin 2) (k : Fin 7168) : G9 a0 a1 a2 a3 a4 (ix2 b k) = Spec.scale (inp a0 a1 a2 a3 a4) b k := by
  unfold G9 k0_pay12
  exact (row_apply _ b k).trans (scale_eq a0 a1 a2 a3 a4 b k)

end Cert.ReferenceIdeal.Value

end
-- ==== Proof.Ideal.Grid.lean ====
module

public import proofs.«01_k».proof.Proof.Ideal.Launch
public import proofs.«01_k».proof.Proof.Spec
public import Idealize.ShloMosaic.Lib.Pipeline.ValueKit.Point
public import Idealize.ShloMosaic.Lib.Pipeline.ArrRel

@[expose] public section

set_option maxRecDepth 16384

noncomputable section

namespace Cert.KernelIdeal.Run

open Cert Cert.KernelIdeal Cert.KernelIdeal.Gen
open Idealize.ShloMosaic Idealize.ShloMosaic.TcCoe Idealize.SL.Sem
open Idealize.ShloMosaic.Pipeline (RDat Cfg Window)

/-! The offsets and conditions at a grid point, and each input window's block at it in the arguments' elements. -/

/-- The batch element of a grid point. -/
def bOf (t : Fin cfg0.N) : Fin 2 := ⟨t.val / 47, by have : t.val < 94 := t.isLt; omega⟩

theorem lt94 (t : Fin cfg0.N) : t.val < 94 := t.isLt

theorem off1_eq : ∀ t : Fin grid0.N, t.val % 47 < 14 → k0_off1 (grid0.coords t) = ![0, 0, 512 * (t.val % 47)] := by decide +kernel
theorem off2_eq : ∀ t : Fin grid0.N, t.val % 47 < 14 → k0_off2 (grid0.coords t) = ![0, 512 * (t.val % 47)] := by decide +kernel
theorem col_eq : ∀ t : Fin grid0.N, 14 ≤ t.val % 47 ∧ t.val % 47 < 42 →
    Scalar.muli (Scalar.subi (BitVec.ofNat 32 ((grid0.coords t) 1).val) 14#32) 256#32 = BitVec.ofNat 32 (256 * (t.val % 47 - 14)) := by decide +kernel

theorem row_of_scale (t : Fin grid0.N) (h : 14 ≤ t.val % 47 ∧ t.val % 47 < 42) :
    (bOf t = 0 ∧ k0_cond7 (grid0.coords t) = 1#1 ∧ ¬ k0_cond8 (grid0.coords t) = 1#1) ∨ (bOf t = 1 ∧ ¬ k0_cond7 (grid0.coords t) = 1#1 ∧ k0_cond8 (grid0.coords t) = 1#1) := by
  revert t; decide +kernel

theorem row_of_loss (t : Fin grid0.N) (h : t.val % 47 = 42) :
    (bOf t = 0 ∧ k0_cond10 (grid0.coords t) = 1#1 ∧ ¬ k0_cond11 (grid0.coords t) = 1#1 ∧ k0_cond12 (grid0.coords t) = 1#1 ∧ ¬ k0_cond13 (grid0.coords t) = 1#1 ∧ k0_cond14 (grid0.coords t) = 1#1 ∧ ¬ k0_cond15 (grid0.coords t) = 1#1 ∧ k0_cond16 (grid0.coords t) = 1#1 ∧ ¬ k0_cond17 (grid0.coords t) = 1#1 ∧ k0_cond18 (grid0.coords t) = 1#1 ∧ ¬ k0_cond19 (grid0.coords t) = 1#1 ∧ k0_cond20 (grid0.coords t) = 1#1 ∧ ¬ k0_cond21 (grid0.coords t) = 1#1 ∧ k0_cond22 (grid0.coords t) = 1#1 ∧ ¬ k0_cond23 (grid0.coords t) = 1#1) ∨ (bOf t = 1 ∧ ¬ k0_cond10 (grid0.coords t) = 1#1 ∧ k0_cond11 (grid0.coords t) = 1#1 ∧ ¬ k0_cond12 (grid0.coords t) = 1#1 ∧ k0_cond13 (grid0.coords t) = 1#1 ∧ ¬ k0_cond14 (grid0.coords t) = 1#1 ∧ k0_cond15 (grid0.coords t) = 1#1 ∧ ¬ k0_cond16 (grid0.coords t) = 1#1 ∧ k0_cond17 (grid0.coords t) = 1#1 ∧ ¬ k0_cond18 (grid0.coords t) = 1#1 ∧ k0_cond19 (grid0.coords t) = 1#1 ∧ ¬ k0_cond20 (grid0.coords t) = 1#1 ∧ k0_cond21 (grid0.coords t) = 1#1 ∧ ¬ k0_cond22 (grid0.coords t) = 1#1 ∧ k0_cond23 (grid0.coords t) = 1#1) := by
  revert t; decide +kernel

theorem idx0 : ∀ t : Fin cfg0.N, (cfg0.win 0).index t = ![t.val / 47, 0, 0] := by decide +kernel
theorem idx1 : ∀ t : Fin cfg0.N, (cfg0.win 1).index t = ![t.val / 47, 0, 0] := by decide +kernel
theorem idx2 : ∀ t : Fin cfg0.N, (cfg0.win 2).index t = ![t.val / 47, min (t.val % 47) 13, 0] := by decide +kernel
theorem idx3 : ∀ t : Fin cfg0.N, (cfg0.win 3).index t = ![t.val / 47, 0, 0] := by decide +kernel
theorem idx4 : ∀ t : Fin cfg0.N, (cfg0.win 4).index t = ![t.val / 47, 0, 0] := by decide +kernel
theorem idx5 : ∀ t : Fin cfg0.N, (cfg0.win 5).index t = ![t.val / 47, 0, t.val % 47 - 42] := by decide +kernel
theorem idx7 : ∀ t : Fin cfg0.N, (cfg0.win 7).index t = ![t.val / 47, 0, t.val % 47 - 42] := by decide +kernel
theorem idx8 : ∀ t : Fin cfg0.N, (cfg0.win 8).index t = ![t.val / 47, min (t.val % 47 - 14) 27, 0] := by decide +kernel
theorem idx9 : ∀ t : Fin cfg0.N, (cfg0.win 9).index t = ![t.val / 47, 0, min (t.val % 47 - 14) 27] := by decide +kernel

variable (m : (ℓ : Loc nD τ sig) → Buf (Elt Ideal) ℓ) (c : Dev nD)

/-- The launch memory's arguments. -/
def args : Spec.Inp where
  q b r d := m ((c.tc : Thread nD τ).loc main_arg0) (ix3 b r d)
  qs b r := m ((c.tc : Thread nD τ).loc main_arg1) (ix2 b r)
  p b k d := m ((c.tc : Thread nD τ).loc main_arg2) (ix3 b k d)
  ps b k := m ((c.tc : Thread nD τ).loc main_arg3) (ix2 b k)
  pos b r := m ((c.tc : Thread nD τ).loc main_arg4) (ix2 b r)

theorem blk0 (t : Fin cfg0.N) (r : Fin 896) (d : Fin 2560) : iblk m c 0 t (ix3 0 r d) = (args m c).q (bOf t) r d := by
  have e := idx0 t
  unfold args bOf
  blk_ext! [iblk, V_main_arg0, e]

theorem blk1 (t : Fin cfg0.N) (r : Fin 896) : iblk m c 1 t (ix3 0 r 0) = (args m c).qs (bOf t) r := by
  have e := idx1 t
  unfold args bOf
  blk_ext! [iblk, V, e]

theorem blk2 (t : Fin cfg0.N) (h : t.val % 47 < 14) (k : Fin 512) (d : Fin 2560) :
    iblk m c 2 t (ix3 0 k d) = (args m c).p (bOf t) ⟨512 * (t.val % 47) + k.val, by omega⟩ d := by
  have e := idx2 t
  rw [Nat.min_eq_left (by omega : t.val % 47 ≤ 13)] at e
  unfold args bOf
  blk_ext! [iblk, V_main_arg2, e]

theorem blk3 (t : Fin cfg0.N) (k : Fin 7168) : iblk m c 3 t (ix3 0 0 k) = (args m c).ps (bOf t) k := by
  have e := idx3 t
  unfold args bOf
  blk_ext! [iblk, V, e]

theorem blk4 (t : Fin cfg0.N) (r : Fin 896) : iblk m c 4 t (ix3 0 r 0) = (args m c).pos (bOf t) r := by
  have e := idx4 t
  unfold args bOf
  blk_ext! [iblk, V, e]

theorem blk5 (t : Fin cfg0.N) (k : Fin 7168) (d : Fin 512) :
    iblk m c 5 t (ix3 0 k d) = (args m c).p (bOf t) k ⟨512 * (t.val % 47 - 42) + d.val, by have := lt94 t; omega⟩ := by
  have e := idx5 t
  unfold args bOf
  blk_ext! [iblk, V_main_arg2, e]

end Cert.KernelIdeal.Run

end
-- ==== Proof.Ideal.StepA.lean ====
module

public import proofs.«01_k».proof.Proof.Ideal.Cases
public import Idealize.ShloMosaic.Lib.Pointwise
public import Idealize.ShloMosaic.Lib.WritesUnit
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.SL.Sem

variable {F : FTy → Type} [FloatOps F]

/-! What the body leaves in the scratch at a point of phase A, in the kernel's own operations. -/

section loads

variable {S : Shape} {e : EltTy} (M : Memref sig .tc .vmem S e)

/-- A load of the whole of a memref held at `X` reads `X`. -/
theorem readAt_whole (h : M.IsWhole) (X : Vec F S e) {off : Fin S.rank → ℕ} (hz : off = fun _ => 0)
    (inb : ∀ a, off a + S.size a ≤ S.size a) :
    View.readAt (Elt F) M.view (Rect.unit off S.size inb).toLoadRect (h.unread X) = X := by
  rw [View.readAt_eq_ld, View.ld_unit_zero hz inb, Memref.IsWhole.read_unread]

/-- What the newest store of a list, of the whole, leaves. -/
theorem read_last (f) (w : Vec F S e) (L : List (View.Piece (Elt F) S e)) {off : Fin S.rank → ℕ} (hz : off = fun _ => 0)
    (inb : ∀ a, off a + S.size a ≤ S.size a) :
    M.view.read (Elt F) (M.view.writes (Elt F) f (⟨Rect.unit off S.size inb, w⟩ :: L)) = w := by
  funext y
  exact View.read_writes_cons_unit_of_mem M.view f inb w L y y hz fun a => (Nat.zero_add _).symm

/-- A load of the whole after such a store. -/
theorem readCov_last [∀ e, Nonempty (Elt F e)] (w : Vec F S e) (L : List (View.Piece (Elt F) S e)) {off : Fin S.rank → ℕ} (hz : off = fun _ => 0)
    (inb : ∀ a, off a + S.size a ≤ S.size a) :
    M.view.readCov (Val := Elt F) (⟨Rect.unit off S.size inb, w⟩ :: L) (Rect.unit off S.size inb).toLoadRect = w := by
  unfold View.readCov
  rw [View.readAt_eq_ld, View.ld_unit_zero hz inb, read_last M _ w L hz inb]

end loads

theorem z2 : (![0, 0] : Fin 2 → ℕ) = fun _ => 0 := funext fun a => by fin_cases a <;> rfl
theorem z3 : (![0, 0, 0] : Fin 3 → ℕ) = fun _ => 0 := funext fun a => by fin_cases a <;> rfl

variable (c : Dev nD) (i : grid0.Coords)
  (arg2 : Memref sig .tc .vmem S1x896x2560 .fp8e4m3) (harg2 : arg2.IsWhole)
  (arg3 : Memref sig .tc .vmem S1x896x1 .f32) (harg3 : arg3.IsWhole)
  (arg4 : Memref sig .tc .vmem S1x512x2560 .fp8e4m3) (harg4 : arg4.IsWhole)
  (arg5 : Memref sig .tc .vmem S1x1x7168 .f32) (harg5 : arg5.IsWhole)
  (arg6 : Memref sig .tc .vmem S1x896x1 .i32) (harg6 : arg6.IsWhole)
  (arg7 : Memref sig .tc .vmem S1x7168x512 .fp8e4m3) (harg7 : arg7.IsWhole)
  (arg8 : Memref sig .tc .vmem S2x896 .f32) (harg8 : arg8.IsWhole)
  (arg9 : Memref sig .tc .vmem S1x896x512 .bf16) (harg9 : arg9.IsWhole)
  (arg10 : Memref sig .tc .vmem S1x256x2560 .bf16) (harg10 : arg10.IsWhole)
  (arg11 : Memref sig .tc .vmem S1x896x256 .fp8e5m2) (harg11 : arg11.IsWhole)
  (arg12 : Memref sig .tc .vmem S2x7168 .f32) (harg12 : arg12.IsWhole)
  (arg13 : Memref sig .tc .vmem S896x7168 .f32) (harg13 : arg13.IsWhole)
  (arg14 : Memref sig .tc .vmem S896x7168 .fp8e5m2) (harg14 : arg14.IsWhole)
  (arg15 : Memref sig .tc .vmem S896x2560 .bf16) (harg15 : arg15.IsWhole)
  (arg16 : Memref sig .tc .vmem S896x128 .f32) (harg16 : arg16.IsWhole)
  (arg17 : Memref sig .tc .vmem S896x128 .f32) (harg17 : arg17.IsWhole)
  (arg18 : Memref sig .tc .vmem S896x128 .f32) (harg18 : arg18.IsWhole)
  (arg19 : Memref sig .tc .vmem S256x896 .bf16) (harg19 : arg19.IsWhole)
  (arg20 : Memref sig .tc .vmem S1x7168 .f32) (harg20 : arg20.IsWhole)

/-- The 512 scales of tile `T`. -/
def tile5 (x5 : Vec F S1x1x7168 .f32) (T : Fin 14) : Vec F S1x1x512 .f32 :=
  fun j => x5 (ix3 0 0 ⟨512 * T.val + (j 2).val, by have := (j 2).isLt; have : (j 2).val < 512 := this; omega⟩)

theorem readAt_tile5 (x5 : Vec F S1x1x7168 .f32) (T : Fin 14) {off : Fin 3 → ℕ} (ho : off = ![0, 0, 512 * T.val])
    (inb : ∀ a, off a + S1x1x512.size a ≤ S1x1x7168.size a) :
    View.readAt (Elt F) arg5.view (Rect.unit (s := S1x1x7168) off S1x1x512.size inb).toLoadRect (harg5.unread x5) = tile5 x5 T := by
  funext j
  rw [Memref.IsWhole.readAt_unread]
  unfold tile5
  congr 1
  subst ho
  funext a
  apply Fin.ext
  have h0 : (j 0).val = 0 := by have : (j 0).val < 1 := (j 0).isLt; omega
  have h1 : (j 1).val = 0 := by have : (j 1).val < 1 := (j 1).isLt; omega
  match a with
  | ⟨0, _⟩ => show 0 + 1 * (j 0).val = 0; omega
  | ⟨1, _⟩ => show 0 + 1 * (j 1).val = 0; omega
  | ⟨2, _⟩ => show 512 * T.val + 1 * (j 2).val = 512 * T.val + (j 2).val; omega

variable (T : Fin 14) (e1 : k0_off1 i = ![0, 0, 512 * T.val]) (e2 : k0_off2 i = ![0, 512 * T.val])
include e1 e2

theorem nextI_x13 (h1 : condInit i) (h2 : k0_cond2 i = 1#1) (h3 : ¬ condStats i) (h4 : ¬ k0_cond4 i = 1#1) (h9 : ¬ k0_cond9 i = 1#1) (h24 : ¬ k0_cond24 i = 1#1) (I : Ins F) (s : St F) (q : Fin 896) (p : Fin 7168) :
    (nextI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x13 (ix2 q p)
      = if h : 512 * T.val ≤ p.val ∧ p.val < 512 * T.val + 512 then k0_pay14 I.x2 I.x4 (tile5 I.x5 T) I.x3 (ix2 q ⟨p.val - 512 * T.val, by omega⟩) else s.x13 (ix2 q p) := by
  unfold nextI runI
  dsimp only
  rw [readAt_whole arg2 harg2 I.x2 z3, readAt_whole arg4 harg4 I.x4 z3, readAt_whole arg3 harg3 I.x3 z3, readAt_tile5 arg5 harg5 I.x5 T e1]
  by_cases h : 512 * T.val ≤ p.val ∧ p.val < 512 * T.val + 512
  · rw [dif_pos h]
    refine View.read_writes_cons_unit_of_mem arg13.view _ _ _ _ _ (ix2 q ⟨p.val - 512 * T.val, by omega⟩) e2 fun a => ?_
    match a with
    | ⟨0, _⟩ => exact (Nat.zero_add _).symm
    | ⟨1, _⟩ => show p.val = 512 * T.val + (p.val - 512 * T.val); omega
  · rw [dif_neg h]
    refine (View.read_writes_cons_unit_of_not_mem arg13.view _ _ _ _ _ e2 (1 : Fin 2) ?_).trans ?_
    · show p.val < 512 * T.val ∨ 512 * T.val + 512 ≤ p.val; omega
    · exact congrFun (harg13.read_unread s.x13) _

theorem nextI_x16 (h1 : condInit i) (h2 : k0_cond2 i = 1#1) (h3 : ¬ condStats i) (h4 : ¬ k0_cond4 i = 1#1) (h9 : ¬ k0_cond9 i = 1#1) (h24 : ¬ k0_cond24 i = 1#1) (I : Ins F) (s : St F) :
    (nextI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x16 = (k0_pay6 (k0_pay15 I.x2 I.x4 (tile5 I.x5 T) I.x3 (k0_pay1 (F := F)))) := by
  unfold nextI runI
  dsimp only
  rw [read_last _ _ _ _ z2]
  simp only [runI.sl.r, runI.sl.r_1, runI.sl.r_2, runI.sl.r_3, runI.sl.v49, runI.sl.v51, runI.sl.H16_1, runI.sl.H17_1]
  simp only [readAt_whole arg2 harg2 _ z3, readAt_whole arg3 harg3 _ z3, readAt_whole arg4 harg4 _ z3, readAt_whole arg16 harg16 _ z2,
    readAt_whole arg17 harg17 _ z2, readAt_tile5 arg5 harg5 _ T e1, readCov_last arg16 _ _ z2, readCov_last arg17 _ _ z2]

theorem nextI_x17 (h1 : condInit i) (h2 : k0_cond2 i = 1#1) (h3 : ¬ condStats i) (h4 : ¬ k0_cond4 i = 1#1) (h9 : ¬ k0_cond9 i = 1#1) (h24 : ¬ k0_cond24 i = 1#1) (I : Ins F) (s : St F) :
    (nextI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x17 = (k0_pay5 (k0_pay13 I.x2 I.x4 (tile5 I.x5 T) I.x3) (k0_pay15 I.x2 I.x4 (tile5 I.x5 T) I.x3 (k0_pay1 (F := F))) (k0_pay16 I.x2 I.x4 (tile5 I.x5 T) I.x3 (k0_pay1 (F := F)) (k0_pay2 (F := F))) (k0_pay17 I.x2 I.x4 (tile5 I.x5 T) I.x3)) := by
  unfold nextI runI
  dsimp only
  rw [read_last _ _ _ _ z2]
  simp only [runI.sl.r, runI.sl.r_1, runI.sl.r_2, runI.sl.r_3, runI.sl.v49, runI.sl.v51, runI.sl.H16_1, runI.sl.H17_1]
  simp only [readAt_whole arg2 harg2 _ z3, readAt_whole arg3 harg3 _ z3, readAt_whole arg4 harg4 _ z3, readAt_whole arg16 harg16 _ z2,
    readAt_whole arg17 harg17 _ z2, readAt_tile5 arg5 harg5 _ T e1, readCov_last arg16 _ _ z2, readCov_last arg17 _ _ z2]

theorem nextI_x15 (h1 : condInit i) (h2 : k0_cond2 i = 1#1) (h3 : ¬ condStats i) (h4 : ¬ k0_cond4 i = 1#1) (h9 : ¬ k0_cond9 i = 1#1) (h24 : ¬ k0_cond24 i = 1#1) (I : Ins F) (s : St F) :
    (nextI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x15 = k0_pay4 I.x3 I.x2 := by
  unfold nextI runI runI.sl.H15_1
  dsimp only
  rw [read_last _ _ _ _ z2, readAt_whole arg2 harg2 I.x2 z3, readAt_whole arg3 harg3 I.x3 z3]

theorem nextI_x18 (h1 : condInit i) (h2 : k0_cond2 i = 1#1) (h3 : ¬ condStats i) (h4 : ¬ k0_cond4 i = 1#1) (h9 : ¬ k0_cond9 i = 1#1) (h24 : ¬ k0_cond24 i = 1#1) (I : Ins F) (s : St F) :
    (nextI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x18 = k0_pay3 := by
  unfold nextI runI runI.sl.H18_1
  dsimp only
  rw [read_last _ _ _ _ z2]

theorem nextA_x13 (h1 : ¬ condInit i) (h2 : k0_cond2 i = 1#1) (h3 : ¬ condStats i) (h4 : ¬ k0_cond4 i = 1#1) (h9 : ¬ k0_cond9 i = 1#1) (h24 : ¬ k0_cond24 i = 1#1) (I : Ins F) (s : St F) (q : Fin 896) (p : Fin 7168) :
    (nextA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x13 (ix2 q p)
      = if h : 512 * T.val ≤ p.val ∧ p.val < 512 * T.val + 512 then k0_pay14 I.x2 I.x4 (tile5 I.x5 T) I.x3 (ix2 q ⟨p.val - 512 * T.val, by omega⟩) else s.x13 (ix2 q p) := by
  unfold nextA runA
  dsimp only
  rw [readAt_whole arg2 harg2 I.x2 z3, readAt_whole arg4 harg4 I.x4 z3, readAt_whole arg3 harg3 I.x3 z3, readAt_tile5 arg5 harg5 I.x5 T e1]
  by_cases h : 512 * T.val ≤ p.val ∧ p.val < 512 * T.val + 512
  · rw [dif_pos h]
    refine View.read_writes_cons_unit_of_mem arg13.view _ _ _ _ _ (ix2 q ⟨p.val - 512 * T.val, by omega⟩) e2 fun a => ?_
    match a with
    | ⟨0, _⟩ => exact (Nat.zero_add _).symm
    | ⟨1, _⟩ => show p.val = 512 * T.val + (p.val - 512 * T.val); omega
  · rw [dif_neg h]
    refine (View.read_writes_cons_unit_of_not_mem arg13.view _ _ _ _ _ e2 (1 : Fin 2) ?_).trans ?_
    · show p.val < 512 * T.val ∨ 512 * T.val + 512 ≤ p.val; omega
    · exact congrFun (harg13.read_unread s.x13) _

theorem nextA_x16 (h1 : ¬ condInit i) (h2 : k0_cond2 i = 1#1) (h3 : ¬ condStats i) (h4 : ¬ k0_cond4 i = 1#1) (h9 : ¬ k0_cond9 i = 1#1) (h24 : ¬ k0_cond24 i = 1#1) (I : Ins F) (s : St F) :
    (nextA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x16 = (k0_pay6 (k0_pay15 I.x2 I.x4 (tile5 I.x5 T) I.x3 s.x16)) := by
  unfold nextA runA
  dsimp only
  rw [read_last _ _ _ _ z2]
  simp only [runA.sl.r, runA.sl.r_1, runA.sl.r_2, runA.sl.r_3]
  simp only [readAt_whole arg2 harg2 _ z3, readAt_whole arg3 harg3 _ z3, readAt_whole arg4 harg4 _ z3, readAt_whole arg16 harg16 _ z2,
    readAt_whole arg17 harg17 _ z2, readAt_tile5 arg5 harg5 _ T e1, readCov_last arg16 _ _ z2, readCov_last arg17 _ _ z2]

theorem nextA_x17 (h1 : ¬ condInit i) (h2 : k0_cond2 i = 1#1) (h3 : ¬ condStats i) (h4 : ¬ k0_cond4 i = 1#1) (h9 : ¬ k0_cond9 i = 1#1) (h24 : ¬ k0_cond24 i = 1#1) (I : Ins F) (s : St F) :
    (nextA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x17 = (k0_pay5 (k0_pay13 I.x2 I.x4 (tile5 I.x5 T) I.x3) (k0_pay15 I.x2 I.x4 (tile5 I.x5 T) I.x3 s.x16) (k0_pay16 I.x2 I.x4 (tile5 I.x5 T) I.x3 s.x16 s.x17) (k0_pay17 I.x2 I.x4 (tile5 I.x5 T) I.x3)) := by
  unfold nextA runA
  dsimp only
  rw [read_last _ _ _ _ z2]
  simp only [runA.sl.r, runA.sl.r_1, runA.sl.r_2, runA.sl.r_3]
  simp only [readAt_whole arg2 harg2 _ z3, readAt_whole arg3 harg3 _ z3, readAt_whole arg4 harg4 _ z3, readAt_whole arg16 harg16 _ z2,
    readAt_whole arg17 harg17 _ z2, readAt_tile5 arg5 harg5 _ T e1, readCov_last arg16 _ _ z2, readCov_last arg17 _ _ z2]

theorem nextS_x13 (h1 : ¬ condInit i) (h2 : k0_cond2 i = 1#1) (h3 : condStats i) (h4 : ¬ k0_cond4 i = 1#1) (h9 : ¬ k0_cond9 i = 1#1) (h24 : ¬ k0_cond24 i = 1#1) (I : Ins F) (s : St F) (q : Fin 896) (p : Fin 7168) :
    (nextS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x13 (ix2 q p)
      = if h : 512 * T.val ≤ p.val ∧ p.val < 512 * T.val + 512 then k0_pay14 I.x2 I.x4 (tile5 I.x5 T) I.x3 (ix2 q ⟨p.val - 512 * T.val, by omega⟩) else s.x13 (ix2 q p) := by
  unfold nextS runS
  dsimp only
  rw [readAt_whole arg2 harg2 I.x2 z3, readAt_whole arg4 harg4 I.x4 z3, readAt_whole arg3 harg3 I.x3 z3, readAt_tile5 arg5 harg5 I.x5 T e1]
  by_cases h : 512 * T.val ≤ p.val ∧ p.val < 512 * T.val + 512
  · rw [dif_pos h]
    refine View.read_writes_cons_unit_of_mem arg13.view _ _ _ _ _ (ix2 q ⟨p.val - 512 * T.val, by omega⟩) e2 fun a => ?_
    match a with
    | ⟨0, _⟩ => exact (Nat.zero_add _).symm
    | ⟨1, _⟩ => show p.val = 512 * T.val + (p.val - 512 * T.val); omega
  · rw [dif_neg h]
    refine (View.read_writes_cons_unit_of_not_mem arg13.view _ _ _ _ _ e2 (1 : Fin 2) ?_).trans ?_
    · show p.val < 512 * T.val ∨ 512 * T.val + 512 ≤ p.val; omega
    · exact congrFun (harg13.read_unread s.x13) _

theorem nextS_x16 (h1 : ¬ condInit i) (h2 : k0_cond2 i = 1#1) (h3 : condStats i) (h4 : ¬ k0_cond4 i = 1#1) (h9 : ¬ k0_cond9 i = 1#1) (h24 : ¬ k0_cond24 i = 1#1) (I : Ins F) (s : St F) :
    (nextS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x16 = k0_pay8 (k0_pay6 (k0_pay15 I.x2 I.x4 (tile5 I.x5 T) I.x3 s.x16)) := by
  unfold nextS runS
  dsimp only
  rw [read_last _ _ _ _ z2]
  simp only [runS.sl.v20, runS.sl.v23, runS.sl.H16_1, runS.sl.H17_1, runS.sl.r, runS.sl.r_1, runS.sl.r_2, runS.sl.r_3]
  simp only [readAt_whole arg2 harg2 _ z3, readAt_whole arg3 harg3 _ z3, readAt_whole arg4 harg4 _ z3, readAt_whole arg16 harg16 _ z2,
    readAt_whole arg17 harg17 _ z2, readAt_tile5 arg5 harg5 _ T e1, readCov_last arg16 _ _ z2, readCov_last arg17 _ _ z2]

theorem nextS_x17 (h1 : ¬ condInit i) (h2 : k0_cond2 i = 1#1) (h3 : condStats i) (h4 : ¬ k0_cond4 i = 1#1) (h9 : ¬ k0_cond9 i = 1#1) (h24 : ¬ k0_cond24 i = 1#1) (I : Ins F) (s : St F) :
    (nextS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x17 = k0_pay9 (k0_pay6 (k0_pay15 I.x2 I.x4 (tile5 I.x5 T) I.x3 s.x16)) (k0_pay5 (k0_pay13 I.x2 I.x4 (tile5 I.x5 T) I.x3) (k0_pay15 I.x2 I.x4 (tile5 I.x5 T) I.x3 s.x16) (k0_pay16 I.x2 I.x4 (tile5 I.x5 T) I.x3 s.x16 s.x17) (k0_pay17 I.x2 I.x4 (tile5 I.x5 T) I.x3)) (k0_pay6 (k0_pay15 I.x2 I.x4 (tile5 I.x5 T) I.x3 s.x16)) := by
  unfold nextS runS
  dsimp only
  rw [read_last _ _ _ _ z2]
  simp only [runS.sl.v20, runS.sl.v23, runS.sl.H16_1, runS.sl.H17_1, runS.sl.r, runS.sl.r_1, runS.sl.r_2, runS.sl.r_3]
  simp only [readAt_whole arg2 harg2 _ z3, readAt_whole arg3 harg3 _ z3, readAt_whole arg4 harg4 _ z3, readAt_whole arg16 harg16 _ z2,
    readAt_whole arg17 harg17 _ z2, readAt_tile5 arg5 harg5 _ T e1, readCov_last arg16 _ _ z2, readCov_last arg17 _ _ z2]

end Cert.KernelIdeal.Run

end
-- ==== Proof.Ideal.PayA.lean ====
module

public import proofs.«01_k».proof.Proof.Ideal.StepA
public import proofs.«01_k».proof.Proof.Spec
public import Idealize.ShloMosaic.Lib.Pointwise
public import Idealize.ShloMosaic.Lib.WritesUnit
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.SL.Sem

open Cert

/-! The values of phase A's operations at an index, over the extended reals. -/

section

variable (x2 : Vec Ideal S1x896x2560 .fp8e4m3) (x4 : Vec Ideal S1x512x2560 .fp8e4m3) (x5 : Vec Ideal S1x1x512 .f32) (x3 : Vec Ideal S1x896x1 .f32)

theorem logit_apply (q : Fin 896) (j : Fin 512) :
    k0_pay13 (F := Ideal) x2 x4 x5 x3 (ix2 q j)
      = (((∑ d, x2 (ix3 0 q d) * x4 (ix3 0 j d)) * (x5 (ix3 0 0 j) * Spec.tau)) * x3 (ix3 0 q 0) : EReal) := by
  unfold Spec.tau
  pointwise [k0_pay13]

theorem logit'_apply (q : Fin 896) (j : Fin 512) :
    k0_pay14 (F := Ideal) x2 x4 x5 x3 (ix2 q j) = k0_pay13 (F := Ideal) x2 x4 x5 x3 (ix2 q j) := by
  pointwise [k0_pay14]

theorem newMax_apply (x16 : Vec Ideal S896x128 .f32) (q : Fin 896) (l : Fin 128) :
    k0_pay15 (F := Ideal) x2 x4 x5 x3 x16 (ix2 q l)
      = (max (x16 (ix2 q l)) (max (max (max (k0_pay13 (F := Ideal) x2 x4 x5 x3 (ix2 q ⟨l.val, by omega⟩)) (k0_pay13 (F := Ideal) x2 x4 x5 x3 (ix2 q ⟨128 + l.val, by omega⟩)))
          (k0_pay13 (F := Ideal) x2 x4 x5 x3 (ix2 q ⟨256 + l.val, by omega⟩))) (k0_pay13 (F := Ideal) x2 x4 x5 x3 (ix2 q ⟨384 + l.val, by omega⟩))) : EReal) := by
  pointwise [k0_pay15]

theorem newSum_apply (b : FVec Ideal S896x512 .f32) (m a b1 : FVec Ideal S896x128 .f32) (q : Fin 896) (l : Fin 128) :
    k0_pay5 (F := Ideal) b m a b1 (ix2 q l)
      = (a (ix2 q l) + Ideal.exp (b1 (ix2 q l) - m (ix2 q l)) + Ideal.exp (b (ix2 q ⟨256 + l.val, by omega⟩) - m (ix2 q l))
          + Ideal.exp (b (ix2 q ⟨384 + l.val, by omega⟩) - m (ix2 q l)) : EReal) := by
  pointwise [k0_pay5]

theorem firstSum_apply (x16 x17 : Vec Ideal S896x128 .f32) (q : Fin 896) (l : Fin 128) :
    k0_pay16 (F := Ideal) x2 x4 x5 x3 x16 x17 (ix2 q l)
      = (x17 (ix2 q l) * Ideal.exp (x16 (ix2 q l) - k0_pay15 (F := Ideal) x2 x4 x5 x3 x16 (ix2 q l))
          + Ideal.exp (k0_pay13 (F := Ideal) x2 x4 x5 x3 (ix2 q ⟨l.val, by omega⟩) - k0_pay15 (F := Ideal) x2 x4 x5 x3 x16 (ix2 q l)) : EReal) := by
  pointwise [k0_pay16]

theorem second_apply (q : Fin 896) (l : Fin 128) :
    k0_pay17 (F := Ideal) x2 x4 x5 x3 (ix2 q l) = k0_pay13 (F := Ideal) x2 x4 x5 x3 (ix2 q ⟨128 + l.val, by omega⟩) := by
  pointwise [k0_pay17]

theorem query_apply (q : Fin 896) (d : Fin 2560) : k0_pay4 (F := Ideal) x3 x2 (ix2 q d) = (x2 (ix3 0 q d) * x3 (ix3 0 q 0) : EReal) := by
  pointwise [k0_pay4]

end

theorem keepMax_apply (v : FVec Ideal S896x128 .f32) : k0_pay6 (F := Ideal) v = v := by
  funext j
  pointwise [k0_pay6]

theorem initMax_apply (q : Fin 896) (l : Fin 128) : k0_pay1 (F := Ideal) (ix2 q l) = Spec.ninf := by
  unfold Spec.ninf
  pointwise [k0_pay1]

theorem initSum_apply (q : Fin 896) (l : Fin 128) : k0_pay2 (F := Ideal) (ix2 q l) = (0 : EReal) := by
  pointwise [k0_pay2]

theorem initLab_apply (q : Fin 896) (l : Fin 128) : k0_pay3 (F := Ideal) (ix2 q l) = (0 : EReal) := by
  pointwise [k0_pay3]

theorem rowMax_apply (v : FVec Ideal S896x128 .f32) (q : Fin 896) (l : Fin 128) :
    k0_pay8 (F := Ideal) v (ix2 q l) = Finset.univ.fold max Spec.ninf fun j => (v (ix2 q j) : EReal) := by
  unfold Spec.ninf
  pointwise [k0_pay8, k0_pay7]

theorem rowLog_apply (v w : FVec Ideal S896x128 .f32) (q : Fin 896) (l : Fin 128) :
    k0_pay9 (F := Ideal) v w v (ix2 q l)
      = Ideal.log (∑ j, (w (ix2 q j) : EReal) * Ideal.exp (v (ix2 q j) - Finset.univ.fold max Spec.ninf fun j => (v (ix2 q j) : EReal))) := by
  unfold Spec.ninf
  pointwise [k0_pay9, k0_pay7]

end Cert.KernelIdeal.Run

end
-- ==== Proof.Ideal.Scale.lean ====
module

public import proofs.«01_k».proof.Proof.Spec
public import Idealize.ShloMosaic.Lib.IndicatorCount
public import Idealize.ShloMosaic.Lib.IdealHost

@[expose] public section

set_option maxRecDepth 16384

noncomputable section

/-! A column's scale: the kernel finds the power of two by counting the powers that do not exceed the largest magnitude. -/

namespace Cert.Scale

open Idealize.ShloMosaic

/-- The number whose exponent field is `k` and whose significand is zero. -/
def word (k : ℕ) : EReal := Ideal.ofBits .f32 (IntOp.shli .vector (BitVec.ofNat 32 k) 23#32)

theorem sign_word : ∀ k : Fin 256, ((IntOp.shli .vector (BitVec.ofNat 32 k.val) 23#32).extractLsb' (8 + 23) 1 == 1#1) = false := by decide +kernel
theorem exp_word : ∀ k : Fin 256, ((IntOp.shli .vector (BitVec.ofNat 32 k.val) 23#32).extractLsb' 23 8).toNat = k.val := by decide +kernel
theorem frac_word : ∀ k : Fin 256, ((IntOp.shli .vector (BitVec.ofNat 32 k.val) 23#32).extractLsb' 0 23).toNat = 0 := by decide +kernel

theorem ofBits_pow (b : BitVec 32) (k : ℕ) (hs : (b.extractLsb' (8 + 23) 1 == 1#1) = false) (he : (b.extractLsb' 23 8).toNat = k) (hf : (b.extractLsb' 0 23).toNat = 0)
    (h1 : 1 ≤ k) (h2 : k ≤ 254) : Ideal.ofBits .f32 b = (((2 : ℝ) ^ ((k : ℤ) - 127) : ℝ) : EReal) := by
  show Ideal.ieee 8 23 b = _
  unfold Ideal.ieee
  dsimp only
  rw [hs, he, hf, if_neg (by omega), if_neg (by omega)]
  refine congrArg (fun r : ℝ => (r : EReal)) ?_
  have e : (k : ℤ) - (2 ^ (8 - 1) - 1) - (23 : ℕ) = ((k : ℤ) - 127) - 23 := by norm_num
  rw [e, zpow_sub₀ (by norm_num : (2 : ℝ) ≠ 0)]
  norm_num
  ring

theorem ofBits_top (b : BitVec 32) (hs : (b.extractLsb' (8 + 23) 1 == 1#1) = false) (he : (b.extractLsb' 23 8).toNat = 255) (hf : (b.extractLsb' 0 23).toNat = 0) :
    Ideal.ofBits .f32 b = ⊤ := by
  show Ideal.ieee 8 23 b = _
  unfold Ideal.ieee
  dsimp only
  rw [hs, he, hf, if_pos (by norm_num), if_pos rfl]
  rfl

theorem word_eq (k : ℕ) (h1 : 1 ≤ k) (h2 : k ≤ 254) : word k = (((2 : ℝ) ^ ((k : ℤ) - 127) : ℝ) : EReal) :=
  ofBits_pow _ k (sign_word ⟨k, by omega⟩) (exp_word ⟨k, by omega⟩) (frac_word ⟨k, by omega⟩) h1 h2

theorem word_zero : word 0 = 0 := (congrArg (Ideal.ofBits .f32) (by decide)).trans Ideal.ofBits_zero_f32

theorem word_top : word 255 = ⊤ := ofBits_top _ (sign_word ⟨255, by omega⟩) (exp_word ⟨255, by omega⟩) (frac_word ⟨255, by omega⟩)

theorem pinf_eq : Spec.pinf = ⊤ := (congrArg (Ideal.ofBits .f32) (by decide : 0x7F800000#32 = IntOp.shli .vector (BitVec.ofNat 32 255) 23#32)).trans word_top

theorem tiny_eq : Spec.tiny = word 1 := congrArg (Ideal.ofBits .f32) (by decide : 0x00800000#32 = IntOp.shli .vector (BitVec.ofNat 32 1) 23#32)

theorem one_eq : Spec.one = word 127 := congrArg (Ideal.ofBits .f32) (by decide : 0x3F800000#32 = IntOp.shli .vector (BitVec.ofNat 32 127) 23#32)

theorem word_127 : word 127 = 1 := by
  rw [word_eq 127 (by omega) (by omega)]; norm_num

theorem word_mono {j k : ℕ} (h : j ≤ k) (hk : k ≤ 255) : word j ≤ word k := by
  rcases Nat.eq_zero_or_pos j with rfl | hj
  · rw [word_zero]
    rcases Nat.eq_zero_or_pos k with rfl | hk0
    · rw [word_zero]
    rcases Nat.lt_or_ge k 255 with h' | h'
    · rw [word_eq k hk0 (by omega)]; exact EReal.coe_nonneg.2 (by positivity)
    · rw [show k = 255 by omega, word_top]; exact le_top
  rcases Nat.lt_or_ge k 255 with h' | h'
  · rw [word_eq k (by omega) (by omega), word_eq j hj (by omega)]
    exact EReal.coe_le_coe_iff.2 (zpow_le_zpow_right₀ (by norm_num) (by omega))
  · rw [show k = 255 by omega, word_top]; exact le_top

/-- The largest exponent field whose power of two does not exceed `y`. -/
theorem exists_exponent (y : EReal) (h0 : 0 ≤ y) (h1 : y < 1) : ∃ E : Fin 127, ∀ k : ℕ, k ≤ 255 → (word k ≤ y ↔ k ≤ E.val) := by
  classical
  refine ⟨⟨Nat.findGreatest (fun k => word k ≤ y) 126, by have := Nat.findGreatest_le (P := fun k => word k ≤ y) 126; exact Nat.lt_succ_of_le this⟩, fun k hk => ⟨fun h => ?_, fun h => ?_⟩⟩
  · have : k ≤ 126 := by
      by_contra hc
      exact absurd (word_127 ▸ (word_mono (show 127 ≤ k by omega) hk).trans h) (not_le.2 h1)
    exact Nat.le_findGreatest this h
  · have h2 : word (Nat.findGreatest (fun k => word k ≤ y) 126) ≤ y :=
      Nat.findGreatest_spec (P := fun k => word k ≤ y) (m := 0) (by omega) (word_zero.le.trans h0)
    have := Nat.findGreatest_le (P := fun k => word k ≤ y) 126
    exact (word_mono h (this.trans (by omega))).trans h2

/-- The count of the powers not above `y`. -/
def count (y : EReal) : BitVec 32 :=
  Finset.univ.fold IntOp.addi (0#32) fun x : Fin 256 => BitVec.setWidth 32 (BitVec.ofBool (decide (word x.val ≤ y)))

/-- The exponent the kernel takes from the count. -/
def expOf (n : BitVec 32) : BitVec 32 :=
  Scalar.select (IntOp.cmpi CmpIPredicate.slt (IntOp.shli ArithUnit.vector (IntOp.subi n 1#32) 23#32) 8388608#32) (0#32)
    (IntOp.subi (IntOp.shrsi ArithUnit.vector (IntOp.shli ArithUnit.vector (IntOp.subi n 1#32) 23#32) 23#32) 126#32)

theorem up_bits : ∀ E : Fin 127, IntOp.addi (expOf (BitVec.ofNat 32 (E.val + 1))) 127#32 = BitVec.ofNat 32 (if E.val = 0 then 127 else E.val + 1) := by decide +kernel
theorem down_bits : ∀ E : Fin 127, IntOp.subi 127#32 (expOf (BitVec.ofNat 32 (E.val + 1))) = BitVec.ofNat 32 (254 - if E.val = 0 then 127 else E.val + 1) := by decide +kernel

theorem card_le : ∀ E : Fin 127, (Finset.univ.filter fun k : Fin 256 => k.val ≤ E.val).card = E.val + 1 := by decide +kernel

theorem count_eq (y : EReal) (E : Fin 127) (hE : ∀ k : ℕ, k ≤ 255 → (word k ≤ y ↔ k ≤ E.val)) : count y = BitVec.ofNat 32 (E.val + 1) := by
  unfold count
  rw [IndicatorCount.fold_addi_setWidth_eq_card, ← card_le E]
  congr 2
  ext k
  simp only [Finset.mem_filter, Finset.mem_univ, true_and]
  rw [← hE k.val (by omega)]
  by_cases h : word k.val ≤ y <;> simp [h]

theorem pw_int : ∀ j : Fin 126, (IntOp.subi (BitVec.ofNat 32 j.val) 125#32).toInt = (j.val : ℤ) - 125 := by decide +kernel

theorem pw_eq (j : Fin 126) : Spec.pw j = word (j.val + 2) := by
  rw [word_eq _ (by omega) (by omega)]
  unfold Spec.pw
  show Ideal.exp2 ((((IntOp.subi (BitVec.ofNat 32 j.val) 125#32).toInt : ℝ)) : EReal) = _
  rw [pw_int, Ideal.exp2_coe]
  congr 1
  show (2 : ℝ) ^ ((((j.val : ℤ) - 125 : ℤ) : ℝ)) = _
  rw [Real.rpow_intCast]
  congr 1
  push_cast
  ring

theorem scaleOf_eq (y : EReal) (E : Fin 127) (hE : ∀ k : ℕ, k ≤ 255 → (word k ≤ y ↔ k ≤ E.val)) :
    Spec.scaleOf y = word (if E.val = 0 then 127 else E.val + 1) := by
  unfold Spec.scaleOf
  rcases Nat.eq_zero_or_pos E.val with h | h
  · have hl : y < Spec.tiny := by rw [tiny_eq, ← not_le, hE 1 (by omega)]; omega
    rw [if_pos h, if_pos hl, one_eq]
  · have hl : ¬ y < Spec.tiny := by rw [tiny_eq, not_lt, hE 1 (by omega)]; omega
    rw [if_neg hl, if_neg (by omega : ¬ E.val = 0)]
    apply le_antisymm
    · refine (Finset.fold_min_le _).2 (Or.inr ⟨⟨E.val - 1, by omega⟩, Finset.mem_univ _, ?_⟩)
      rw [pw_eq]
      have e : E.val - 1 + 2 = E.val + 1 := by omega
      dsimp only
      rw [e, if_pos (by rw [← not_le, hE _ (by omega)]; omega)]
    · refine (Finset.le_fold_min _).2 ⟨?_, fun j _ => ?_⟩
      · rw [pinf_eq]; exact le_top
      · split_ifs with hy
        · rw [pw_eq, ← not_le, hE _ (by omega)] at hy
          rw [pw_eq]
          exact word_mono (by omega) (by omega)
        · rw [pinf_eq]; exact le_top

/-- The scale's bit pattern. -/
theorem scale_word (y : EReal) (h0 : 0 ≤ y) (h1 : y < 1) :
    Ideal.ofBits .f32 (IntOp.shli .vector (IntOp.addi (expOf (count y)) 127#32) 23#32) = Spec.scaleOf y := by
  obtain ⟨E, hE⟩ := exists_exponent y h0 h1
  rw [count_eq y E hE, up_bits, scaleOf_eq y E hE]
  rfl

theorem div_word (m : ℕ) (h1 : 1 ≤ m) (h2 : m ≤ 253) : Ideal.div Spec.one (word m) = word (254 - m) := by
  have e1 : Spec.one = 1 := Ideal.ofBits_one_f32
  rw [e1, word_eq m h1 (by omega), word_eq (254 - m) (by omega) (by omega)]
  unfold Ideal.div
  rw [if_neg (by exact_mod_cast (by positivity : (2 : ℝ) ^ ((m : ℤ) - 127) ≠ 0)), one_mul, ← EReal.coe_inv, ← zpow_neg]
  congr 2
  omega

/-- The inverse scale's bit pattern. -/
theorem inv_word (y : EReal) (h0 : 0 ≤ y) (h1 : y < 1) :
    Ideal.ofBits .f32 (IntOp.shli .vector (IntOp.subi 127#32 (expOf (count y))) 23#32) = Ideal.div Spec.one (Spec.scaleOf y) := by
  obtain ⟨E, hE⟩ := exists_exponent y h0 h1
  rw [count_eq y E hE, down_bits, scaleOf_eq y E hE, div_word _ (by split_ifs <;> omega) (by have := E.isLt; split_ifs <;> omega)]
  rfl

end Cert.Scale

end
-- ==== Proof.Soft.lean ====
module

public import proofs.«01_k».proof.Proof.Spec
public import Idealize.ShloMosaic.Lib.IdealHost

@[expose] public section

set_option maxRecDepth 16384

noncomputable section

/-! A running maximum and a running sum of exponentials over 128 lanes come to the maximum and the sum over all columns,
    whatever the extended reals met; and the gradient never exceeds one in magnitude. -/

namespace Cert.Soft

open Idealize.ShloMosaic

theorem exp_bot' : Ideal.exp ⊥ = 0 := rfl
theorem exp_coe' (r : ℝ) : Ideal.exp (r : EReal) = (Real.exp r : EReal) := rfl

theorem exp_nonneg (x : EReal) : 0 ≤ Ideal.exp x := by
  induction x with
  | bot => exact le_rfl
  | top => exact le_top
  | coe r => exact EReal.coe_nonneg.2 (Real.exp_pos r).le

theorem exp_le_one {x : EReal} (h : x ≤ 0) : Ideal.exp x ≤ 1 := by
  induction x with
  | bot => exact zero_le_one
  | top => exact absurd h (by simp)
  | coe r =>
    rw [exp_coe']
    exact_mod_cast Real.exp_le_one_iff.2 (by exact_mod_cast h)

theorem ninf_eq : Spec.ninf = ⊥ := by
  show Ideal.ieee 8 23 (0xFF800000#32) = ⊥
  unfold Ideal.ieee
  have a : ((0xFF800000#32).extractLsb' (8 + 23) 1 == 1#1) = true := by decide
  have b : ((0xFF800000#32).extractLsb' 23 8).toNat = 255 := by decide
  have c : ((0xFF800000#32).extractLsb' 0 23).toNat = 0 := by decide
  dsimp only
  rw [a, b, c, if_pos (by norm_num), if_pos rfl, if_pos rfl]

theorem sub_top' (x : EReal) : x - ⊤ = ⊥ := by rw [sub_eq_add_neg]; show x + ⊥ = ⊥; exact EReal.add_bot x
theorem bot_sub' (x : EReal) : ⊥ - x = ⊥ := by rw [sub_eq_add_neg]; exact EReal.bot_add _

section sums

variable {ι : Type} (S : Finset ι) (f : ι → EReal)

theorem sum_nonneg' (g : ι → EReal) (h : ∀ i, 0 ≤ g i) : 0 ≤ ∑ i ∈ S, g i := Finset.sum_nonneg fun i _ => h i

theorem sum_mul' (g : ι → EReal) (h : ∀ i, 0 ≤ g i) (c : EReal) : (∑ i ∈ S, g i) * c = ∑ i ∈ S, g i * c := by
  classical
  induction S using Finset.induction_on with
  | empty => simp
  | insert a S ha ih =>
    rw [Finset.sum_insert ha, Finset.sum_insert ha, EReal.right_distrib_of_nonneg (h a) (sum_nonneg' S g h), ih]

/-- Rescaling a sum of exponentials from one bound of the exponents to a larger one. -/
theorem rescale (m m' : EReal) (hm : ∀ i ∈ S, f i ≤ m) (hmm : m ≤ m') :
    (∑ i ∈ S, Ideal.exp (f i - m)) * Ideal.exp (m - m') = ∑ i ∈ S, Ideal.exp (f i - m') := by
  rw [sum_mul' S _ (fun i => exp_nonneg _)]
  refine Finset.sum_congr rfl fun i hi => ?_
  have h := hm i hi
  induction m with
  | bot =>
    rw [le_bot_iff.1 h, bot_sub', bot_sub', exp_bot', zero_mul]
  | top =>
    rw [top_le_iff.1 hmm, sub_top', sub_top', exp_bot', mul_zero]
  | coe m =>
    induction m' with
    | bot => exact absurd hmm (by simp)
    | top => rw [sub_top', sub_top', exp_bot', mul_zero]
    | coe m' =>
      generalize f i = x at h
      induction x with
      | bot => rw [bot_sub', bot_sub', exp_bot', zero_mul]
      | top => exact absurd h (by simp)
      | coe x =>
        rw [← EReal.coe_sub, ← EReal.coe_sub, ← EReal.coe_sub, exp_coe', exp_coe', exp_coe', ← EReal.coe_mul, ← Real.exp_add]
        congr 2
        ring

end sums

/-- The columns before `n` that fall in lane `l`. -/
def lane (n : ℕ) (l : Fin 128) : Finset (Fin 7168) := Finset.univ.filter fun p => p.val < n ∧ p.val % 128 = l.val

theorem mem_lane {n : ℕ} {l : Fin 128} {p : Fin 7168} : p ∈ lane n l ↔ p.val < n ∧ p.val % 128 = l.val := by simp [lane]

theorem lane_zero (l : Fin 128) : lane 0 l = ∅ := by
  ext p; simp [mem_lane]

theorem lane_succ (n : ℕ) (l : Fin 128) (hn : n % 128 = 0) (hn' : n + 128 ≤ 7168) : lane (n + 128) l = insert ⟨n + l.val, by omega⟩ (lane n l) := by
  ext p
  simp only [Finset.mem_insert, mem_lane, Fin.ext_iff]
  omega

theorem not_mem_lane (n : ℕ) (l : Fin 128) (hn' : n + 128 ≤ 7168) : (⟨n + l.val, by omega⟩ : Fin 7168) ∉ lane n l := by
  rw [mem_lane]; dsimp only; omega

variable (f : Fin 7168 → EReal)

/-- The largest of a lane's columns before `n`. -/
def top (n : ℕ) (l : Fin 128) : EReal := (lane n l).fold max Spec.ninf f
/-- The sum over a lane's columns before `n`. -/
def tot (n : ℕ) (l : Fin 128) : EReal := ∑ p ∈ lane n l, f p

theorem top_zero (l : Fin 128) : top f 0 l = Spec.ninf := by unfold top; rw [lane_zero]; rfl
theorem tot_zero (l : Fin 128) : tot f 0 l = 0 := by unfold tot; rw [lane_zero]; rfl

theorem top_succ (n : ℕ) (l : Fin 128) (hn : n % 128 = 0) (hn' : n + 128 ≤ 7168) : top f (n + 128) l = max (f ⟨n + l.val, by omega⟩) (top f n l) := by
  unfold top; rw [lane_succ n l hn hn', Finset.fold_insert (not_mem_lane n l hn')]

theorem tot_succ (n : ℕ) (l : Fin 128) (hn : n % 128 = 0) (hn' : n + 128 ≤ 7168) : tot f (n + 128) l = f ⟨n + l.val, by omega⟩ + tot f n l := by
  unfold tot; rw [lane_succ n l hn hn', Finset.sum_insert (not_mem_lane n l hn')]

theorem le_top' {n : ℕ} {l : Fin 128} {p : Fin 7168} (h : p ∈ lane n l) : f p ≤ top f n l :=
  (Finset.le_fold_max _).2 (Or.inr ⟨p, h, le_rfl⟩)

/-- The running sum of a lane. -/
def run (n : ℕ) (l : Fin 128) : EReal := tot (fun p => Ideal.exp (f p - top f n l)) n l

theorem top_step (n : ℕ) (l : Fin 128) (hn : n % 128 = 0) (hn' : n + 512 ≤ 7168) :
    max (top f n l) (max (max (max (f ⟨n + l.val, by omega⟩) (f ⟨n + (128 + l.val), by omega⟩)) (f ⟨n + (256 + l.val), by omega⟩)) (f ⟨n + (384 + l.val), by omega⟩))
      = top f (n + 512) l := by
  have e4 := top_succ f (n + 128 + 128 + 128) l (by omega) (by omega)
  rw [top_succ f (n + 128 + 128) l (by omega) (by omega), top_succ f (n + 128) l (by omega) (by omega), top_succ f n l hn (by omega)] at e4
  refine Eq.trans ?_ e4.symm
  simp only [Nat.add_assoc, Nat.reduceAdd]
  ac_rfl

theorem run_step (n : ℕ) (l : Fin 128) (hn : n % 128 = 0) (hn' : n + 512 ≤ 7168) (m' : EReal) (hm : m' = top f (n + 512) l) :
    run f n l * Ideal.exp (top f n l - m') + Ideal.exp (f ⟨n + l.val, by omega⟩ - m') + Ideal.exp (f ⟨n + (128 + l.val), by omega⟩ - m')
        + Ideal.exp (f ⟨n + (256 + l.val), by omega⟩ - m') + Ideal.exp (f ⟨n + (384 + l.val), by omega⟩ - m')
      = run f (n + 512) l := by
  unfold run
  rw [← hm]
  have hle : top f n l ≤ m' := by rw [hm, ← top_step f n l hn hn']; exact le_max_left _ _
  have e0 : tot (fun p => Ideal.exp (f p - top f n l)) n l * Ideal.exp (top f n l - m') = tot (fun p => Ideal.exp (f p - m')) n l :=
    rescale (lane n l) f _ m' (fun i hi => le_top' f hi) hle
  have e4 := tot_succ (fun p => Ideal.exp (f p - m')) (n + 128 + 128 + 128) l (by omega) (by omega)
  rw [tot_succ _ (n + 128 + 128) l (by omega) (by omega), tot_succ _ (n + 128) l (by omega) (by omega), tot_succ _ n l hn (by omega)] at e4
  rw [e0]
  refine Eq.trans ?_ e4.symm
  simp only [Nat.add_assoc, Nat.reduceAdd]
  ac_rfl

theorem lane_all (p : Fin 7168) : p ∈ lane 7168 ⟨p.val % 128, by omega⟩ := by rw [mem_lane]; exact ⟨p.isLt, rfl⟩

/-- The lanes' maxima come to the maximum. -/
theorem top_all : (Finset.univ.fold max Spec.ninf fun l => top f 7168 l) = Finset.univ.fold max Spec.ninf f := by
  refine eq_of_forall_ge_iff fun c => ?_
  unfold top
  simp only [Finset.fold_max_le, Finset.mem_univ, true_implies]
  exact ⟨fun ⟨h0, h⟩ => ⟨h0, fun p => (h _).2 p (lane_all p)⟩, fun ⟨h0, h⟩ => ⟨h0, fun l => ⟨h0, fun p _ => h p⟩⟩⟩

/-- The lanes' sums come to the sum. -/
theorem tot_all : ∑ l, tot f 7168 l = ∑ p, f p := by
  unfold tot
  rw [← Finset.sum_fiberwise (s := Finset.univ) (g := fun p : Fin 7168 => (⟨p.val % 128, by omega⟩ : Fin 128))]
  refine Finset.sum_congr rfl fun l _ => Finset.sum_congr ?_ fun _ _ => rfl
  ext p
  simp only [mem_lane, Finset.mem_filter, Finset.mem_univ, true_and, Fin.ext_iff]
  exact ⟨fun h => h.2, fun h => ⟨p.isLt, h⟩⟩

/-- The lanes' running sums, brought to the common maximum, come to the sum of exponentials. -/
theorem run_all (M : EReal) (hM : M = Finset.univ.fold max Spec.ninf f) :
    ∑ l, run f 7168 l * Ideal.exp (top f 7168 l - M) = ∑ p, Ideal.exp (f p - M) := by
  rw [← tot_all]
  refine Finset.sum_congr rfl fun l _ => ?_
  unfold run tot
  rw [rescale (lane 7168 l) f (top f 7168 l) M (fun i hi => le_top' f hi)]
  rw [hM, ← top_all f]
  exact (Finset.le_fold_max _).2 (Or.inr ⟨l, Finset.mem_univ _, le_rfl⟩)

/-! ### The size of the gradient -/

variable (P : Spec.Inp) (b : Fin 2)

theorem X_le (r : Fin 896) (k : Fin 7168) : Spec.X P b r k ≤ Spec.M P b r := (Finset.le_fold_max _).2 (Or.inr ⟨k, Finset.mem_univ _, le_rfl⟩)

theorem log_nonneg {x : EReal} (h : 1 ≤ x) : 0 ≤ Ideal.log x := by
  induction x with
  | bot => exact absurd (lt_of_lt_of_le zero_lt_one h) not_lt_bot
  | top => exact le_top
  | coe r =>
    have h' : (1 : ℝ) ≤ r := by exact_mod_cast h
    show 0 ≤ (if r ≤ 0 then ⊥ else (Real.log r : EReal))
    rw [if_neg (by linarith)]
    exact EReal.coe_nonneg.2 (Real.log_nonneg h')

theorem logp_nonpos (r : Fin 896) (k : Fin 7168) : Spec.logp P b r k ≤ 0 := by
  have hx := X_le P b r k
  unfold Spec.logp
  by_cases hr : ∃ m : ℝ, Spec.M P b r = (m : EReal)
  · obtain ⟨m, hm⟩ := hr
    have hk : ∃ k', Spec.X P b r k' = Spec.M P b r := by
      have h := (Finset.le_fold_max (s := (Finset.univ : Finset (Fin 7168))) (f := Spec.X P b r) (b := Spec.ninf) (Spec.M P b r)).1 le_rfl
      rcases h with h | ⟨k', -, h⟩
      · rw [ninf_eq, hm] at h; exact absurd h (by simp)
      · exact ⟨k', le_antisymm (X_le P b r k') h⟩
    obtain ⟨k', hk'⟩ := hk
    have h1 : 1 ≤ ∑ k, Ideal.exp (Spec.X P b r k - Spec.M P b r) := by
      refine le_trans ?_ (Finset.single_le_sum (f := fun k => Ideal.exp (Spec.X P b r k - Spec.M P b r)) (fun i _ => exp_nonneg _) (Finset.mem_univ k'))
      rw [hk', hm, ← EReal.coe_sub, sub_self, exp_coe', Real.exp_zero]
      exact le_rfl
    have h2 : 0 ≤ Spec.L P b r := log_nonneg h1
    have h3 : Spec.X P b r k - Spec.M P b r ≤ 0 := by
      rw [hm] at hx ⊢
      generalize Spec.X P b r k = x at hx
      induction x with
      | bot => rw [bot_sub']; exact bot_le
      | top => exact absurd hx (by simp)
      | coe x => rw [← EReal.coe_sub]; exact_mod_cast sub_nonpos.2 (by exact_mod_cast hx)
    calc Spec.X P b r k - Spec.M P b r - Spec.L P b r ≤ 0 - 0 := EReal.sub_le_sub h3 h2
      _ = 0 := sub_zero _
  · have h : Spec.X P b r k - Spec.M P b r = ⊥ := by
      rcases h : Spec.M P b r with _ | _ | m
      · have h' : Spec.M P b r = ⊥ := h
        rw [h'] at hx
        rw [le_bot_iff.1 hx]; exact bot_sub' _
      · exact sub_top' _
      · exact absurd ⟨m, h⟩ hr
    rw [h, bot_sub']
    exact bot_le

theorem absv_dl (r : Fin 896) (k : Fin 7168) : Spec.absv (Spec.dl P b r k) ≤ 1 := by
  have h0 := exp_nonneg (Spec.logp P b r k)
  have h1 := exp_le_one (logp_nonpos P b r k)
  have e1 : Spec.one = 1 := Ideal.ofBits_one_f32
  show max (Spec.dl P b r k) (-Spec.dl P b r k) ≤ 1
  unfold Spec.dl
  generalize Ideal.exp (Spec.logp P b r k) = x at h0 h1
  induction x with
  | bot => exact absurd h0 (by simp)
  | top => exact absurd h1 (by rw [not_le]; exact EReal.coe_lt_top 1)
  | coe x =>
    have h0' : (0 : ℝ) ≤ x := by exact_mod_cast h0
    have h1' : x ≤ (1 : ℝ) := by exact_mod_cast h1
    split_ifs
    · rw [e1, ← EReal.coe_one, ← EReal.coe_sub, ← EReal.coe_neg, max_le_iff]
      exact ⟨by exact_mod_cast (by linarith : x - 1 ≤ 1), by exact_mod_cast (by linarith : -(x - 1) ≤ 1)⟩
    · rw [sub_zero, ← EReal.coe_one, ← EReal.coe_neg, max_le_iff]
      exact ⟨by exact_mod_cast h1', by exact_mod_cast (by linarith : -x ≤ 1)⟩

theorem recMax_bounds : ∃ c : ℝ, 0 ≤ c ∧ c < 1 ∧ Spec.recMax = (c : EReal) := by
  refine ⟨(2 ^ 23 + 1198373 : ℕ) * (2 : ℝ) ^ (111 - 127 - 23 : ℤ), by positivity, by norm_num, ?_⟩
  show Ideal.ieee 8 23 (0x37924925#32) = _
  unfold Ideal.ieee
  have a : ((0x37924925#32).extractLsb' (8 + 23) 1 == 1#1) = false := by decide
  have b : ((0x37924925#32).extractLsb' 23 8).toNat = 111 := by decide
  have c : ((0x37924925#32).extractLsb' 0 23).toNat = 1198373 := by decide
  dsimp only
  rw [a, b, c, if_neg (by norm_num), if_neg (by norm_num)]
  norm_num

theorem y_bounds (k : Fin 7168) : 0 ≤ Spec.y P b k ∧ Spec.y P b k < 1 := by
  obtain ⟨c, hc0, hc1, hc⟩ := recMax_bounds
  unfold Spec.y
  have h0 : 0 ≤ Finset.univ.fold max Spec.ninf fun r => Spec.absv (Spec.dl P b r k) := by
    refine (Finset.le_fold_max _).2 (Or.inr ⟨0, Finset.mem_univ _, ?_⟩)
    show 0 ≤ max (Spec.dl P b 0 k) (-Spec.dl P b 0 k)
    rcases le_total 0 (Spec.dl P b 0 k) with h | h
    · exact le_max_of_le_left h
    · exact le_max_of_le_right (by rwa [EReal.neg_nonneg])
  have h1 : (Finset.univ.fold max Spec.ninf fun r => Spec.absv (Spec.dl P b r k)) ≤ 1 :=
    (Finset.fold_max_le _).2 ⟨by rw [ninf_eq]; exact bot_le, fun r _ => absv_dl P b r k⟩
  generalize (Finset.univ.fold max Spec.ninf fun r => Spec.absv (Spec.dl P b r k)) = x at h0 h1
  rw [hc]
  induction x with
  | bot => exact absurd h0 (by simp)
  | top => exact absurd h1 (by rw [not_le]; exact EReal.coe_lt_top 1)
  | coe x =>
    have h0' : (0 : ℝ) ≤ x := by exact_mod_cast h0
    have h1' : x ≤ (1 : ℝ) := by exact_mod_cast h1
    rw [← EReal.coe_mul]
    exact ⟨EReal.coe_nonneg.2 (mul_nonneg h0' hc0), by exact_mod_cast (by nlinarith : x * c < 1)⟩

end Cert.Soft

end
-- ==== Proof.Ideal.BlockB.lean ====
module

public import proofs.«01_k».proof.Proof.Ideal.PayA
public import proofs.«01_k».proof.Proof.Ideal.Scale
public import proofs.«01_k».proof.Proof.Soft
public import Idealize.ShloMosaic.Lib.Pointwise
public import Idealize.ShloMosaic.Lib.WritesUnit
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.SL.Sem

open Cert

/-! Blocks of 128 rows and 128 columns of the functions of the specification, and what the operations of phase B make of them. -/

/-- The block of `f` at row `R` and column `C`. -/
def blk (φ : FTy) (f : Fin 896 → Fin 7168 → EReal) (R C : ℕ) (hR : R + 128 ≤ 896) (hC : C + 128 ≤ 7168) : FVec Ideal S128x128 φ :=
  fun j => f ⟨R + (j 0).val, by have : (j 0).val < 128 := (j 0).isLt; omega⟩ ⟨C + (j 1).val, by have : (j 1).val < 128 := (j 1).isLt; omega⟩

/-- A block constant along rows. -/
def rowBlk (f : Fin 896 → EReal) (R : ℕ) (hR : R + 128 ≤ 896) : FVec Ideal S128x128 .f32 :=
  fun j => f ⟨R + (j 0).val, by have : (j 0).val < 128 := (j 0).isLt; omega⟩

variable (P : Spec.Inp) (b : Fin 2)

theorem cast_blk (v : FVec Ideal S128x128 .f32) : shapeCast S128x128 v shapeCasts_S128x128_S128x128 = v := by
  funext j; pointwise

theorem cast_blk8 (v : FVec Ideal S128x128 .fp8e5m2) : shapeCast S128x128 v shapeCasts_S128x128_S128x128 = v := by
  funext j; pointwise

theorem logp_blk (R C : ℕ) (hR : R + 128 ≤ 896) (hC : C + 128 ≤ 7168) :
    subf (subf (blk .f32 (Spec.X P b) R C hR hC) (rowBlk (Spec.M P b) R hR)) (rowBlk (Spec.L P b) R hR) = blk .f32 (Spec.logp P b) R C hR hC := rfl

/-- Whether a column is the row's label, over a block. -/
def hitBlk (R C : ℕ) (hR : R + 128 ≤ 896) (hC : C + 128 ≤ 7168) : IVec S128x128 1 :=
  fun j => BitVec.ofBool (decide (Spec.hit P b ⟨R + (j 0).val, by have : (j 0).val < 128 := (j 0).isLt; omega⟩ ⟨C + (j 1).val, by have : (j 1).val < 128 := (j 1).isLt; omega⟩))

theorem hit_blk (c : BitVec 32) (R C : ℕ) (hR : R + 128 ≤ 896) (hC : C + 128 ≤ 7168) (hc : c = BitVec.ofNat 32 C) (x6 : Vec Ideal S1x896x1 .i32)
    (h6 : ∀ r, x6 (ix3 0 r 0) = P.pos b r) (hs : S896x1.Slices ![R, 0] S128x1) :
    cmpi .eq (addi (iota Kind.tc S128x128 32 [1] iota_S128x128_d1_w32) (broadcast S128x128 c))
      (broadcastTo S128x128 (extractStridedSlice S128x1 ![R, 0] (shapeCast S896x1 x6 shapeCasts_S1x896x1_S896x1) hs) broadcasts_S128x1_S128x128)
      = hitBlk P b R C hR hC := by
  subst hc
  have e : ∀ q l : Fin 128, cmpi .eq (addi (iota Kind.tc S128x128 32 [1] iota_S128x128_d1_w32) (broadcast S128x128 (BitVec.ofNat 32 C)))
      (broadcastTo S128x128 (extractStridedSlice S128x1 ![R, 0] (shapeCast S896x1 x6 shapeCasts_S1x896x1_S896x1) hs) broadcasts_S128x1_S128x128) (ix2 q l)
      = IntOp.cmpi .eq (IntOp.addi (BitVec.ofNat 32 l.val) (BitVec.ofNat 32 C)) (x6 (ix3 0 ⟨R + q.val, by omega⟩ 0)) := by
    intro q l
    pointwise
  funext j
  obtain ⟨q, l, rfl⟩ : ∃ (q : Fin 128) (l : Fin 128), j = ix2 q l := ⟨j 0, j 1, by funext a; match a with | ⟨0, _⟩ => rfl | ⟨1, _⟩ => rfl⟩
  rw [e, h6]
  unfold IntOp.cmpi IntOp.addi hitBlk
  rw [← BitVec.ofNat_add, Nat.add_comm]
  rfl

theorem dl_blk (R C : ℕ) (hR : R + 128 ≤ 896) (hC : C + 128 ≤ 7168) :
    select (hitBlk P b R C hR hC) (subf (exp (blk .f32 (Spec.logp P b) R C hR hC)) (broadcast S128x128 (Scalar.ofBits (F := Ideal) .f32 0x3F800000#32))) (exp (blk .f32 (Spec.logp P b) R C hR hC))
      = blk .f32 (Spec.dl P b) R C hR hC := by
  funext j
  show (if hitBlk P b R C hR hC j = 1#1 then _ else _) = _
  unfold hitBlk
  by_cases h : Spec.hit P b ⟨R + (j 0).val, by have : (j 0).val < 128 := (j 0).isLt; omega⟩ ⟨C + (j 1).val, by have : (j 1).val < 128 := (j 1).isLt; omega⟩
  · rw [if_pos (by simp [h])]
    unfold blk Spec.dl
    rw [if_pos h]
    rfl
  · rw [if_neg (by simp [h])]
    unfold blk Spec.dl
    rw [if_neg h, sub_zero]
    rfl

/-- The columns' largest magnitudes so far, eight rows of them. -/
def absBlk (R C : ℕ) (hR : R + 128 ≤ 896) (hC : C + 128 ≤ 7168) (f : Fin 896 → Fin 7168 → EReal) : FVec Ideal S8x128 .f32 :=
  fun j => Finset.univ.fold max Spec.ninf fun i : Fin 16 => Spec.absv (f ⟨R + (i.val * 8 + (j 0).val), by have : (j 0).val < 8 := (j 0).isLt; omega⟩ ⟨C + (j 1).val, by have : (j 1).val < 128 := (j 1).isLt; omega⟩)

theorem abs_blk (f : Fin 896 → Fin 7168 → EReal) (R C : ℕ) (hR : R + 128 ≤ 896) (hC : C + 128 ≤ 7168) :
    multiReduction .maximumf [0] S8x128 (shapeCast S16x8x128 (absf (blk .f32 f R C hR hC)) shapeCasts_S128x128_S16x8x128) 0xFF800000#32 reduces_S16x8x128_S8x128 (.inl rfl) rfl
      = absBlk R C hR hC f := by
  funext j
  unfold absBlk blk Spec.ninf Spec.absv
  pointwise

/-- What is left of a row's label logit, over a block. -/
def labBlk (R C : ℕ) (hR : R + 128 ≤ 896) (hC : C + 128 ≤ 7168) (old : FVec Ideal S128x128 .f32) : FVec Ideal S128x128 .f32 :=
  select (hitBlk P b R C hR hC) (blk .f32 (Spec.logp P b) R C hR hC) old

/-- A row of 128 columns. -/
def rowOf (f : Fin 7168 → EReal) (C : ℕ) (hC : C + 128 ≤ 7168) : FVec Ideal S1x128 .f32 :=
  fun j => f ⟨C + (j 1).val, by have : (j 1).val < 128 := (j 1).isLt; omega⟩

theorem code_blk (R C : ℕ) (hR : R + 128 ≤ 896) (hC : C + 128 ≤ 7168) :
    truncf .fp8e5m2 (minimumf (broadcast S128x128 (Scalar.ofBits (F := Ideal) .f32 0x47600000#32)) (maximumf (broadcast S128x128 (Scalar.ofBits (F := Ideal) .f32 0xC7600000#32))
      (mulf (blk .f32 (Spec.dl P b) R C hR hC) (broadcastTo S128x128 (rowOf (fun k => Ideal.div Spec.one (Spec.scale P b k)) C hC) broadcasts_S1x128_S128x128)))) bitsLt_fp8e5m2_f32
      = blk .fp8e5m2 (Spec.code P b) R C hR hC := by
  funext j
  unfold blk rowOf Spec.code Spec.hi Spec.lo
  pointwise

theorem absv_nonneg (x : EReal) : 0 ≤ Spec.absv x := by
  show 0 ≤ max x (-x)
  rcases le_total 0 x with h | h
  · exact le_max_of_le_left h
  · exact le_max_of_le_right (by rwa [EReal.neg_nonneg])

/-- The largest magnitude of a column, found in blocks of 128 rows, 8 running maxima each. -/
theorem fold_rows (f : Fin 896 → Fin 7168 → EReal) (k : Fin 7168) (g : (R : ℕ) → R + 128 ≤ 896 → Fin 8 → EReal)
    (hg : ∀ R hR x, g R hR x = Finset.univ.fold max Spec.ninf fun i : Fin 16 => Spec.absv (f ⟨R + (i.val * 8 + x.val), by omega⟩ k)) :
    (Finset.univ.fold max Spec.ninf fun x : Fin 8 => max (max (max (max (max (max (max 0 (g 0 (by omega) x)) (g 128 (by omega) x)) (g 256 (by omega) x)) (g 384 (by omega) x)) (g 512 (by omega) x)) (g 640 (by omega) x)) (g 768 (by omega) x))
      = Finset.univ.fold max Spec.ninf fun r => Spec.absv (f r k) := by
  refine eq_of_forall_ge_iff fun c => ?_
  simp only [hg, Finset.fold_max_le, max_le_iff, Finset.mem_univ, true_implies]
  constructor
  · rintro ⟨h0, h⟩
    refine ⟨h0, fun r => ?_⟩
    obtain ⟨⟨⟨⟨⟨⟨⟨-, -, a0⟩, -, a1⟩, -, a2⟩, -, a3⟩, -, a4⟩, -, a5⟩, -, a6⟩ := h ⟨r.val % 8, by omega⟩
    have e : ∀ R (hR : R + 128 ≤ 896), R ≤ r.val → r.val < R + 128 → R % 8 = 0 → ∃ i : Fin 16, r = ⟨R + (i.val * 8 + r.val % 8), by have := i.isLt; omega⟩ := fun R hR h1 h2 h3 =>
      ⟨⟨(r.val - R) / 8, by omega⟩, Fin.ext (by show r.val = R + ((r.val - R) / 8 * 8 + r.val % 8); omega)⟩
    have hr := r.isLt
    by_cases c1 : r.val < 128
    · obtain ⟨i, e⟩ := e 0 (by omega) (by omega) c1 rfl; rw [e]; exact a0 i
    by_cases c2 : r.val < 256
    · obtain ⟨i, e⟩ := e 128 (by omega) (by omega) c2 rfl; rw [e]; exact a1 i
    by_cases c3 : r.val < 384
    · obtain ⟨i, e⟩ := e 256 (by omega) (by omega) c3 rfl; rw [e]; exact a2 i
    by_cases c4 : r.val < 512
    · obtain ⟨i, e⟩ := e 384 (by omega) (by omega) c4 rfl; rw [e]; exact a3 i
    by_cases c5 : r.val < 640
    · obtain ⟨i, e⟩ := e 512 (by omega) (by omega) c5 rfl; rw [e]; exact a4 i
    by_cases c6 : r.val < 768
    · obtain ⟨i, e⟩ := e 640 (by omega) (by omega) c6 rfl; rw [e]; exact a5 i
    · obtain ⟨i, e⟩ := e 768 (by omega) (by omega) (by omega) rfl; rw [e]; exact a6 i
  · rintro ⟨h0, h⟩
    exact ⟨h0, fun x => ⟨⟨⟨⟨⟨⟨⟨(absv_nonneg _).trans (h 0), h0, fun i => h _⟩, h0, fun i => h _⟩, h0, fun i => h _⟩, h0, fun i => h _⟩, h0, fun i => h _⟩, h0, fun i => h _⟩, h0, fun i => h _⟩⟩

theorem y_row (C : ℕ) (hC : C + 128 ≤ 7168) (f : Fin 896 → Fin 7168 → EReal) (v : FVec Ideal S8x128 .f32)
    (hv : v = maximumf (maximumf (maximumf (maximumf (maximumf (maximumf (maximumf (broadcast S8x128 (Scalar.ofBits (F := Ideal) .f32 0x00000000#32)) (absBlk 0 C (by omega) hC f)) (absBlk 128 C (by omega) hC f))
      (absBlk 256 C (by omega) hC f)) (absBlk 384 C (by omega) hC f)) (absBlk 512 C (by omega) hC f)) (absBlk 640 C (by omega) hC f)) (absBlk 768 C (by omega) hC f)) :
    mulf (shapeCast S1x128 (multiReduction .maximumf [0] S128 v 0xFF800000#32 reduces_S8x128_S128 (.inl rfl) rfl) shapeCasts_S128_S1x128) (broadcast S1x128 (Scalar.ofBits (F := Ideal) .f32 0x37924925#32))
      = rowOf (fun k => (Finset.univ.fold max Spec.ninf fun r => Spec.absv (f r k)) * Spec.recMax) C hC := by
  subst hv
  funext j
  unfold rowOf Spec.recMax
  pointwise
  congr 1
  exact fold_rows f ⟨C + (j 1).val, by have : (j 1).val < 128 := (j 1).isLt; omega⟩ (fun R hR x => absBlk R C hR hC f (ix2 x (j 1))) fun R hR x => rfl

/-! ### The scale of a block of columns -/

theorem ix1x (j : S1x128.Idx) : ∃ l : Fin 128, j = ix2 0 l :=
  ⟨j 1, by funext a; match a with
    | ⟨0, _⟩ => exact Fin.ext (by have : (j 0).val < 1 := (j 0).isLt; show (j 0).val = 0; omega)
    | ⟨1, _⟩ => rfl⟩

theorem expo_apply (v : FVec Ideal S1x128 .f32) (l : Fin 128) :
    k0_pay108 (F := Ideal) v (iota Kind.tc S256x128 32 [0] iota_S256x128_d0_w32) (ix2 0 l) = Scale.expOf (Scale.count (v (ix2 0 l))) := by
  unfold Scale.expOf Scale.count Scale.word
  pointwise [k0_pay108]

theorem expo'_eq (v : FVec Ideal S8x128 .f32) :
    k0_pay144 (F := Ideal) v = k0_pay108 (F := Ideal) (k0_pay107 (F := Ideal) v) (iota Kind.tc S256x128 32 [0] iota_S256x128_d0_w32) := rfl

/-- The exponents of a block of columns. -/
def expoRow (C : ℕ) (hC : C + 128 ≤ 7168) : IVec S1x128 32 := fun j => Scale.expOf (Scale.count (Spec.y P b ⟨C + (j 1).val, by have : (j 1).val < 128 := (j 1).isLt; omega⟩))

theorem expo_row (C : ℕ) (hC : C + 128 ≤ 7168) :
    k0_pay108 (F := Ideal) (rowOf (Spec.y P b) C hC) (iota Kind.tc S256x128 32 [0] iota_S256x128_d0_w32) = expoRow P b C hC := by
  funext j
  obtain ⟨l, rfl⟩ := ix1x j
  rw [expo_apply]
  rfl

theorem up_row (C : ℕ) (hC : C + 128 ≤ 7168) : k0_pay145 (F := Ideal) (expoRow P b C hC) = rowOf (Spec.scale P b) C hC := by
  funext j
  obtain ⟨l, rfl⟩ := ix1x j
  have h := Soft.y_bounds P b ⟨C + l.val, by omega⟩
  refine Eq.trans ?_ (Scale.scale_word _ h.1 h.2)
  unfold expoRow
  pointwise [k0_pay145]

theorem down_row (C : ℕ) (hC : C + 128 ≤ 7168) : k0_pay146 (F := Ideal) (expoRow P b C hC) = rowOf (fun k => Ideal.div Spec.one (Spec.scale P b k)) C hC := by
  funext j
  obtain ⟨l, rfl⟩ := ix1x j
  have h := Soft.y_bounds P b ⟨C + l.val, by omega⟩
  refine Eq.trans ?_ (Scale.inv_word _ h.1 h.2)
  unfold expoRow
  pointwise [k0_pay146]

theorem scale_row (C : ℕ) (hC : C + 128 ≤ 7168) :
    k0_pay109 (F := Ideal) (rowOf (Spec.y P b) C hC) (iota Kind.tc S256x128 32 [0] iota_S256x128_d0_w32) = rowOf (Spec.scale P b) C hC := by
  rw [← up_row, ← expo_row]; rfl

theorem inv_row (C : ℕ) (hC : C + 128 ≤ 7168) :
    k0_pay110 (F := Ideal) (rowOf (Spec.y P b) C hC) (iota Kind.tc S256x128 32 [0] iota_S256x128_d0_w32) = rowOf (fun k => Ideal.div Spec.one (Spec.scale P b k)) C hC := by
  rw [← down_row, ← expo_row]; rfl

/-- The scales times the passages' scales. -/
theorem weight_row (C : ℕ) (hC : C + 128 ≤ 7168) (v : Vec Ideal S1x1x128 .f32) (f : Fin 7168 → EReal)
    (hv : ∀ l : Fin 128, v (ix3 0 0 l) = f ⟨C + l.val, by omega⟩) :
    mulf (rowOf (Spec.scale P b) C hC) (shapeCast S1x128 v shapeCasts_S1x1x128_S1x128) = rowOf (fun k => Spec.scale P b k * f k) C hC := by
  funext j
  obtain ⟨l, rfl⟩ := ix1x j
  unfold rowOf
  pointwise
  rw [hv]

theorem cast_row (v : FVec Ideal S1x128 .f32) : shapeCast S1x128 v shapeCasts_S1x128_S1x128 = v := by
  funext j; pointwise

/-- A block of the codes, as the output window holds it. -/
theorem code_out (R C : ℕ) (hR : R + 128 ≤ 896) (hC : C + 128 ≤ 7168) (r l : Fin 128) :
    shapeCast S1x128x128 (blk .fp8e5m2 (Spec.code P b) R C hR hC) shapeCasts_S128x128_S1x128x128 (ix3 0 r l) = Spec.code P b ⟨R + r.val, by omega⟩ ⟨C + l.val, by omega⟩ := by
  unfold blk
  pointwise

/-- A block of the codes transposed. -/
theorem code_tr (R C : ℕ) (hR : R + 128 ≤ 896) (hC : C + 128 ≤ 7168) (l r : Fin 128) :
    shapeCast S128x128 (transpose S128x128 [1, 0] (extf .bf16 (blk .fp8e5m2 (Spec.code P b) R C hR hC) bitsLt_fp8e5m2_bf16) transposes_S128x128_p1_0_S128x128) shapeCasts_S128x128_S128x128 (ix2 l r)
      = Spec.code P b ⟨R + r.val, by omega⟩ ⟨C + l.val, by omega⟩ := by
  unfold blk
  pointwise

/-- A block of the passages' gradient: transposed codes against the weighted queries, times the scale. -/
theorem grad_block (C : ℕ) (hC : C + 128 ≤ 7168) (t : Vec Ideal S128x896 .bf16) (w : Vec Ideal S896x2560 .bf16)
    (ht : ∀ (l : Fin 128) (r : Fin 896), t (ix2 l r) = Spec.code P b r ⟨C + l.val, by omega⟩) (hw : ∀ r d, w (ix2 r d) = (P.q b r d * P.qs b r : EReal)) (l : Fin 128) (d : Fin 2560) :
    k0_pay143 (F := Ideal) (k0_pay142 (F := Ideal) (rowOf (Spec.scale P b) C hC)) t w (ix3 0 l d) = Spec.dp P b ⟨C + l.val, by omega⟩ d := by
  unfold Spec.dp Spec.tau rowOf
  pointwise [k0_pay143, k0_pay142]
  simp only [ht, hw]

theorem grad_block' (v : FVec Ideal S1x128 .f32) (t : Vec Ideal S128x896 .bf16) (w : Vec Ideal S896x2560 .bf16) :
    k0_pay10 (F := Ideal) (k0_pay179 (F := Ideal) v) t w = k0_pay143 (F := Ideal) (k0_pay142 (F := Ideal) v) t w := rfl

end Cert.KernelIdeal.Run

end
-- ==== Proof.Ideal.StepB.lean ====
module

public import proofs.«01_k».proof.Proof.Ideal.BlockB
public import Idealize.ShloMosaic.Lib.Pointwise
public import Idealize.ShloMosaic.Lib.WritesUnit
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.SL.Sem

open Cert

/-- What a point of phase B finds: the stripe's logits, the rows' maxima and logarithms, the labels and the weighted queries. -/
structure Found (P : Spec.Inp) (b : Fin 2) (cw : ℕ) (x5 : Vec Ideal S1x1x7168 .f32) (x6 : Vec Ideal S1x896x1 .i32) (x13 : Vec Ideal S896x7168 .f32) (x15 : Vec Ideal S896x2560 .bf16)
    (x16 x17 : Vec Ideal S896x128 .f32) : Prop where
  f5 : ∀ k, x5 (ix3 0 0 k) = P.ps b k
  f6 : ∀ r, x6 (ix3 0 r 0) = P.pos b r
  f13 : ∀ r (k : Fin 7168), cw ≤ k.val → k.val < cw + 256 → x13 (ix2 r k) = Spec.X P b r k
  f15 : ∀ r d, x15 (ix2 r d) = (P.q b r d * P.qs b r : EReal)
  f16 : ∀ r l, x16 (ix2 r l) = Spec.M P b r
  f17 : ∀ r l, x17 (ix2 r l) = Spec.L P b r

theorem load_blk (M : Memref sig .tc .vmem S896x7168 .f32) (hM : M.IsWhole) (x : Vec Ideal S896x7168 .f32) (f : Fin 896 → Fin 7168 → EReal) (R C : ℕ) (hR : R + 128 ≤ 896) (hC : C + 128 ≤ 7168)
    (hx : ∀ r (k : Fin 7168), C ≤ k.val → k.val < C + 128 → x (ix2 r k) = f r k) {off : Fin 2 → ℕ} (ho : off = ![R, C]) (inb : ∀ a, off a + S128x128.size a ≤ S896x7168.size a) :
    View.readAt (Elt Ideal) M.view (Rect.unit (s := S896x7168) off S128x128.size inb).toLoadRect (hM.unread x) = blk .f32 f R C hR hC := by
  funext j
  rw [Memref.IsWhole.readAt_unread]
  have h0 : (j 0).val < 128 := (j 0).isLt
  have h1 : (j 1).val < 128 := (j 1).isLt
  refine Eq.trans (congrArg x ?_) (hx ⟨R + (j 0).val, by omega⟩ ⟨C + (j 1).val, by omega⟩ (by show C ≤ C + _; omega) (by show C + _ < _; omega))
  subst ho
  funext a
  apply Fin.ext
  match a with
  | ⟨0, _⟩ => show R + 1 * (j 0).val = R + (j 0).val; omega
  | ⟨1, _⟩ => show C + 1 * (j 1).val = C + (j 1).val; omega

theorem load_rows (M : Memref sig .tc .vmem S896x128 .f32) (hM : M.IsWhole) (x : Vec Ideal S896x128 .f32) (f : Fin 896 → EReal) (R : ℕ) (hR : R + 128 ≤ 896)
    (hx : ∀ r l, x (ix2 r l) = f r) (inb : ∀ a, (![R, 0] : Fin 2 → ℕ) a + S128x128.size a ≤ S896x128.size a) :
    View.readAt (Elt Ideal) M.view (Rect.unit (s := S896x128) ![R, 0] S128x128.size inb).toLoadRect (hM.unread x) = rowBlk f R hR := by
  funext j
  rw [Memref.IsWhole.readAt_unread]
  have h0 : (j 0).val < 128 := (j 0).isLt
  refine Eq.trans (congrArg x ?_) (hx ⟨R + (j 0).val, by omega⟩ (j 1))
  funext a
  apply Fin.ext
  match a with
  | ⟨0, _⟩ => show R + 1 * (j 0).val = R + (j 0).val; omega
  | ⟨1, _⟩ => show 0 + 1 * (j 1).val = (j 1).val; omega

/-- A block, at the place its rectangle puts an index. -/
theorem blk_emb {φ : FTy} (f : Fin 896 → Fin 7168 → EReal) (R C : ℕ) (hR : R + 128 ≤ 896) (hC : C + 128 ≤ 7168) {off : Fin 2 → ℕ} (ho : off = ![R, C])
    (inb : ∀ a, off a + S128x128.size a ≤ S896x7168.size a) (x : S128x128.Idx) :
    blk φ f R C hR hC x = f ((Rect.unit (s := S896x7168) off S128x128.size inb).emb x 0) ((Rect.unit (s := S896x7168) off S128x128.size inb).emb x 1) := by
  subst ho
  unfold blk
  congr 1
  · exact Fin.ext (by show R + (x 0).val = R + 1 * (x 0).val; omega)
  · exact Fin.ext (by show C + (x 1).val = C + 1 * (x 1).val; omega)

/-- Whether a place of two axes lies in a rectangle. -/
theorem mem_two {m n : ℕ} (e : Rect ⟨2, ![m, n]⟩) (hs : ∀ a, e.stride a = 1) (R C : ℕ) (ho : e.off = ![R, C]) (p q : ℕ) (hp : e.size 0 = p) (hq : e.size 1 = q) (r : Fin m) (k : Fin n)
    (h : R ≤ r.val ∧ r.val < R + p ∧ C ≤ k.val ∧ k.val < C + q) : ix2 r k ∈ e.set := by
  refine e.mem_set.mpr fun a => ?_
  match a with
  | ⟨0, _⟩ => exact ⟨r.val - R, lt_of_lt_of_eq (by omega) hp.symm, by rw [ho, hs, Nat.one_mul]; show r.val = R + (r.val - R); omega⟩
  | ⟨1, _⟩ => exact ⟨k.val - C, lt_of_lt_of_eq (by omega) hq.symm, by rw [ho, hs, Nat.one_mul]; show k.val = C + (k.val - C); omega⟩

theorem emb_blk (R C : ℕ) {off : Fin 2 → ℕ} (ho : off = ![R, C]) (inb : ∀ a, off a + S128x128.size a ≤ S896x7168.size a) (x : S128x128.Idx) (hR : R + 128 ≤ 896) (hC : C + 128 ≤ 7168) :
    (Rect.unit (s := S896x7168) off S128x128.size inb).emb x = ix2 ⟨R + (x 0).val, by have : (x 0).val < 128 := (x 0).isLt; omega⟩ ⟨C + (x 1).val, by have : (x 1).val < 128 := (x 1).isLt; omega⟩ := by
  subst ho
  funext a
  apply Fin.ext
  match a with
  | ⟨0, _⟩ => show R + 1 * (x 0).val = R + (x 0).val; omega
  | ⟨1, _⟩ => show C + 1 * (x 1).val = C + (x 1).val; omega

section

variable (c : Dev nD) (i : grid0.Coords)
  (arg2 : Memref sig .tc .vmem S1x896x2560 .fp8e4m3) (harg2 : arg2.IsWhole)
  (arg3 : Memref sig .tc .vmem S1x896x1 .f32) (harg3 : arg3.IsWhole)
  (arg4 : Memref sig .tc .vmem S1x512x2560 .fp8e4m3) (harg4 : arg4.IsWhole)
  (arg5 : Memref sig .tc .vmem S1x1x7168 .f32) (harg5 : arg5.IsWhole)
  (arg6 : Memref sig .tc .vmem S1x896x1 .i32) (harg6 : arg6.IsWhole)
  (arg7 : Memref sig .tc .vmem S1x7168x512 .fp8e4m3) (harg7 : arg7.IsWhole)
  (arg8 : Memref sig .tc .vmem S2x896 .f32) (harg8 : arg8.IsWhole)
  (arg9 : Memref sig .tc .vmem S1x896x512 .bf16) (harg9 : arg9.IsWhole)
  (arg10 : Memref sig .tc .vmem S1x256x2560 .bf16) (harg10 : arg10.IsWhole)
  (arg11 : Memref sig .tc .vmem S1x896x256 .fp8e5m2) (harg11 : arg11.IsWhole)
  (arg12 : Memref sig .tc .vmem S2x7168 .f32) (harg12 : arg12.IsWhole)
  (arg13 : Memref sig .tc .vmem S896x7168 .f32) (harg13 : arg13.IsWhole)
  (arg14 : Memref sig .tc .vmem S896x7168 .fp8e5m2) (harg14 : arg14.IsWhole)
  (arg15 : Memref sig .tc .vmem S896x2560 .bf16) (harg15 : arg15.IsWhole)
  (arg16 : Memref sig .tc .vmem S896x128 .f32) (harg16 : arg16.IsWhole)
  (arg17 : Memref sig .tc .vmem S896x128 .f32) (harg17 : arg17.IsWhole)
  (arg18 : Memref sig .tc .vmem S896x128 .f32) (harg18 : arg18.IsWhole)
  (arg19 : Memref sig .tc .vmem S256x896 .bf16) (harg19 : arg19.IsWhole)
  (arg20 : Memref sig .tc .vmem S1x7168 .f32) (harg20 : arg20.IsWhole)

variable (P : Spec.Inp) (b : Fin 2) (cw : ℕ) (hcw : cw + 256 ≤ 7168) (ho : Offs i cw)
  (hv : Scalar.muli (Scalar.subi (BitVec.ofNat 32 (i 1).val) 14#32) 256#32 = BitVec.ofNat 32 cw) (h4 : k0_cond4 i = 1#1)
  (x5 : Vec Ideal S1x1x7168 .f32) (x6 : Vec Ideal S1x896x1 .i32) (x13 : Vec Ideal S896x7168 .f32) (x15 : Vec Ideal S896x2560 .bf16) (x16 x17 : Vec Ideal S896x128 .f32)
  (hf : Found P b cw x5 x6 x13 x15 x16 x17)

include hcw ho hv hf

/-- Every store of the stripe's gradients is a block of them. -/
theorem pieces13 : ∀ p ∈ (runB.sl.H13_14 (F := Ideal) i arg6 harg6 arg13 harg13 arg16 harg16 arg17 harg17 h4 x6 x16 x17 x13), ∀ x : p.1.shape.Idx, p.2 x = Spec.dl P b (p.1.emb x 0) (p.1.emb x 1) := by
  have hc0 : Scalar.addi (Scalar.muli (Scalar.subi (BitVec.ofNat 32 (i 1).val) 14#32) 256#32) 0#32 = BitVec.ofNat 32 cw := by
    rw [hv]; show BitVec.ofNat 32 cw + 0#32 = _; rw [BitVec.add_zero]
  have hc1 : Scalar.addi (Scalar.muli (Scalar.subi (BitVec.ofNat 32 (i 1).val) 14#32) 256#32) 128#32 = BitVec.ofNat 32 (cw + 128) := by
    rw [hv, BitVec.ofNat_add]; rfl
  simp only [runB.sl.H13_14, runB.sl.v21, runB.sl.v23, runB.sl.v445, runB.sl.H13_13, runB.sl.v20, runB.sl.v413, runB.sl.r_25, runB.sl.H13_11, runB.sl.v381, runB.sl.r_23, runB.sl.H13_10, runB.sl.v349, runB.sl.r_18, runB.sl.r_19, runB.sl.r_6, runB.sl.H13_9, runB.sl.v317, runB.sl.v90, runB.sl.r_16, runB.sl.H13_8, runB.sl.v285, runB.sl.v253, runB.sl.H13_7, runB.sl.v221, runB.sl.r_12, runB.sl.H13_5, runB.sl.v189, runB.sl.r_10, runB.sl.H13_4, runB.sl.v157, runB.sl.r_4, runB.sl.r_5, runB.sl.H13_3, runB.sl.v125, runB.sl.r_2, runB.sl.H13_2, runB.sl.v93, runB.sl.v61, runB.sl.H13_1,
    k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106,
    load_blk arg13 harg13 x13 (Spec.X P b) 0 cw (by omega) (by omega) (fun r k h1 h2 => hf.f13 r k (by omega) (by omega)) ho.e3_0,
    load_blk arg13 harg13 x13 (Spec.X P b) 0 (cw + 128) (by omega) (by omega) (fun r k h1 h2 => hf.f13 r k (by omega) (by omega)) ho.e3_128,
    load_blk arg13 harg13 x13 (Spec.X P b) 128 cw (by omega) (by omega) (fun r k h1 h2 => hf.f13 r k (by omega) (by omega)) ho.e4_0,
    load_blk arg13 harg13 x13 (Spec.X P b) 128 (cw + 128) (by omega) (by omega) (fun r k h1 h2 => hf.f13 r k (by omega) (by omega)) ho.e4_128,
    load_blk arg13 harg13 x13 (Spec.X P b) 256 cw (by omega) (by omega) (fun r k h1 h2 => hf.f13 r k (by omega) (by omega)) ho.e5_0,
    load_blk arg13 harg13 x13 (Spec.X P b) 256 (cw + 128) (by omega) (by omega) (fun r k h1 h2 => hf.f13 r k (by omega) (by omega)) ho.e5_128,
    load_blk arg13 harg13 x13 (Spec.X P b) 384 cw (by omega) (by omega) (fun r k h1 h2 => hf.f13 r k (by omega) (by omega)) ho.e6_0,
    load_blk arg13 harg13 x13 (Spec.X P b) 384 (cw + 128) (by omega) (by omega) (fun r k h1 h2 => hf.f13 r k (by omega) (by omega)) ho.e6_128,
    load_blk arg13 harg13 x13 (Spec.X P b) 512 cw (by omega) (by omega) (fun r k h1 h2 => hf.f13 r k (by omega) (by omega)) ho.e7_0,
    load_blk arg13 harg13 x13 (Spec.X P b) 512 (cw + 128) (by omega) (by omega) (fun r k h1 h2 => hf.f13 r k (by omega) (by omega)) ho.e7_128,
    load_blk arg13 harg13 x13 (Spec.X P b) 640 cw (by omega) (by omega) (fun r k h1 h2 => hf.f13 r k (by omega) (by omega)) ho.e8_0,
    load_blk arg13 harg13 x13 (Spec.X P b) 640 (cw + 128) (by omega) (by omega) (fun r k h1 h2 => hf.f13 r k (by omega) (by omega)) ho.e8_128,
    load_blk arg13 harg13 x13 (Spec.X P b) 768 cw (by omega) (by omega) (fun r k h1 h2 => hf.f13 r k (by omega) (by omega)) ho.e9_0,
    load_blk arg13 harg13 x13 (Spec.X P b) 768 (cw + 128) (by omega) (by omega) (fun r k h1 h2 => hf.f13 r k (by omega) (by omega)) ho.e9_128,
    load_rows arg16 harg16 x16 (Spec.M P b) 0 (by omega) hf.f16,
    load_rows arg17 harg17 x17 (Spec.L P b) 0 (by omega) hf.f17,
    load_rows arg16 harg16 x16 (Spec.M P b) 128 (by omega) hf.f16,
    load_rows arg17 harg17 x17 (Spec.L P b) 128 (by omega) hf.f17,
    load_rows arg16 harg16 x16 (Spec.M P b) 256 (by omega) hf.f16,
    load_rows arg17 harg17 x17 (Spec.L P b) 256 (by omega) hf.f17,
    load_rows arg16 harg16 x16 (Spec.M P b) 384 (by omega) hf.f16,
    load_rows arg17 harg17 x17 (Spec.L P b) 384 (by omega) hf.f17,
    load_rows arg16 harg16 x16 (Spec.M P b) 512 (by omega) hf.f16,
    load_rows arg17 harg17 x17 (Spec.L P b) 512 (by omega) hf.f17,
    load_rows arg16 harg16 x16 (Spec.M P b) 640 (by omega) hf.f16,
    load_rows arg17 harg17 x17 (Spec.L P b) 640 (by omega) hf.f17,
    load_rows arg16 harg16 x16 (Spec.M P b) 768 (by omega) hf.f16,
    load_rows arg17 harg17 x17 (Spec.L P b) 768 (by omega) hf.f17,
    readAt_whole arg6 harg6 x6 z3, logp_blk,
    hit_blk P b _ 0 cw (by omega) (by omega) hc0 x6 hf.f6,
    hit_blk P b _ 0 (cw + 128) (by omega) (by omega) hc1 x6 hf.f6,
    hit_blk P b _ 128 cw (by omega) (by omega) hc0 x6 hf.f6,
    hit_blk P b _ 128 (cw + 128) (by omega) (by omega) hc1 x6 hf.f6,
    hit_blk P b _ 256 cw (by omega) (by omega) hc0 x6 hf.f6,
    hit_blk P b _ 256 (cw + 128) (by omega) (by omega) hc1 x6 hf.f6,
    hit_blk P b _ 384 cw (by omega) (by omega) hc0 x6 hf.f6,
    hit_blk P b _ 384 (cw + 128) (by omega) (by omega) hc1 x6 hf.f6,
    hit_blk P b _ 512 cw (by omega) (by omega) hc0 x6 hf.f6,
    hit_blk P b _ 512 (cw + 128) (by omega) (by omega) hc1 x6 hf.f6,
    hit_blk P b _ 640 cw (by omega) (by omega) hc0 x6 hf.f6,
    hit_blk P b _ 640 (cw + 128) (by omega) (by omega) hc1 x6 hf.f6,
    hit_blk P b _ 768 cw (by omega) (by omega) hc0 x6 hf.f6,
    hit_blk P b _ 768 (cw + 128) (by omega) (by omega) hc1 x6 hf.f6, dl_blk, cast_blk, List.forall_mem_cons]
  exact ⟨fun x => blk_emb (Spec.dl P b) 768 (cw + 128) (by omega) (by omega) ho.e9_128 _ x, fun x => blk_emb (Spec.dl P b) 768 cw (by omega) (by omega) ho.e9_0 _ x, fun x => blk_emb (Spec.dl P b) 640 (cw + 128) (by omega) (by omega) ho.e8_128 _ x, fun x => blk_emb (Spec.dl P b) 640 cw (by omega) (by omega) ho.e8_0 _ x, fun x => blk_emb (Spec.dl P b) 512 (cw + 128) (by omega) (by omega) ho.e7_128 _ x, fun x => blk_emb (Spec.dl P b) 512 cw (by omega) (by omega) ho.e7_0 _ x, fun x => blk_emb (Spec.dl P b) 384 (cw + 128) (by omega) (by omega) ho.e6_128 _ x, fun x => blk_emb (Spec.dl P b) 384 cw (by omega) (by omega) ho.e6_0 _ x, fun x => blk_emb (Spec.dl P b) 256 (cw + 128) (by omega) (by omega) ho.e5_128 _ x, fun x => blk_emb (Spec.dl P b) 256 cw (by omega) (by omega) ho.e5_0 _ x, fun x => blk_emb (Spec.dl P b) 128 (cw + 128) (by omega) (by omega) ho.e4_128 _ x, fun x => blk_emb (Spec.dl P b) 128 cw (by omega) (by omega) ho.e4_0 _ x, fun x => blk_emb (Spec.dl P b) 0 (cw + 128) (by omega) (by omega) ho.e3_128 _ x, fun x => blk_emb (Spec.dl P b) 0 cw (by omega) (by omega) ho.e3_0 _ x, fun p h => absurd h List.not_mem_nil⟩

omit hcw hv hf in
theorem cover13 (r : Fin 896) (k : Fin 7168) (h : cw ≤ k.val ∧ k.val < cw + 256) : ∃ p ∈ (runB.sl.H13_14 (F := Ideal) i arg6 harg6 arg13 harg13 arg16 harg16 arg17 harg17 h4 x6 x16 x17 x13), ix2 r k ∈ p.1.set := by
  unfold runB.sl.H13_14 runB.sl.H13_13 runB.sl.H13_11 runB.sl.H13_10 runB.sl.H13_9 runB.sl.H13_8 runB.sl.H13_7 runB.sl.H13_5 runB.sl.H13_4 runB.sl.H13_3 runB.sl.H13_2 runB.sl.H13_1
  have hr := r.isLt
  by_cases c0 : 768 ≤ r.val ∧ r.val < 896 ∧ (cw + 128) ≤ k.val ∧ k.val < (cw + 128) + 128
  · refine ⟨_, .head _, ?_⟩; exact mem_two _ (fun _ => rfl) 768 (cw + 128) ho.e9_128 128 128 rfl rfl r k (by omega)
  by_cases c1 : 768 ≤ r.val ∧ r.val < 896 ∧ cw ≤ k.val ∧ k.val < cw + 128
  · refine ⟨_, .tail _ (.head _), ?_⟩; exact mem_two _ (fun _ => rfl) 768 cw ho.e9_0 128 128 rfl rfl r k (by omega)
  by_cases c2 : 640 ≤ r.val ∧ r.val < 768 ∧ (cw + 128) ≤ k.val ∧ k.val < (cw + 128) + 128
  · refine ⟨_, .tail _ (.tail _ (.head _)), ?_⟩; exact mem_two _ (fun _ => rfl) 640 (cw + 128) ho.e8_128 128 128 rfl rfl r k (by omega)
  by_cases c3 : 640 ≤ r.val ∧ r.val < 768 ∧ cw ≤ k.val ∧ k.val < cw + 128
  · refine ⟨_, .tail _ (.tail _ (.tail _ (.head _))), ?_⟩; exact mem_two _ (fun _ => rfl) 640 cw ho.e8_0 128 128 rfl rfl r k (by omega)
  by_cases c4 : 512 ≤ r.val ∧ r.val < 640 ∧ (cw + 128) ≤ k.val ∧ k.val < (cw + 128) + 128
  · refine ⟨_, .tail _ (.tail _ (.tail _ (.tail _ (.head _)))), ?_⟩; exact mem_two _ (fun _ => rfl) 512 (cw + 128) ho.e7_128 128 128 rfl rfl r k (by omega)
  by_cases c5 : 512 ≤ r.val ∧ r.val < 640 ∧ cw ≤ k.val ∧ k.val < cw + 128
  · refine ⟨_, .tail _ (.tail _ (.tail _ (.tail _ (.tail _ (.head _))))), ?_⟩; exact mem_two _ (fun _ => rfl) 512 cw ho.e7_0 128 128 rfl rfl r k (by omega)
  by_cases c6 : 384 ≤ r.val ∧ r.val < 512 ∧ (cw + 128) ≤ k.val ∧ k.val < (cw + 128) + 128
  · refine ⟨_, .tail _ (.tail _ (.tail _ (.tail _ (.tail _ (.tail _ (.head _)))))), ?_⟩; exact mem_two _ (fun _ => rfl) 384 (cw + 128) ho.e6_128 128 128 rfl rfl r k (by omega)
  by_cases c7 : 384 ≤ r.val ∧ r.val < 512 ∧ cw ≤ k.val ∧ k.val < cw + 128
  · refine ⟨_, .tail _ (.tail _ (.tail _ (.tail _ (.tail _ (.tail _ (.tail _ (.head _))))))), ?_⟩; exact mem_two _ (fun _ => rfl) 384 cw ho.e6_0 128 128 rfl rfl r k (by omega)
  by_cases c8 : 256 ≤ r.val ∧ r.val < 384 ∧ (cw + 128) ≤ k.val ∧ k.val < (cw + 128) + 128
  · refine ⟨_, .tail _ (.tail _ (.tail _ (.tail _ (.tail _ (.tail _ (.tail _ (.tail _ (.head _)))))))), ?_⟩; exact mem_two _ (fun _ => rfl) 256 (cw + 128) ho.e5_128 128 128 rfl rfl r k (by omega)
  by_cases c9 : 256 ≤ r.val ∧ r.val < 384 ∧ cw ≤ k.val ∧ k.val < cw + 128
  · refine ⟨_, .tail _ (.tail _ (.tail _ (.tail _ (.tail _ (.tail _ (.tail _ (.tail _ (.tail _ (.head _))))))))), ?_⟩; exact mem_two _ (fun _ => rfl) 256 cw ho.e5_0 128 128 rfl rfl r k (by omega)
  by_cases c10 : 128 ≤ r.val ∧ r.val < 256 ∧ (cw + 128) ≤ k.val ∧ k.val < (cw + 128) + 128
  · refine ⟨_, .tail _ (.tail _ (.tail _ (.tail _ (.tail _ (.tail _ (.tail _ (.tail _ (.tail _ (.tail _ (.head _)))))))))), ?_⟩; exact mem_two _ (fun _ => rfl) 128 (cw + 128) ho.e4_128 128 128 rfl rfl r k (by omega)
  by_cases c11 : 128 ≤ r.val ∧ r.val < 256 ∧ cw ≤ k.val ∧ k.val < cw + 128
  · refine ⟨_, .tail _ (.tail _ (.tail _ (.tail _ (.tail _ (.tail _ (.tail _ (.tail _ (.tail _ (.tail _ (.tail _ (.head _))))))))))), ?_⟩; exact mem_two _ (fun _ => rfl) 128 cw ho.e4_0 128 128 rfl rfl r k (by omega)
  by_cases c12 : 0 ≤ r.val ∧ r.val < 128 ∧ (cw + 128) ≤ k.val ∧ k.val < (cw + 128) + 128
  · refine ⟨_, .tail _ (.tail _ (.tail _ (.tail _ (.tail _ (.tail _ (.tail _ (.tail _ (.tail _ (.tail _ (.tail _ (.tail _ (.head _)))))))))))), ?_⟩; exact mem_two _ (fun _ => rfl) 0 (cw + 128) ho.e3_128 128 128 rfl rfl r k (by omega)
  by_cases c13 : 0 ≤ r.val ∧ r.val < 128 ∧ cw ≤ k.val ∧ k.val < cw + 128
  · refine ⟨_, .tail _ (.tail _ (.tail _ (.tail _ (.tail _ (.tail _ (.tail _ (.tail _ (.tail _ (.tail _ (.tail _ (.tail _ (.tail _ (.head _))))))))))))), ?_⟩; exact mem_two _ (fun _ => rfl) 0 cw ho.e3_0 128 128 rfl rfl r k (by omega)
  omega

/-- The gradient of the stripe, in the scratch. -/
theorem read13 (r : Fin 896) (k : Fin 7168) (h : cw ≤ k.val ∧ k.val < cw + 256) (f) :
    arg13.view.read (Elt Ideal) (arg13.view.writes (Elt Ideal) f (runB.sl.H13_14 (F := Ideal) i arg6 harg6 arg13 harg13 arg16 harg16 arg17 harg17 h4 x6 x16 x17 x13)) (ix2 r k) = Spec.dl P b r k :=
  View.read_writes_apply_of_pieces arg13.view f (fun y => Spec.dl P b (y 0) (y 1)) _
    (pieces13 i arg6 harg6 arg13 harg13 arg16 harg16 arg17 harg17 P b cw hcw ho hv h4 x5 x6 x13 x15 x16 x17 hf) _ (cover13 i arg6 harg6 arg13 harg13 arg16 harg16 arg17 harg17 cw ho h4 x6 x13 x16 x17 r k h)

end

end Cert.KernelIdeal.Run

end
-- ==== Proof.Ideal.RowsB.lean ====
module

public import proofs.«01_k».proof.Proof.Ideal.StepB
public import Idealize.ShloMosaic.Lib.Pointwise
public import Idealize.ShloMosaic.Lib.WritesUnit
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.SL.Sem

open Cert

/-- A block of codes at the output window's place. -/
theorem code_out_emb (P : Spec.Inp) (b : Fin 2) (cw : ℕ) (hcw : cw + 256 ≤ 7168) (R J : ℕ) (hR : R + 128 ≤ 896) (hJ : J + 128 ≤ 256) (hC : cw + J + 128 ≤ 7168)
    (inb : ∀ a, (![0, R, J] : Fin 3 → ℕ) a + S1x128x128.size a ≤ S1x896x256.size a) (x : S1x128x128.Idx) :
    shapeCast S1x128x128 (blk .fp8e5m2 (Spec.code P b) R (cw + J) hR hC) shapeCasts_S128x128_S1x128x128 x
      = (fun y : S1x896x256.Idx => Spec.code P b (y 1) ⟨cw + (y 2).val, by have : (y 2).val < 256 := (y 2).isLt; omega⟩) ((Rect.unit (s := S1x896x256) ![0, R, J] S1x128x128.size inb).emb x) := by
  have h0 : (x 0).val < 1 := (x 0).isLt
  have hx : x = ix3 0 (x 1) (x 2) := by
    funext a
    match a with
    | ⟨0, _⟩ => exact Fin.ext (by show (x 0).val = 0; omega)
    | ⟨1, _⟩ => rfl
    | ⟨2, _⟩ => rfl
  refine Eq.trans (congrArg _ hx) ((code_out P b R (cw + J) hR hC (x 1) (x 2)).trans ?_)
  show Spec.code P b _ _ = Spec.code P b _ _
  congr 1
  · exact Fin.ext (by show R + (x 1).val = R + 1 * (x 1).val; omega)
  · exact Fin.ext (by show cw + J + (x 2).val = cw + (J + 1 * (x 2).val); omega)

/-- A transposed block of codes at its place in the scratch. -/
theorem code_tr_emb (P : Spec.Inp) (b : Fin 2) (cw : ℕ) (hcw : cw + 256 ≤ 7168) (R J : ℕ) (hR : R + 128 ≤ 896) (hJ : J + 128 ≤ 256) (hC : cw + J + 128 ≤ 7168)
    (inb : ∀ a, (![J, R] : Fin 2 → ℕ) a + S128x128.size a ≤ S256x896.size a) (x : S128x128.Idx) :
    shapeCast S128x128 (transpose S128x128 [1, 0] (extf .bf16 (blk .fp8e5m2 (Spec.code P b) R (cw + J) hR hC) bitsLt_fp8e5m2_bf16) transposes_S128x128_p1_0_S128x128) shapeCasts_S128x128_S128x128 x
      = (fun y : S256x896.Idx => Spec.code P b (y 1) ⟨cw + (y 0).val, by have : (y 0).val < 256 := (y 0).isLt; omega⟩) ((Rect.unit (s := S256x896) ![J, R] S128x128.size inb).emb x) := by
  have hx : x = ix2 (x 0) (x 1) := by
    funext a
    match a with
    | ⟨0, _⟩ => rfl
    | ⟨1, _⟩ => rfl
  refine Eq.trans (congrArg _ hx) ((code_tr P b R (cw + J) hR hC (x 0) (x 1)).trans ?_)
  show Spec.code P b _ _ = Spec.code P b _ _
  congr 1
  · exact Fin.ext (by show R + (x 1).val = R + 1 * (x 1).val; omega)
  · exact Fin.ext (by show cw + J + (x 0).val = cw + (J + 1 * (x 0).val); omega)

section

variable (c : Dev nD) (i : grid0.Coords)
  (arg2 : Memref sig .tc .vmem S1x896x2560 .fp8e4m3) (harg2 : arg2.IsWhole)
  (arg3 : Memref sig .tc .vmem S1x896x1 .f32) (harg3 : arg3.IsWhole)
  (arg4 : Memref sig .tc .vmem S1x512x2560 .fp8e4m3) (harg4 : arg4.IsWhole)
  (arg5 : Memref sig .tc .vmem S1x1x7168 .f32) (harg5 : arg5.IsWhole)
  (arg6 : Memref sig .tc .vmem S1x896x1 .i32) (harg6 : arg6.IsWhole)
  (arg7 : Memref sig .tc .vmem S1x7168x512 .fp8e4m3) (harg7 : arg7.IsWhole)
  (arg8 : Memref sig .tc .vmem S2x896 .f32) (harg8 : arg8.IsWhole)
  (arg9 : Memref sig .tc .vmem S1x896x512 .bf16) (harg9 : arg9.IsWhole)
  (arg10 : Memref sig .tc .vmem S1x256x2560 .bf16) (harg10 : arg10.IsWhole)
  (arg11 : Memref sig .tc .vmem S1x896x256 .fp8e5m2) (harg11 : arg11.IsWhole)
  (arg12 : Memref sig .tc .vmem S2x7168 .f32) (harg12 : arg12.IsWhole)
  (arg13 : Memref sig .tc .vmem S896x7168 .f32) (harg13 : arg13.IsWhole)
  (arg14 : Memref sig .tc .vmem S896x7168 .fp8e5m2) (harg14 : arg14.IsWhole)
  (arg15 : Memref sig .tc .vmem S896x2560 .bf16) (harg15 : arg15.IsWhole)
  (arg16 : Memref sig .tc .vmem S896x128 .f32) (harg16 : arg16.IsWhole)
  (arg17 : Memref sig .tc .vmem S896x128 .f32) (harg17 : arg17.IsWhole)
  (arg18 : Memref sig .tc .vmem S896x128 .f32) (harg18 : arg18.IsWhole)
  (arg19 : Memref sig .tc .vmem S256x896 .bf16) (harg19 : arg19.IsWhole)
  (arg20 : Memref sig .tc .vmem S1x7168 .f32) (harg20 : arg20.IsWhole)

variable (P : Spec.Inp) (b : Fin 2) (cw : ℕ) (hcw : cw + 256 ≤ 7168) (ho : Offs i cw)
  (hv : Scalar.muli (Scalar.subi (BitVec.ofNat 32 (i 1).val) 14#32) 256#32 = BitVec.ofNat 32 cw) (h4 : k0_cond4 i = 1#1)
  (x5 : Vec Ideal S1x1x7168 .f32) (x6 : Vec Ideal S1x896x1 .i32) (x13 : Vec Ideal S896x7168 .f32) (x15 : Vec Ideal S896x2560 .bf16) (x16 x17 : Vec Ideal S896x128 .f32)
  (hf : Found P b cw x5 x6 x13 x15 x16 x17)

include hcw ho hv hf

theorem cov13 (R C : ℕ) (hR : R + 128 ≤ 896) (hC : C + 128 ≤ 7168) (h0 : cw ≤ C) (h1 : C + 128 ≤ cw + 256) {off : Fin 2 → ℕ} (e : off = ![R, C]) (inb : ∀ a, off a + S128x128.size a ≤ S896x7168.size a) :
    arg13.view.readCov (runB.sl.H13_14 (F := Ideal) i arg6 harg6 arg13 harg13 arg16 harg16 arg17 harg17 h4 x6 x16 x17 x13) (Rect.unit (s := S896x7168) off S128x128.size inb).toLoadRect = blk .f32 (Spec.dl P b) R C hR hC := by
  funext x
  have hx : (x 1).val < 128 := (x 1).isLt
  refine Eq.trans (congrArg (arg13.view.read (Elt Ideal) _) (emb_blk R C e inb x hR hC)) ?_
  exact read13 i arg6 harg6 arg13 harg13 arg16 harg16 arg17 harg17 P b cw hcw ho hv h4 x5 x6 x13 x15 x16 x17 hf _ _ (show cw ≤ C + (x 1).val ∧ C + (x 1).val < cw + 256 by omega) _

theorem max_r_27 : (runB.sl.r_27 (F := Ideal) i arg6 harg6 arg13 harg13 arg16 harg16 arg17 harg17 h4 x6 x16 x17 x13)
    = maximumf (maximumf (maximumf (maximumf (maximumf (maximumf (maximumf (broadcast S8x128 (Scalar.ofBits (F := Ideal) .f32 0x00000000#32)) (absBlk 0 cw (by omega) (by omega) (Spec.dl P b))) (absBlk 128 cw (by omega) (by omega) (Spec.dl P b)))
      (absBlk 256 cw (by omega) (by omega) (Spec.dl P b))) (absBlk 384 cw (by omega) (by omega) (Spec.dl P b))) (absBlk 512 cw (by omega) (by omega) (Spec.dl P b))) (absBlk 640 cw (by omega) (by omega) (Spec.dl P b))) (absBlk 768 cw (by omega) (by omega) (Spec.dl P b)) := by
  have hc0 : Scalar.addi (Scalar.muli (Scalar.subi (BitVec.ofNat 32 (i 1).val) 14#32) 256#32) 0#32 = BitVec.ofNat 32 cw := by
    rw [hv]; show BitVec.ofNat 32 cw + 0#32 = _; rw [BitVec.add_zero]
  have hc1 : Scalar.addi (Scalar.muli (Scalar.subi (BitVec.ofNat 32 (i 1).val) 14#32) 256#32) 128#32 = BitVec.ofNat 32 (cw + 128) := by
    rw [hv, BitVec.ofNat_add]; rfl
  simp only [runB.sl.r_27, runB.sl.v21, runB.sl.v23, runB.sl.r_24, runB.sl.v413, runB.sl.v20, runB.sl.r_17, runB.sl.r_23, runB.sl.r_14, runB.sl.v90, runB.sl.r_16, runB.sl.v349, runB.sl.r_11, runB.sl.v221, runB.sl.v285, runB.sl.r_3, runB.sl.r_10, runB.sl.r, runB.sl.r_2, runB.sl.v157, runB.sl.v93,
    k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106,
    load_blk arg13 harg13 x13 (Spec.X P b) 0 cw (by omega) (by omega) (fun r k h1 h2 => hf.f13 r k (by omega) (by omega)) ho.e3_0, load_blk arg13 harg13 x13 (Spec.X P b) 128 cw (by omega) (by omega) (fun r k h1 h2 => hf.f13 r k (by omega) (by omega)) ho.e4_0, load_blk arg13 harg13 x13 (Spec.X P b) 256 cw (by omega) (by omega) (fun r k h1 h2 => hf.f13 r k (by omega) (by omega)) ho.e5_0, load_blk arg13 harg13 x13 (Spec.X P b) 384 cw (by omega) (by omega) (fun r k h1 h2 => hf.f13 r k (by omega) (by omega)) ho.e6_0, load_blk arg13 harg13 x13 (Spec.X P b) 512 cw (by omega) (by omega) (fun r k h1 h2 => hf.f13 r k (by omega) (by omega)) ho.e7_0, load_blk arg13 harg13 x13 (Spec.X P b) 640 cw (by omega) (by omega) (fun r k h1 h2 => hf.f13 r k (by omega) (by omega)) ho.e8_0, load_blk arg13 harg13 x13 (Spec.X P b) 768 cw (by omega) (by omega) (fun r k h1 h2 => hf.f13 r k (by omega) (by omega)) ho.e9_0, load_rows arg16 harg16 x16 (Spec.M P b) 0 (by omega) hf.f16, load_rows arg17 harg17 x17 (Spec.L P b) 0 (by omega) hf.f17, load_rows arg16 harg16 x16 (Spec.M P b) 128 (by omega) hf.f16, load_rows arg17 harg17 x17 (Spec.L P b) 128 (by omega) hf.f17, load_rows arg16 harg16 x16 (Spec.M P b) 256 (by omega) hf.f16, load_rows arg17 harg17 x17 (Spec.L P b) 256 (by omega) hf.f17, load_rows arg16 harg16 x16 (Spec.M P b) 384 (by omega) hf.f16, load_rows arg17 harg17 x17 (Spec.L P b) 384 (by omega) hf.f17, load_rows arg16 harg16 x16 (Spec.M P b) 512 (by omega) hf.f16, load_rows arg17 harg17 x17 (Spec.L P b) 512 (by omega) hf.f17, load_rows arg16 harg16 x16 (Spec.M P b) 640 (by omega) hf.f16, load_rows arg17 harg17 x17 (Spec.L P b) 640 (by omega) hf.f17, load_rows arg16 harg16 x16 (Spec.M P b) 768 (by omega) hf.f16, load_rows arg17 harg17 x17 (Spec.L P b) 768 (by omega) hf.f17, readAt_whole arg6 harg6 x6 z3, logp_blk,
    hit_blk P b _ 0 cw (by omega) (by omega) hc0 x6 hf.f6, hit_blk P b _ 128 cw (by omega) (by omega) hc0 x6 hf.f6, hit_blk P b _ 256 cw (by omega) (by omega) hc0 x6 hf.f6, hit_blk P b _ 384 cw (by omega) (by omega) hc0 x6 hf.f6, hit_blk P b _ 512 cw (by omega) (by omega) hc0 x6 hf.f6, hit_blk P b _ 640 cw (by omega) (by omega) hc0 x6 hf.f6, hit_blk P b _ 768 cw (by omega) (by omega) hc0 x6 hf.f6, dl_blk]
  simp only [← abs_blk]

theorem max_r_28 : (runB.sl.r_28 (F := Ideal) i arg6 harg6 arg13 harg13 arg16 harg16 arg17 harg17 h4 x6 x16 x17 x13)
    = maximumf (maximumf (maximumf (maximumf (maximumf (maximumf (maximumf (broadcast S8x128 (Scalar.ofBits (F := Ideal) .f32 0x00000000#32)) (absBlk 0 (cw + 128) (by omega) (by omega) (Spec.dl P b))) (absBlk 128 (cw + 128) (by omega) (by omega) (Spec.dl P b)))
      (absBlk 256 (cw + 128) (by omega) (by omega) (Spec.dl P b))) (absBlk 384 (cw + 128) (by omega) (by omega) (Spec.dl P b))) (absBlk 512 (cw + 128) (by omega) (by omega) (Spec.dl P b))) (absBlk 640 (cw + 128) (by omega) (by omega) (Spec.dl P b))) (absBlk 768 (cw + 128) (by omega) (by omega) (Spec.dl P b)) := by
  have hc0 : Scalar.addi (Scalar.muli (Scalar.subi (BitVec.ofNat 32 (i 1).val) 14#32) 256#32) 0#32 = BitVec.ofNat 32 cw := by
    rw [hv]; show BitVec.ofNat 32 cw + 0#32 = _; rw [BitVec.add_zero]
  have hc1 : Scalar.addi (Scalar.muli (Scalar.subi (BitVec.ofNat 32 (i 1).val) 14#32) 256#32) 128#32 = BitVec.ofNat 32 (cw + 128) := by
    rw [hv, BitVec.ofNat_add]; rfl
  simp only [runB.sl.r_28, runB.sl.v21, runB.sl.v23, runB.sl.r_26, runB.sl.v445, runB.sl.v20, runB.sl.r_20, runB.sl.r_25, runB.sl.r_15, runB.sl.r_18, runB.sl.r_19, runB.sl.r_6, runB.sl.v381, runB.sl.r_13, runB.sl.v253, runB.sl.v317, runB.sl.r_7, runB.sl.r_12, runB.sl.r_1, runB.sl.r_4, runB.sl.r_5, runB.sl.v189, runB.sl.v61, runB.sl.v125,
    k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106,
    load_blk arg13 harg13 x13 (Spec.X P b) 0 (cw + 128) (by omega) (by omega) (fun r k h1 h2 => hf.f13 r k (by omega) (by omega)) ho.e3_128, load_blk arg13 harg13 x13 (Spec.X P b) 128 (cw + 128) (by omega) (by omega) (fun r k h1 h2 => hf.f13 r k (by omega) (by omega)) ho.e4_128, load_blk arg13 harg13 x13 (Spec.X P b) 256 (cw + 128) (by omega) (by omega) (fun r k h1 h2 => hf.f13 r k (by omega) (by omega)) ho.e5_128, load_blk arg13 harg13 x13 (Spec.X P b) 384 (cw + 128) (by omega) (by omega) (fun r k h1 h2 => hf.f13 r k (by omega) (by omega)) ho.e6_128, load_blk arg13 harg13 x13 (Spec.X P b) 512 (cw + 128) (by omega) (by omega) (fun r k h1 h2 => hf.f13 r k (by omega) (by omega)) ho.e7_128, load_blk arg13 harg13 x13 (Spec.X P b) 640 (cw + 128) (by omega) (by omega) (fun r k h1 h2 => hf.f13 r k (by omega) (by omega)) ho.e8_128, load_blk arg13 harg13 x13 (Spec.X P b) 768 (cw + 128) (by omega) (by omega) (fun r k h1 h2 => hf.f13 r k (by omega) (by omega)) ho.e9_128, load_rows arg16 harg16 x16 (Spec.M P b) 0 (by omega) hf.f16, load_rows arg17 harg17 x17 (Spec.L P b) 0 (by omega) hf.f17, load_rows arg16 harg16 x16 (Spec.M P b) 128 (by omega) hf.f16, load_rows arg17 harg17 x17 (Spec.L P b) 128 (by omega) hf.f17, load_rows arg16 harg16 x16 (Spec.M P b) 256 (by omega) hf.f16, load_rows arg17 harg17 x17 (Spec.L P b) 256 (by omega) hf.f17, load_rows arg16 harg16 x16 (Spec.M P b) 384 (by omega) hf.f16, load_rows arg17 harg17 x17 (Spec.L P b) 384 (by omega) hf.f17, load_rows arg16 harg16 x16 (Spec.M P b) 512 (by omega) hf.f16, load_rows arg17 harg17 x17 (Spec.L P b) 512 (by omega) hf.f17, load_rows arg16 harg16 x16 (Spec.M P b) 640 (by omega) hf.f16, load_rows arg17 harg17 x17 (Spec.L P b) 640 (by omega) hf.f17, load_rows arg16 harg16 x16 (Spec.M P b) 768 (by omega) hf.f16, load_rows arg17 harg17 x17 (Spec.L P b) 768 (by omega) hf.f17, readAt_whole arg6 harg6 x6 z3, logp_blk,
    hit_blk P b _ 0 (cw + 128) (by omega) (by omega) hc1 x6 hf.f6, hit_blk P b _ 128 (cw + 128) (by omega) (by omega) hc1 x6 hf.f6, hit_blk P b _ 256 (cw + 128) (by omega) (by omega) hc1 x6 hf.f6, hit_blk P b _ 384 (cw + 128) (by omega) (by omega) hc1 x6 hf.f6, hit_blk P b _ 512 (cw + 128) (by omega) (by omega) hc1 x6 hf.f6, hit_blk P b _ 640 (cw + 128) (by omega) (by omega) hc1 x6 hf.f6, hit_blk P b _ 768 (cw + 128) (by omega) (by omega) hc1 x6 hf.f6, dl_blk]
  simp only [← abs_blk]

theorem y_r29 : (runB.sl.r_29 (F := Ideal) i arg6 harg6 arg13 harg13 arg16 harg16 arg17 harg17 h4 x6 x16 x17 x13) = rowOf (Spec.y P b) cw (by omega) := by
  unfold runB.sl.r_29 k0_pay107
  exact y_row cw (by omega) (Spec.dl P b) _ (max_r_27 i arg6 harg6 arg13 harg13 arg16 harg16 arg17 harg17 P b cw hcw ho hv h4 x5 x6 x13 x15 x16 x17 hf)

theorem expo_r37 : (runB.sl.r_37 (F := Ideal) i arg6 harg6 arg13 harg13 arg16 harg16 arg17 harg17 h4 x6 x16 x17 x13) = expoRow P b (cw + 128) (by omega) := by
  unfold runB.sl.r_37
  rw [expo'_eq, ← expo_row]
  unfold k0_pay107
  exact congrArg (fun v => k0_pay108 (F := Ideal) v _) (y_row (cw + 128) (by omega) (Spec.dl P b) _ (max_r_28 i arg6 harg6 arg13 harg13 arg16 harg16 arg17 harg17 P b cw hcw ho hv h4 x5 x6 x13 x15 x16 x17 hf))

theorem scale_r30 : (runB.sl.r_30 (F := Ideal) i arg6 harg6 arg13 harg13 arg16 harg16 arg17 harg17 h4 x6 x16 x17 x13) = rowOf (Spec.scale P b) cw (by omega) := by
  unfold runB.sl.r_30 runB.sl.v480
  rw [y_r29 i arg6 harg6 arg13 harg13 arg16 harg16 arg17 harg17 P b cw hcw ho hv h4 x5 x6 x13 x15 x16 x17 hf]
  exact scale_row P b cw (by omega)

theorem inv_r31 : (runB.sl.r_31 (F := Ideal) i arg6 harg6 arg13 harg13 arg16 harg16 arg17 harg17 h4 x6 x16 x17 x13) = rowOf (fun k => Ideal.div Spec.one (Spec.scale P b k)) cw (by omega) := by
  unfold runB.sl.r_31 runB.sl.v480
  rw [y_r29 i arg6 harg6 arg13 harg13 arg16 harg16 arg17 harg17 P b cw hcw ho hv h4 x5 x6 x13 x15 x16 x17 hf]
  exact inv_row P b cw (by omega)

theorem scale_r38 : (runB.sl.r_38 (F := Ideal) i arg6 harg6 arg13 harg13 arg16 harg16 arg17 harg17 h4 x6 x16 x17 x13) = rowOf (Spec.scale P b) (cw + 128) (by omega) := by
  unfold runB.sl.r_38
  rw [expo_r37 i arg6 harg6 arg13 harg13 arg16 harg16 arg17 harg17 P b cw hcw ho hv h4 x5 x6 x13 x15 x16 x17 hf]
  exact up_row P b (cw + 128) (by omega)

theorem inv_r39 : (runB.sl.r_39 (F := Ideal) i arg6 harg6 arg13 harg13 arg16 harg16 arg17 harg17 h4 x6 x16 x17 x13) = rowOf (fun k => Ideal.div Spec.one (Spec.scale P b k)) (cw + 128) (by omega) := by
  unfold runB.sl.r_39
  rw [expo_r37 i arg6 harg6 arg13 harg13 arg16 harg16 arg17 harg17 P b cw hcw ho hv h4 x5 x6 x13 x15 x16 x17 hf]
  exact down_row P b (cw + 128) (by omega)

theorem inv_r28 : k0_pay146 (F := Ideal) (k0_pay144 (F := Ideal) (runB.sl.r_28 (F := Ideal) i arg6 harg6 arg13 harg13 arg16 harg16 arg17 harg17 h4 x6 x16 x17 x13)) = rowOf (fun k => Ideal.div Spec.one (Spec.scale P b k)) (cw + 128) (by omega) :=
  inv_r39 i arg6 harg6 arg13 harg13 arg16 harg16 arg17 harg17 P b cw hcw ho hv h4 x5 x6 x13 x15 x16 x17 hf

end

end Cert.KernelIdeal.Run

end
-- ==== Proof.Ideal.CodesB.lean ====
module

public import proofs.«01_k».proof.Proof.Ideal.RowsB
public import Idealize.ShloMosaic.Lib.Pointwise
public import Idealize.ShloMosaic.Lib.WritesUnit
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.SL.Sem

open Cert

section

variable (c : Dev nD) (i : grid0.Coords)
  (arg2 : Memref sig .tc .vmem S1x896x2560 .fp8e4m3) (harg2 : arg2.IsWhole)
  (arg3 : Memref sig .tc .vmem S1x896x1 .f32) (harg3 : arg3.IsWhole)
  (arg4 : Memref sig .tc .vmem S1x512x2560 .fp8e4m3) (harg4 : arg4.IsWhole)
  (arg5 : Memref sig .tc .vmem S1x1x7168 .f32) (harg5 : arg5.IsWhole)
  (arg6 : Memref sig .tc .vmem S1x896x1 .i32) (harg6 : arg6.IsWhole)
  (arg7 : Memref sig .tc .vmem S1x7168x512 .fp8e4m3) (harg7 : arg7.IsWhole)
  (arg8 : Memref sig .tc .vmem S2x896 .f32) (harg8 : arg8.IsWhole)
  (arg9 : Memref sig .tc .vmem S1x896x512 .bf16) (harg9 : arg9.IsWhole)
  (arg10 : Memref sig .tc .vmem S1x256x2560 .bf16) (harg10 : arg10.IsWhole)
  (arg11 : Memref sig .tc .vmem S1x896x256 .fp8e5m2) (harg11 : arg11.IsWhole)
  (arg12 : Memref sig .tc .vmem S2x7168 .f32) (harg12 : arg12.IsWhole)
  (arg13 : Memref sig .tc .vmem S896x7168 .f32) (harg13 : arg13.IsWhole)
  (arg14 : Memref sig .tc .vmem S896x7168 .fp8e5m2) (harg14 : arg14.IsWhole)
  (arg15 : Memref sig .tc .vmem S896x2560 .bf16) (harg15 : arg15.IsWhole)
  (arg16 : Memref sig .tc .vmem S896x128 .f32) (harg16 : arg16.IsWhole)
  (arg17 : Memref sig .tc .vmem S896x128 .f32) (harg17 : arg17.IsWhole)
  (arg18 : Memref sig .tc .vmem S896x128 .f32) (harg18 : arg18.IsWhole)
  (arg19 : Memref sig .tc .vmem S256x896 .bf16) (harg19 : arg19.IsWhole)
  (arg20 : Memref sig .tc .vmem S1x7168 .f32) (harg20 : arg20.IsWhole)

variable (P : Spec.Inp) (b : Fin 2) (cw : ℕ) (hcw : cw + 256 ≤ 7168) (ho : Offs i cw)
  (hv : Scalar.muli (Scalar.subi (BitVec.ofNat 32 (i 1).val) 14#32) 256#32 = BitVec.ofNat 32 cw) (h4 : k0_cond4 i = 1#1)
  (x5 : Vec Ideal S1x1x7168 .f32) (x6 : Vec Ideal S1x896x1 .i32) (x13 : Vec Ideal S896x7168 .f32) (x15 : Vec Ideal S896x2560 .bf16) (x16 x17 : Vec Ideal S896x128 .f32)
  (hf : Found P b cw x5 x6 x13 x15 x16 x17)

include hcw ho hv hf

/-- Every store of the transposed codes is a block of them. -/
theorem pieces19 : ∀ p ∈ (runB.sl.H19_14 (F := Ideal) i arg6 harg6 arg13 harg13 arg16 harg16 arg17 harg17 h4 x6 x16 x17 x13), ∀ x : p.1.shape.Idx, p.2 x = (fun y : S256x896.Idx => Spec.code P b (y 1) ⟨cw + (y 0).val, by have : (y 0).val < 256 := (y 0).isLt; omega⟩) (p.1.emb x) := by
  simp only [runB.sl.H19_14, runB.sl.v865, runB.sl.r_43, runB.sl.v844, runB.sl.r_42, runB.sl.H19_11, runB.sl.v823, runB.sl.v802, runB.sl.r_41, runB.sl.H19_9, runB.sl.v781, runB.sl.v760, runB.sl.r_40, runB.sl.H19_7, runB.sl.r_37, runB.sl.v739, runB.sl.v652, runB.sl.cst_291, runB.sl.r_35, runB.sl.H19_5, runB.sl.v631, runB.sl.v610, runB.sl.r_34, runB.sl.H19_3, runB.sl.v589, runB.sl.v568, runB.sl.r_33, runB.sl.H19_1, runB.sl.v547, runB.sl.v526,
    k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178,
    cov13 i arg6 harg6 arg13 harg13 arg16 harg16 arg17 harg17 P b cw hcw ho hv h4 x5 x6 x13 x15 x16 x17 hf 0 cw (by omega) (by omega) (by omega) (by omega) ho.e3_0,
    cov13 i arg6 harg6 arg13 harg13 arg16 harg16 arg17 harg17 P b cw hcw ho hv h4 x5 x6 x13 x15 x16 x17 hf 0 (cw + 128) (by omega) (by omega) (by omega) (by omega) ho.e3_128,
    cov13 i arg6 harg6 arg13 harg13 arg16 harg16 arg17 harg17 P b cw hcw ho hv h4 x5 x6 x13 x15 x16 x17 hf 128 cw (by omega) (by omega) (by omega) (by omega) ho.e4_0,
    cov13 i arg6 harg6 arg13 harg13 arg16 harg16 arg17 harg17 P b cw hcw ho hv h4 x5 x6 x13 x15 x16 x17 hf 128 (cw + 128) (by omega) (by omega) (by omega) (by omega) ho.e4_128,
    cov13 i arg6 harg6 arg13 harg13 arg16 harg16 arg17 harg17 P b cw hcw ho hv h4 x5 x6 x13 x15 x16 x17 hf 256 cw (by omega) (by omega) (by omega) (by omega) ho.e5_0,
    cov13 i arg6 harg6 arg13 harg13 arg16 harg16 arg17 harg17 P b cw hcw ho hv h4 x5 x6 x13 x15 x16 x17 hf 256 (cw + 128) (by omega) (by omega) (by omega) (by omega) ho.e5_128,
    cov13 i arg6 harg6 arg13 harg13 arg16 harg16 arg17 harg17 P b cw hcw ho hv h4 x5 x6 x13 x15 x16 x17 hf 384 cw (by omega) (by omega) (by omega) (by omega) ho.e6_0,
    cov13 i arg6 harg6 arg13 harg13 arg16 harg16 arg17 harg17 P b cw hcw ho hv h4 x5 x6 x13 x15 x16 x17 hf 384 (cw + 128) (by omega) (by omega) (by omega) (by omega) ho.e6_128,
    cov13 i arg6 harg6 arg13 harg13 arg16 harg16 arg17 harg17 P b cw hcw ho hv h4 x5 x6 x13 x15 x16 x17 hf 512 cw (by omega) (by omega) (by omega) (by omega) ho.e7_0,
    cov13 i arg6 harg6 arg13 harg13 arg16 harg16 arg17 harg17 P b cw hcw ho hv h4 x5 x6 x13 x15 x16 x17 hf 512 (cw + 128) (by omega) (by omega) (by omega) (by omega) ho.e7_128,
    cov13 i arg6 harg6 arg13 harg13 arg16 harg16 arg17 harg17 P b cw hcw ho hv h4 x5 x6 x13 x15 x16 x17 hf 640 cw (by omega) (by omega) (by omega) (by omega) ho.e8_0,
    cov13 i arg6 harg6 arg13 harg13 arg16 harg16 arg17 harg17 P b cw hcw ho hv h4 x5 x6 x13 x15 x16 x17 hf 640 (cw + 128) (by omega) (by omega) (by omega) (by omega) ho.e8_128,
    cov13 i arg6 harg6 arg13 harg13 arg16 harg16 arg17 harg17 P b cw hcw ho hv h4 x5 x6 x13 x15 x16 x17 hf 768 cw (by omega) (by omega) (by omega) (by omega) ho.e9_0,
    cov13 i arg6 harg6 arg13 harg13 arg16 harg16 arg17 harg17 P b cw hcw ho hv h4 x5 x6 x13 x15 x16 x17 hf 768 (cw + 128) (by omega) (by omega) (by omega) (by omega) ho.e9_128,
    inv_r31 i arg6 harg6 arg13 harg13 arg16 harg16 arg17 harg17 P b cw hcw ho hv h4 x5 x6 x13 x15 x16 x17 hf, inv_r39 i arg6 harg6 arg13 harg13 arg16 harg16 arg17 harg17 P b cw hcw ho hv h4 x5 x6 x13 x15 x16 x17 hf, inv_r28 i arg6 harg6 arg13 harg13 arg16 harg16 arg17 harg17 P b cw hcw ho hv h4 x5 x6 x13 x15 x16 x17 hf, code_blk, List.forall_mem_cons]
  exact ⟨fun x => code_tr_emb P b cw hcw 768 128 (by omega) (by omega) (by omega) _ x, fun x => code_tr_emb P b cw hcw 640 128 (by omega) (by omega) (by omega) _ x, fun x => code_tr_emb P b cw hcw 512 128 (by omega) (by omega) (by omega) _ x, fun x => code_tr_emb P b cw hcw 384 128 (by omega) (by omega) (by omega) _ x, fun x => code_tr_emb P b cw hcw 256 128 (by omega) (by omega) (by omega) _ x, fun x => code_tr_emb P b cw hcw 128 128 (by omega) (by omega) (by omega) _ x, fun x => code_tr_emb P b cw hcw 0 128 (by omega) (by omega) (by omega) _ x, fun x => code_tr_emb P b cw hcw 768 0 (by omega) (by omega) (by omega) _ x, fun x => code_tr_emb P b cw hcw 640 0 (by omega) (by omega) (by omega) _ x, fun x => code_tr_emb P b cw hcw 512 0 (by omega) (by omega) (by omega) _ x, fun x => code_tr_emb P b cw hcw 384 0 (by omega) (by omega) (by omega) _ x, fun x => code_tr_emb P b cw hcw 256 0 (by omega) (by omega) (by omega) _ x, fun x => code_tr_emb P b cw hcw 128 0 (by omega) (by omega) (by omega) _ x, fun x => code_tr_emb P b cw hcw 0 0 (by omega) (by omega) (by omega) _ x, fun p h => absurd h List.not_mem_nil⟩

omit hcw ho hv hf in
theorem cover19_0 (l : Fin 256) (r : Fin 896) (h : l.val < 128) : ∃ p ∈ (runB.sl.H19_7 (F := Ideal) i arg6 harg6 arg13 harg13 arg16 harg16 arg17 harg17 h4 x6 x16 x17 x13), ix2 l r ∈ p.1.set := by
  unfold runB.sl.H19_7 runB.sl.H19_5 runB.sl.H19_3 runB.sl.H19_1
  have hr := r.isLt
  by_cases c0 : 768 ≤ r.val ∧ r.val < 896
  · refine ⟨_, .head _, ?_⟩; exact mem_two _ (fun _ => rfl) 0 768 rfl 128 128 rfl rfl l r (by omega)
  by_cases c1 : 640 ≤ r.val ∧ r.val < 768
  · refine ⟨_, .tail _ (.head _), ?_⟩; exact mem_two _ (fun _ => rfl) 0 640 rfl 128 128 rfl rfl l r (by omega)
  by_cases c2 : 512 ≤ r.val ∧ r.val < 640
  · refine ⟨_, .tail _ (.tail _ (.head _)), ?_⟩; exact mem_two _ (fun _ => rfl) 0 512 rfl 128 128 rfl rfl l r (by omega)
  by_cases c3 : 384 ≤ r.val ∧ r.val < 512
  · refine ⟨_, .tail _ (.tail _ (.tail _ (.head _))), ?_⟩; exact mem_two _ (fun _ => rfl) 0 384 rfl 128 128 rfl rfl l r (by omega)
  by_cases c4 : 256 ≤ r.val ∧ r.val < 384
  · refine ⟨_, .tail _ (.tail _ (.tail _ (.tail _ (.head _)))), ?_⟩; exact mem_two _ (fun _ => rfl) 0 256 rfl 128 128 rfl rfl l r (by omega)
  by_cases c5 : 128 ≤ r.val ∧ r.val < 256
  · refine ⟨_, .tail _ (.tail _ (.tail _ (.tail _ (.tail _ (.head _))))), ?_⟩; exact mem_two _ (fun _ => rfl) 0 128 rfl 128 128 rfl rfl l r (by omega)
  by_cases c6 : 0 ≤ r.val ∧ r.val < 128
  · refine ⟨_, .tail _ (.tail _ (.tail _ (.tail _ (.tail _ (.tail _ (.head _)))))), ?_⟩; exact mem_two _ (fun _ => rfl) 0 0 rfl 128 128 rfl rfl l r (by omega)
  omega

omit hcw ho hv hf in
theorem cover19_1 (l : Fin 256) (r : Fin 896) (h : 128 ≤ l.val) : ∃ p ∈ (runB.sl.H19_14 (F := Ideal) i arg6 harg6 arg13 harg13 arg16 harg16 arg17 harg17 h4 x6 x16 x17 x13), ix2 l r ∈ p.1.set := by
  unfold runB.sl.H19_14 runB.sl.H19_11 runB.sl.H19_9
  have hr := r.isLt
  have hl := l.isLt
  by_cases c0 : 768 ≤ r.val ∧ r.val < 896
  · refine ⟨_, .head _, ?_⟩; exact mem_two _ (fun _ => rfl) 128 768 rfl 128 128 rfl rfl l r (by omega)
  by_cases c1 : 640 ≤ r.val ∧ r.val < 768
  · refine ⟨_, .tail _ (.head _), ?_⟩; exact mem_two _ (fun _ => rfl) 128 640 rfl 128 128 rfl rfl l r (by omega)
  by_cases c2 : 512 ≤ r.val ∧ r.val < 640
  · refine ⟨_, .tail _ (.tail _ (.head _)), ?_⟩; exact mem_two _ (fun _ => rfl) 128 512 rfl 128 128 rfl rfl l r (by omega)
  by_cases c3 : 384 ≤ r.val ∧ r.val < 512
  · refine ⟨_, .tail _ (.tail _ (.tail _ (.head _))), ?_⟩; exact mem_two _ (fun _ => rfl) 128 384 rfl 128 128 rfl rfl l r (by omega)
  by_cases c4 : 256 ≤ r.val ∧ r.val < 384
  · refine ⟨_, .tail _ (.tail _ (.tail _ (.tail _ (.head _)))), ?_⟩; exact mem_two _ (fun _ => rfl) 128 256 rfl 128 128 rfl rfl l r (by omega)
  by_cases c5 : 128 ≤ r.val ∧ r.val < 256
  · refine ⟨_, .tail _ (.tail _ (.tail _ (.tail _ (.tail _ (.head _))))), ?_⟩; exact mem_two _ (fun _ => rfl) 128 128 rfl 128 128 rfl rfl l r (by omega)
  by_cases c6 : 0 ≤ r.val ∧ r.val < 128
  · refine ⟨_, .tail _ (.tail _ (.tail _ (.tail _ (.tail _ (.tail _ (.head _)))))), ?_⟩; exact mem_two _ (fun _ => rfl) 128 0 rfl 128 128 rfl rfl l r (by omega)
  omega

theorem codes_v677 (l : Fin 128) (r : Fin 896) : (runB.sl.v677 (F := Ideal) i arg6 harg6 arg13 harg13 arg16 harg16 arg17 harg17 arg19 h4 x6 x16 x17 x13) (ix2 l r) = Spec.code P b r ⟨cw + l.val, by omega⟩ := by
  unfold runB.sl.v677
  have hl := l.isLt
  have h19 := pieces19 i arg6 harg6 arg13 harg13 arg16 harg16 arg17 harg17 P b cw hcw ho hv h4 x5 x6 x13 x15 x16 x17 hf
  have e : (Rect.unit (s := S256x896) ![0, 0] S128x896.size inb_S256x896_S128x896_0_0).emb (ix2 l r) = ix2 (⟨l.val, by omega⟩ : Fin 256) r := by
    funext a
    apply Fin.ext
    match a with
    | ⟨0, _⟩ => show 0 + 1 * l.val = l.val; omega
    | ⟨1, _⟩ => show 0 + 1 * r.val = r.val; omega
  refine Eq.trans (congrArg (arg19.view.read (Elt Ideal) _) e) ?_
  refine (View.read_writes_apply_of_pieces arg19.view _ (fun y : S256x896.Idx => Spec.code P b (y 1) ⟨cw + (y 0).val, by have : (y 0).val < 256 := (y 0).isLt; omega⟩) _ (fun p hp => ?_) _ (cover19_0 i arg6 harg6 arg13 harg13 arg16 harg16 arg17 harg17 h4 x6 x13 x16 x17 _ _ hl)).trans rfl
  refine h19 p ?_
  unfold runB.sl.H19_14 runB.sl.H19_11 runB.sl.H19_9
  exact .tail _ (.tail _ (.tail _ (.tail _ (.tail _ (.tail _ (.tail _ (hp)))))))

theorem codes_v890 (l : Fin 128) (r : Fin 896) : (runB.sl.v890 (F := Ideal) i arg6 harg6 arg13 harg13 arg16 harg16 arg17 harg17 arg19 h4 x6 x16 x17 x13) (ix2 l r) = Spec.code P b r ⟨cw + 128 + l.val, by omega⟩ := by
  unfold runB.sl.v890
  have hl := l.isLt
  have e : (Rect.unit (s := S256x896) ![128, 0] S128x896.size inb_S256x896_S128x896_128_0).emb (ix2 l r) = ix2 (⟨128 + l.val, by omega⟩ : Fin 256) r := by
    funext a
    apply Fin.ext
    match a with
    | ⟨0, _⟩ => show 128 + 1 * l.val = 128 + l.val; omega
    | ⟨1, _⟩ => show 0 + 1 * r.val = r.val; omega
  refine Eq.trans (congrArg (arg19.view.read (Elt Ideal) _) e) ?_
  refine (View.read_writes_apply_of_pieces arg19.view _ (fun y : S256x896.Idx => Spec.code P b (y 1) ⟨cw + (y 0).val, by have : (y 0).val < 256 := (y 0).isLt; omega⟩) _ (pieces19 i arg6 harg6 arg13 harg13 arg16 harg16 arg17 harg17 P b cw hcw ho hv h4 x5 x6 x13 x15 x16 x17 hf) _ (cover19_1 i arg6 harg6 arg13 harg13 arg16 harg16 arg17 harg17 h4 x6 x13 x16 x17 _ _ (by show 128 ≤ 128 + l.val; omega))).trans ?_
  exact congrArg (Spec.code P b r) (Fin.ext (by show cw + (128 + l.val) = cw + 128 + l.val; omega))

end

end Cert.KernelIdeal.Run

end
-- ==== Proof.Ideal.NextB.lean ====
module

public import proofs.«01_k».proof.Proof.Ideal.CodesB
public import Idealize.ShloMosaic.Lib.Pointwise
public import Idealize.ShloMosaic.Lib.WritesUnit
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.SL.Sem

open Cert

theorem not_mem_two {m n : ℕ} (e : Rect ⟨2, ![m, n]⟩) (hs : ∀ a, e.stride a = 1) (R C : ℕ) (ho : e.off = ![R, C]) (q : ℕ) (hq : e.size 1 = q) (r : Fin m) (k : Fin n)
    (h : k.val < C ∨ C + q ≤ k.val) : ix2 r k ∉ e.set := by
  intro hm
  obtain ⟨j, hj, e1⟩ := e.mem_set.mp hm 1
  rw [ho, hs, Nat.one_mul] at e1
  have e2 : k.val = C + j := e1
  rw [hq] at hj
  omega

theorem mem_three {m n : ℕ} (e : Rect ⟨3, ![1, m, n]⟩) (hs : ∀ a, e.stride a = 1) (R C : ℕ) (ho : e.off = ![0, R, C]) (p q : ℕ) (h1 : e.size 0 = 1) (hp : e.size 1 = p) (hq : e.size 2 = q) (r : Fin m) (k : Fin n)
    (h : R ≤ r.val ∧ r.val < R + p ∧ C ≤ k.val ∧ k.val < C + q) : ix3 (0 : Fin 1) r k ∈ e.set := by
  refine e.mem_set.mpr fun a => ?_
  match a with
  | ⟨0, _⟩ => exact ⟨0, lt_of_lt_of_eq Nat.zero_lt_one h1.symm, by rw [ho, hs]; rfl⟩
  | ⟨1, _⟩ => exact ⟨r.val - R, lt_of_lt_of_eq (by omega) hp.symm, by rw [ho, hs, Nat.one_mul]; show r.val = R + (r.val - R); omega⟩
  | ⟨2, _⟩ => exact ⟨k.val - C, lt_of_lt_of_eq (by omega) hq.symm, by rw [ho, hs, Nat.one_mul]; show k.val = C + (k.val - C); omega⟩

/-- One row of 128 columns stored over what a buffer holds. -/
theorem row_write {m : ℕ} (M : Memref sig .tc .vmem ⟨2, ![m, 7168]⟩ .f32) (f) (L : List (View.Piece (Elt Ideal) ⟨2, ![m, 7168]⟩ .f32)) (g : Fin 7168 → EReal) (B : Fin m) (C : ℕ) (hC : C + 128 ≤ 7168)
    {off : Fin 2 → ℕ} (e : off = ![B.val, C]) (inb : ∀ a, off a + S1x128.size a ≤ (⟨2, ![m, 7168]⟩ : Shape).size a) (b' : Fin m) (k : Fin 7168) :
    M.view.read (Elt Ideal) (M.view.writes (Elt Ideal) f (⟨Rect.unit (s := ⟨2, ![m, 7168]⟩) off S1x128.size inb, rowOf g C hC⟩ :: L)) (ix2 b' k)
      = if b' = B ∧ C ≤ k.val ∧ k.val < C + 128 then g k else M.view.read (Elt Ideal) (M.view.writes (Elt Ideal) f L) (ix2 b' k) := by
  by_cases h : b' = B ∧ C ≤ k.val ∧ k.val < C + 128
  · rw [if_pos h]
    refine (View.read_writes_cons_unit_of_mem M.view _ _ _ _ _ (ix2 (0 : Fin 1) (⟨k.val - C, by omega⟩ : Fin 128)) e fun a => ?_).trans ?_
    · match a with
      | ⟨0, _⟩ => exact congrArg Fin.val h.1
      | ⟨1, _⟩ => show k.val = C + (k.val - C); omega
    · exact congrArg g (Fin.ext (by show C + (k.val - C) = k.val; omega))
  · rw [if_neg h]
    by_cases hb : b' = B
    · refine View.read_writes_cons_unit_of_not_mem M.view _ _ _ _ _ e (1 : Fin 2) ?_
      show k.val < C ∨ C + 128 ≤ k.val
      have := fun h' => h ⟨hb, h'⟩
      omega
    · refine View.read_writes_cons_unit_of_not_mem M.view _ _ _ _ _ e (0 : Fin 2) ?_
      show b'.val < B.val ∨ B.val + 1 ≤ b'.val
      have : b'.val ≠ B.val := fun h' => hb (Fin.ext h')
      omega

/-- What a load of 128 columns of a row finds. -/
theorem load_row (M : Memref sig .tc .vmem S1x1x7168 .f32) (hM : M.IsWhole) (x : Vec Ideal S1x1x7168 .f32) (C : ℕ) (hC : C + 128 ≤ 7168) {off : Fin 3 → ℕ} (e : off = ![0, 0, C])
    (inb : ∀ a, off a + S1x1x128.size a ≤ S1x1x7168.size a) (l : Fin 128) :
    View.readAt (Elt Ideal) M.view (Rect.unit (s := S1x1x7168) off S1x1x128.size inb).toLoadRect (hM.unread x) (ix3 0 0 l) = x (ix3 0 0 ⟨C + l.val, by omega⟩) := by
  rw [Memref.IsWhole.readAt_unread]
  subst e
  refine congrArg x ?_
  funext a
  apply Fin.ext
  match a with
  | ⟨0, _⟩ => rfl
  | ⟨1, _⟩ => rfl
  | ⟨2, _⟩ => show C + 1 * l.val = C + l.val; omega

/-- The rows of a block of the labels' scratch. -/
def oldBlk (x : Vec Ideal S896x128 .f32) (R : ℕ) (hR : R + 128 ≤ 896) : FVec Ideal S128x128 .f32 :=
  fun j => x (ix2 ⟨R + (j 0).val, by have : (j 0).val < 128 := (j 0).isLt; omega⟩ (j 1))

theorem load_old (M : Memref sig .tc .vmem S896x128 .f32) (hM : M.IsWhole) (x : Vec Ideal S896x128 .f32) (R : ℕ) (hR : R + 128 ≤ 896)
    (inb : ∀ a, (![R, 0] : Fin 2 → ℕ) a + S128x128.size a ≤ S896x128.size a) :
    View.readAt (Elt Ideal) M.view (Rect.unit (s := S896x128) ![R, 0] S128x128.size inb).toLoadRect (hM.unread x) = oldBlk x R hR := by
  funext j
  rw [Memref.IsWhole.readAt_unread]
  refine congrArg x ?_
  funext a
  apply Fin.ext
  match a with
  | ⟨0, _⟩ => show R + 1 * (j 0).val = R + (j 0).val; omega
  | ⟨1, _⟩ => show 0 + 1 * (j 1).val = (j 1).val; omega

theorem cov_head {s : Shape} {e : EltTy} (M : Memref sig .tc .vmem s e) (off size : Fin s.rank → ℕ) (inb : ∀ a, off a + size a ≤ s.size a) (w : (Rect.unit (s := s) off size inb).shape.Idx → Elt Ideal e) (L) :
    M.view.readCov (⟨Rect.unit (s := s) off size inb, w⟩ :: L) (Rect.unit (s := s) off size inb).toLoadRect = w :=
  funext fun x => View.read_writes_cons_emb M.view _ (Rect.unit (s := s) off size inb) w L x

/-- The labels' value after two blocks of columns. -/
def labVal (P : Spec.Inp) (b : Fin 2) (cw : ℕ) (hcw : cw + 256 ≤ 7168) (x : Vec Ideal S896x128 .f32) (r : Fin 896) (l : Fin 128) : EReal :=
  if Spec.hit P b r ⟨cw + 128 + l.val, by omega⟩ then Spec.logp P b r ⟨cw + 128 + l.val, by omega⟩
  else if Spec.hit P b r ⟨cw + l.val, by omega⟩ then Spec.logp P b r ⟨cw + l.val, by omega⟩ else x (ix2 r l)

theorem select_hit (P : Spec.Inp) (b : Fin 2) (R C : ℕ) (hR : R + 128 ≤ 896) (hC : C + 128 ≤ 7168) (old : FVec Ideal S128x128 .f32) (r l : Fin 128) :
    select (hitBlk P b R C hR hC) (blk .f32 (Spec.logp P b) R C hR hC) old (ix2 r l)
      = if Spec.hit P b ⟨R + r.val, by omega⟩ ⟨C + l.val, by omega⟩ then Spec.logp P b ⟨R + r.val, by omega⟩ ⟨C + l.val, by omega⟩ else old (ix2 r l) := by
  show (if hitBlk P b R C hR hC (ix2 r l) = 1#1 then _ else _) = _
  have e : hitBlk P b R C hR hC (ix2 r l) = BitVec.ofBool (decide (Spec.hit P b ⟨R + r.val, by omega⟩ ⟨C + l.val, by omega⟩)) := rfl
  rw [e]
  by_cases h : Spec.hit P b ⟨R + r.val, by omega⟩ ⟨C + l.val, by omega⟩
  · rw [if_pos h, decide_eq_true h]; rfl
  · rw [if_neg h, decide_eq_false h]; rfl

theorem lab_two (P : Spec.Inp) (b : Fin 2) (cw : ℕ) (hcw : cw + 256 ≤ 7168) (x : Vec Ideal S896x128 .f32) (R : ℕ) (hR : R + 128 ≤ 896) (r : Fin 896) (l : Fin 128) (h : R ≤ r.val ∧ r.val < R + 128) :
    select (hitBlk P b R (cw + 128) hR (by omega)) (blk .f32 (Spec.logp P b) R (cw + 128) hR (by omega)) (select (hitBlk P b R cw hR (by omega)) (blk .f32 (Spec.logp P b) R cw hR (by omega)) (oldBlk x R hR))
      (ix2 (⟨r.val - R, by omega⟩ : Fin 128) l) = labVal P b cw hcw x r l := by
  have e : (⟨R + (r.val - R), by omega⟩ : Fin 896) = r := Fin.ext (by show R + (r.val - R) = r.val; omega)
  rw [select_hit, select_hit]
  unfold labVal oldBlk
  show (if Spec.hit P b ⟨R + (r.val - R), _⟩ _ then Spec.logp P b ⟨R + (r.val - R), _⟩ _ else if Spec.hit P b ⟨R + (r.val - R), _⟩ _ then Spec.logp P b ⟨R + (r.val - R), _⟩ _ else x (ix2 ⟨R + (r.val - R), _⟩ l)) = _
  rw [e]

theorem hit18 (M : Memref sig .tc .vmem S896x128 .f32) (f) (L) (R : ℕ) (inb : ∀ a, (![R, 0] : Fin 2 → ℕ) a + S128x128.size a ≤ S896x128.size a) (w : S128x128.Idx → EReal) (r : Fin 896) (l : Fin 128) (h : R ≤ r.val ∧ r.val < R + 128) :
    M.view.read (Elt Ideal) (M.view.writes (Elt Ideal) f (⟨Rect.unit (s := S896x128) ![R, 0] S128x128.size inb, w⟩ :: L)) (ix2 r l) = w (ix2 (⟨r.val - R, by omega⟩ : Fin 128) l) := by
  refine View.read_writes_cons_unit_of_mem M.view _ _ _ _ _ _ rfl fun a => ?_
  match a with
  | ⟨0, _⟩ => show r.val = R + (r.val - R); omega
  | ⟨1, _⟩ => exact (Nat.zero_add _).symm

theorem miss18 (M : Memref sig .tc .vmem S896x128 .f32) (f) (L) (R : ℕ) (inb : ∀ a, (![R, 0] : Fin 2 → ℕ) a + S128x128.size a ≤ S896x128.size a) (w : S128x128.Idx → EReal) (r : Fin 896) (l : Fin 128) (h : ¬ (R ≤ r.val ∧ r.val < R + 128)) :
    M.view.read (Elt Ideal) (M.view.writes (Elt Ideal) f (⟨Rect.unit (s := S896x128) ![R, 0] S128x128.size inb, w⟩ :: L)) (ix2 r l) = M.view.read (Elt Ideal) (M.view.writes (Elt Ideal) f L) (ix2 r l) := by
  refine View.read_writes_cons_unit_of_not_mem M.view _ _ _ _ _ rfl (0 : Fin 2) ?_
  show r.val < R ∨ R + 128 ≤ r.val
  omega

/-- A block of the passages' gradients at the output window's place. -/
theorem grad_emb (P : Spec.Inp) (b : Fin 2) (cw : ℕ) (hcw : cw + 256 ≤ 7168) (J : ℕ) (hJ : J + 128 ≤ 256) (C : ℕ) (hC : C + 128 ≤ 7168) (hCJ : C = cw + J) (t : Vec Ideal S128x896 .bf16) (w : Vec Ideal S896x2560 .bf16)
    (ht : ∀ (l : Fin 128) (r : Fin 896), t (ix2 l r) = Spec.code P b r ⟨C + l.val, by omega⟩) (hw : ∀ r d, w (ix2 r d) = (P.q b r d * P.qs b r : EReal))
    (inb : ∀ a, (![0, J, 0] : Fin 3 → ℕ) a + S1x128x2560.size a ≤ S1x256x2560.size a) (x : S1x128x2560.Idx) :
    k0_pay143 (F := Ideal) (k0_pay142 (F := Ideal) (rowOf (Spec.scale P b) C hC)) t w x
      = (fun y : S1x256x2560.Idx => Spec.dp P b ⟨cw + (y 1).val, by have : (y 1).val < 256 := (y 1).isLt; omega⟩ (y 2)) ((Rect.unit (s := S1x256x2560) ![0, J, 0] S1x128x2560.size inb).emb x) := by
  have h0 : (x 0).val < 1 := (x 0).isLt
  have hx : x = ix3 0 (x 1) (x 2) := by
    funext a
    match a with
    | ⟨0, _⟩ => exact Fin.ext (by show (x 0).val = 0; omega)
    | ⟨1, _⟩ => rfl
    | ⟨2, _⟩ => rfl
  refine Eq.trans (congrArg _ hx) ((grad_block P b C hC t w ht hw (x 1) (x 2)).trans ?_)
  subst hCJ
  show Spec.dp P b _ _ = Spec.dp P b _ _
  congr 1
  · exact Fin.ext (by show cw + J + (x 1).val = cw + (J + 1 * (x 1).val); omega)
  · exact Fin.ext (by show (x 2).val = 0 + 1 * (x 2).val; omega)

section

variable (c : Dev nD) (i : grid0.Coords)
  (arg2 : Memref sig .tc .vmem S1x896x2560 .fp8e4m3) (harg2 : arg2.IsWhole)
  (arg3 : Memref sig .tc .vmem S1x896x1 .f32) (harg3 : arg3.IsWhole)
  (arg4 : Memref sig .tc .vmem S1x512x2560 .fp8e4m3) (harg4 : arg4.IsWhole)
  (arg5 : Memref sig .tc .vmem S1x1x7168 .f32) (harg5 : arg5.IsWhole)
  (arg6 : Memref sig .tc .vmem S1x896x1 .i32) (harg6 : arg6.IsWhole)
  (arg7 : Memref sig .tc .vmem S1x7168x512 .fp8e4m3) (harg7 : arg7.IsWhole)
  (arg8 : Memref sig .tc .vmem S2x896 .f32) (harg8 : arg8.IsWhole)
  (arg9 : Memref sig .tc .vmem S1x896x512 .bf16) (harg9 : arg9.IsWhole)
  (arg10 : Memref sig .tc .vmem S1x256x2560 .bf16) (harg10 : arg10.IsWhole)
  (arg11 : Memref sig .tc .vmem S1x896x256 .fp8e5m2) (harg11 : arg11.IsWhole)
  (arg12 : Memref sig .tc .vmem S2x7168 .f32) (harg12 : arg12.IsWhole)
  (arg13 : Memref sig .tc .vmem S896x7168 .f32) (harg13 : arg13.IsWhole)
  (arg14 : Memref sig .tc .vmem S896x7168 .fp8e5m2) (harg14 : arg14.IsWhole)
  (arg15 : Memref sig .tc .vmem S896x2560 .bf16) (harg15 : arg15.IsWhole)
  (arg16 : Memref sig .tc .vmem S896x128 .f32) (harg16 : arg16.IsWhole)
  (arg17 : Memref sig .tc .vmem S896x128 .f32) (harg17 : arg17.IsWhole)
  (arg18 : Memref sig .tc .vmem S896x128 .f32) (harg18 : arg18.IsWhole)
  (arg19 : Memref sig .tc .vmem S256x896 .bf16) (harg19 : arg19.IsWhole)
  (arg20 : Memref sig .tc .vmem S1x7168 .f32) (harg20 : arg20.IsWhole)

variable (P : Spec.Inp) (b : Fin 2) (cw : ℕ) (hcw : cw + 256 ≤ 7168) (ho : Offs i cw)
  (hv : Scalar.muli (Scalar.subi (BitVec.ofNat 32 (i 1).val) 14#32) 256#32 = BitVec.ofNat 32 cw)
  (h1 : ¬ condInit i) (h2 : ¬ k0_cond2 i = 1#1) (h3 : ¬ condStats i) (h4 : k0_cond4 i = 1#1) (h9 : ¬ k0_cond9 i = 1#1) (h24 : ¬ k0_cond24 i = 1#1)  (I : Ins Ideal) (s : St Ideal)
  (hf : Found P b cw I.x5 I.x6 s.x13 s.x15 s.x16 s.x17)

include hf hv hcw

theorem nextB_x14 (r : Fin 896) (k : Fin 7168) (h : cw ≤ k.val ∧ k.val < cw + 256) : (nextB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I s).x14 (ix2 r k) = Spec.code P b r k := by
  unfold nextB runB
  dsimp only
  refine View.read_writes_apply_of_pieces (Val := Elt Ideal) arg14.view _ (fun y : S896x7168.Idx => Spec.code P b (y 0) (y 1)) _ ?_ _ ?_
  · simp only [runB.sl.v865, runB.sl.r_43, runB.sl.v844, runB.sl.r_42, runB.sl.v823, runB.sl.H14_11, runB.sl.v802, runB.sl.r_41, runB.sl.H14_9, runB.sl.v781, runB.sl.v760, runB.sl.H14_8, runB.sl.r_37, runB.sl.v739, runB.sl.H14_7, runB.sl.v652, runB.sl.cst_291, runB.sl.r_35, runB.sl.H14_5, runB.sl.v631, runB.sl.v610, runB.sl.r_34, runB.sl.H14_3, runB.sl.v589, runB.sl.v568, runB.sl.H14_2, runB.sl.v547, runB.sl.v526,
    k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178,
    cov13 i arg6 harg6 arg13 harg13 arg16 harg16 arg17 harg17 P b cw hcw ho hv h4 I.x5 I.x6 s.x13 s.x15 s.x16 s.x17 hf 0 cw (by omega) (by omega) (by omega) (by omega) ho.e3_0,
    cov13 i arg6 harg6 arg13 harg13 arg16 harg16 arg17 harg17 P b cw hcw ho hv h4 I.x5 I.x6 s.x13 s.x15 s.x16 s.x17 hf 0 (cw + 128) (by omega) (by omega) (by omega) (by omega) ho.e3_128,
    cov13 i arg6 harg6 arg13 harg13 arg16 harg16 arg17 harg17 P b cw hcw ho hv h4 I.x5 I.x6 s.x13 s.x15 s.x16 s.x17 hf 128 cw (by omega) (by omega) (by omega) (by omega) ho.e4_0,
    cov13 i arg6 harg6 arg13 harg13 arg16 harg16 arg17 harg17 P b cw hcw ho hv h4 I.x5 I.x6 s.x13 s.x15 s.x16 s.x17 hf 128 (cw + 128) (by omega) (by omega) (by omega) (by omega) ho.e4_128,
    cov13 i arg6 harg6 arg13 harg13 arg16 harg16 arg17 harg17 P b cw hcw ho hv h4 I.x5 I.x6 s.x13 s.x15 s.x16 s.x17 hf 256 cw (by omega) (by omega) (by omega) (by omega) ho.e5_0,
    cov13 i arg6 harg6 arg13 harg13 arg16 harg16 arg17 harg17 P b cw hcw ho hv h4 I.x5 I.x6 s.x13 s.x15 s.x16 s.x17 hf 256 (cw + 128) (by omega) (by omega) (by omega) (by omega) ho.e5_128,
    cov13 i arg6 harg6 arg13 harg13 arg16 harg16 arg17 harg17 P b cw hcw ho hv h4 I.x5 I.x6 s.x13 s.x15 s.x16 s.x17 hf 384 cw (by omega) (by omega) (by omega) (by omega) ho.e6_0,
    cov13 i arg6 harg6 arg13 harg13 arg16 harg16 arg17 harg17 P b cw hcw ho hv h4 I.x5 I.x6 s.x13 s.x15 s.x16 s.x17 hf 384 (cw + 128) (by omega) (by omega) (by omega) (by omega) ho.e6_128,
    cov13 i arg6 harg6 arg13 harg13 arg16 harg16 arg17 harg17 P b cw hcw ho hv h4 I.x5 I.x6 s.x13 s.x15 s.x16 s.x17 hf 512 cw (by omega) (by omega) (by omega) (by omega) ho.e7_0,
    cov13 i arg6 harg6 arg13 harg13 arg16 harg16 arg17 harg17 P b cw hcw ho hv h4 I.x5 I.x6 s.x13 s.x15 s.x16 s.x17 hf 512 (cw + 128) (by omega) (by omega) (by omega) (by omega) ho.e7_128,
    cov13 i arg6 harg6 arg13 harg13 arg16 harg16 arg17 harg17 P b cw hcw ho hv h4 I.x5 I.x6 s.x13 s.x15 s.x16 s.x17 hf 640 cw (by omega) (by omega) (by omega) (by omega) ho.e8_0,
    cov13 i arg6 harg6 arg13 harg13 arg16 harg16 arg17 harg17 P b cw hcw ho hv h4 I.x5 I.x6 s.x13 s.x15 s.x16 s.x17 hf 640 (cw + 128) (by omega) (by omega) (by omega) (by omega) ho.e8_128,
    cov13 i arg6 harg6 arg13 harg13 arg16 harg16 arg17 harg17 P b cw hcw ho hv h4 I.x5 I.x6 s.x13 s.x15 s.x16 s.x17 hf 768 cw (by omega) (by omega) (by omega) (by omega) ho.e9_0,
    cov13 i arg6 harg6 arg13 harg13 arg16 harg16 arg17 harg17 P b cw hcw ho hv h4 I.x5 I.x6 s.x13 s.x15 s.x16 s.x17 hf 768 (cw + 128) (by omega) (by omega) (by omega) (by omega) ho.e9_128,
    inv_r31 i arg6 harg6 arg13 harg13 arg16 harg16 arg17 harg17 P b cw hcw ho hv h4 I.x5 I.x6 s.x13 s.x15 s.x16 s.x17 hf, inv_r39 i arg6 harg6 arg13 harg13 arg16 harg16 arg17 harg17 P b cw hcw ho hv h4 I.x5 I.x6 s.x13 s.x15 s.x16 s.x17 hf, inv_r28 i arg6 harg6 arg13 harg13 arg16 harg16 arg17 harg17 P b cw hcw ho hv h4 I.x5 I.x6 s.x13 s.x15 s.x16 s.x17 hf, code_blk, cast_blk8, List.forall_mem_cons]
    exact ⟨fun x => blk_emb (Spec.code P b) 768 (cw + 128) (by omega) (by omega) ho.e9_128 _ x, fun x => blk_emb (Spec.code P b) 640 (cw + 128) (by omega) (by omega) ho.e8_128 _ x, fun x => blk_emb (Spec.code P b) 512 (cw + 128) (by omega) (by omega) ho.e7_128 _ x, fun x => blk_emb (Spec.code P b) 384 (cw + 128) (by omega) (by omega) ho.e6_128 _ x, fun x => blk_emb (Spec.code P b) 256 (cw + 128) (by omega) (by omega) ho.e5_128 _ x, fun x => blk_emb (Spec.code P b) 128 (cw + 128) (by omega) (by omega) ho.e4_128 _ x, fun x => blk_emb (Spec.code P b) 0 (cw + 128) (by omega) (by omega) ho.e3_128 _ x, fun x => blk_emb (Spec.code P b) 768 cw (by omega) (by omega) ho.e9_0 _ x, fun x => blk_emb (Spec.code P b) 640 cw (by omega) (by omega) ho.e8_0 _ x, fun x => blk_emb (Spec.code P b) 512 cw (by omega) (by omega) ho.e7_0 _ x, fun x => blk_emb (Spec.code P b) 384 cw (by omega) (by omega) ho.e6_0 _ x, fun x => blk_emb (Spec.code P b) 256 cw (by omega) (by omega) ho.e5_0 _ x, fun x => blk_emb (Spec.code P b) 128 cw (by omega) (by omega) ho.e4_0 _ x, fun x => blk_emb (Spec.code P b) 0 cw (by omega) (by omega) ho.e3_0 _ x, fun p h => absurd h List.not_mem_nil⟩
  · unfold runB.sl.H14_11 runB.sl.H14_9 runB.sl.H14_8 runB.sl.H14_7 runB.sl.H14_5 runB.sl.H14_3 runB.sl.H14_2
    have hr := r.isLt
    by_cases c0 : 768 ≤ r.val ∧ r.val < 896 ∧ (cw + 128) ≤ k.val ∧ k.val < (cw + 128) + 128
    · refine ⟨_, .head _, ?_⟩; exact mem_two _ (fun _ => rfl) 768 (cw + 128) ho.e9_128 128 128 rfl rfl r k (by omega)
    by_cases c1 : 640 ≤ r.val ∧ r.val < 768 ∧ (cw + 128) ≤ k.val ∧ k.val < (cw + 128) + 128
    · refine ⟨_, .tail _ (.head _), ?_⟩; exact mem_two _ (fun _ => rfl) 640 (cw + 128) ho.e8_128 128 128 rfl rfl r k (by omega)
    by_cases c2 : 512 ≤ r.val ∧ r.val < 640 ∧ (cw + 128) ≤ k.val ∧ k.val < (cw + 128) + 128
    · refine ⟨_, .tail _ (.tail _ (.head _)), ?_⟩; exact mem_two _ (fun _ => rfl) 512 (cw + 128) ho.e7_128 128 128 rfl rfl r k (by omega)
    by_cases c3 : 384 ≤ r.val ∧ r.val < 512 ∧ (cw + 128) ≤ k.val ∧ k.val < (cw + 128) + 128
    · refine ⟨_, .tail _ (.tail _ (.tail _ (.head _))), ?_⟩; exact mem_two _ (fun _ => rfl) 384 (cw + 128) ho.e6_128 128 128 rfl rfl r k (by omega)
    by_cases c4 : 256 ≤ r.val ∧ r.val < 384 ∧ (cw + 128) ≤ k.val ∧ k.val < (cw + 128) + 128
    · refine ⟨_, .tail _ (.tail _ (.tail _ (.tail _ (.head _)))), ?_⟩; exact mem_two _ (fun _ => rfl) 256 (cw + 128) ho.e5_128 128 128 rfl rfl r k (by omega)
    by_cases c5 : 128 ≤ r.val ∧ r.val < 256 ∧ (cw + 128) ≤ k.val ∧ k.val < (cw + 128) + 128
    · refine ⟨_, .tail _ (.tail _ (.tail _ (.tail _ (.tail _ (.head _))))), ?_⟩; exact mem_two _ (fun _ => rfl) 128 (cw + 128) ho.e4_128 128 128 rfl rfl r k (by omega)
    by_cases c6 : 0 ≤ r.val ∧ r.val < 128 ∧ (cw + 128) ≤ k.val ∧ k.val < (cw + 128) + 128
    · refine ⟨_, .tail _ (.tail _ (.tail _ (.tail _ (.tail _ (.tail _ (.head _)))))), ?_⟩; exact mem_two _ (fun _ => rfl) 0 (cw + 128) ho.e3_128 128 128 rfl rfl r k (by omega)
    by_cases c7 : 768 ≤ r.val ∧ r.val < 896 ∧ cw ≤ k.val ∧ k.val < cw + 128
    · refine ⟨_, .tail _ (.tail _ (.tail _ (.tail _ (.tail _ (.tail _ (.tail _ (.head _))))))), ?_⟩; exact mem_two _ (fun _ => rfl) 768 cw ho.e9_0 128 128 rfl rfl r k (by omega)
    by_cases c8 : 640 ≤ r.val ∧ r.val < 768 ∧ cw ≤ k.val ∧ k.val < cw + 128
    · refine ⟨_, .tail _ (.tail _ (.tail _ (.tail _ (.tail _ (.tail _ (.tail _ (.tail _ (.head _)))))))), ?_⟩; exact mem_two _ (fun _ => rfl) 640 cw ho.e8_0 128 128 rfl rfl r k (by omega)
    by_cases c9 : 512 ≤ r.val ∧ r.val < 640 ∧ cw ≤ k.val ∧ k.val < cw + 128
    · refine ⟨_, .tail _ (.tail _ (.tail _ (.tail _ (.tail _ (.tail _ (.tail _ (.tail _ (.tail _ (.head _))))))))), ?_⟩; exact mem_two _ (fun _ => rfl) 512 cw ho.e7_0 128 128 rfl rfl r k (by omega)
    by_cases c10 : 384 ≤ r.val ∧ r.val < 512 ∧ cw ≤ k.val ∧ k.val < cw + 128
    · refine ⟨_, .tail _ (.tail _ (.tail _ (.tail _ (.tail _ (.tail _ (.tail _ (.tail _ (.tail _ (.tail _ (.head _)))))))))), ?_⟩; exact mem_two _ (fun _ => rfl) 384 cw ho.e6_0 128 128 rfl rfl r k (by omega)
    by_cases c11 : 256 ≤ r.val ∧ r.val < 384 ∧ cw ≤ k.val ∧ k.val < cw + 128
    · refine ⟨_, .tail _ (.tail _ (.tail _ (.tail _ (.tail _ (.tail _ (.tail _ (.tail _ (.tail _ (.tail _ (.tail _ (.head _))))))))))), ?_⟩; exact mem_two _ (fun _ => rfl) 256 cw ho.e5_0 128 128 rfl rfl r k (by omega)
    by_cases c12 : 128 ≤ r.val ∧ r.val < 256 ∧ cw ≤ k.val ∧ k.val < cw + 128
    · refine ⟨_, .tail _ (.tail _ (.tail _ (.tail _ (.tail _ (.tail _ (.tail _ (.tail _ (.tail _ (.tail _ (.tail _ (.tail _ (.head _)))))))))))), ?_⟩; exact mem_two _ (fun _ => rfl) 128 cw ho.e4_0 128 128 rfl rfl r k (by omega)
    by_cases c13 : 0 ≤ r.val ∧ r.val < 128 ∧ cw ≤ k.val ∧ k.val < cw + 128
    · refine ⟨_, .tail _ (.tail _ (.tail _ (.tail _ (.tail _ (.tail _ (.tail _ (.tail _ (.tail _ (.tail _ (.tail _ (.tail _ (.tail _ (.head _))))))))))))), ?_⟩; exact mem_two _ (fun _ => rfl) 0 cw ho.e3_0 128 128 rfl rfl r k (by omega)
    omega

omit hf hv hcw in
theorem nextB_x14_out (r : Fin 896) (k : Fin 7168) (h : k.val < cw ∨ cw + 256 ≤ k.val) : (nextB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I s).x14 (ix2 r k) = s.x14 (ix2 r k) := by
  unfold nextB runB
  dsimp only
  refine (View.read_writes_apply_of_forall_not_mem arg14.view _ _ _ ?_).trans (congrFun (Memref.IsWhole.read_unread harg14 s.x14) _)
  unfold runB.sl.H14_11 runB.sl.H14_9 runB.sl.H14_8 runB.sl.H14_7 runB.sl.H14_5 runB.sl.H14_3 runB.sl.H14_2
  simp only [List.forall_mem_cons]
  exact ⟨not_mem_two _ (fun _ => rfl) 768 (cw + 128) ho.e9_128 128 rfl r k (by omega), not_mem_two _ (fun _ => rfl) 640 (cw + 128) ho.e8_128 128 rfl r k (by omega), not_mem_two _ (fun _ => rfl) 512 (cw + 128) ho.e7_128 128 rfl r k (by omega), not_mem_two _ (fun _ => rfl) 384 (cw + 128) ho.e6_128 128 rfl r k (by omega), not_mem_two _ (fun _ => rfl) 256 (cw + 128) ho.e5_128 128 rfl r k (by omega), not_mem_two _ (fun _ => rfl) 128 (cw + 128) ho.e4_128 128 rfl r k (by omega), not_mem_two _ (fun _ => rfl) 0 (cw + 128) ho.e3_128 128 rfl r k (by omega), not_mem_two _ (fun _ => rfl) 768 cw ho.e9_0 128 rfl r k (by omega), not_mem_two _ (fun _ => rfl) 640 cw ho.e8_0 128 rfl r k (by omega), not_mem_two _ (fun _ => rfl) 512 cw ho.e7_0 128 rfl r k (by omega), not_mem_two _ (fun _ => rfl) 384 cw ho.e6_0 128 rfl r k (by omega), not_mem_two _ (fun _ => rfl) 256 cw ho.e5_0 128 rfl r k (by omega), not_mem_two _ (fun _ => rfl) 128 cw ho.e4_0 128 rfl r k (by omega), not_mem_two _ (fun _ => rfl) 0 cw ho.e3_0 128 rfl r k (by omega), fun p h => absurd h List.not_mem_nil⟩

omit hf hv hcw in
theorem nextB_x13_out (r : Fin 896) (k : Fin 7168) (h : k.val < cw ∨ cw + 256 ≤ k.val) : (nextB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I s).x13 (ix2 r k) = s.x13 (ix2 r k) := by
  unfold nextB runB
  dsimp only
  refine (View.read_writes_apply_of_forall_not_mem arg13.view _ _ _ ?_).trans (congrFun (Memref.IsWhole.read_unread harg13 s.x13) _)
  unfold runB.sl.H13_14 runB.sl.H13_13 runB.sl.H13_11 runB.sl.H13_10 runB.sl.H13_9 runB.sl.H13_8 runB.sl.H13_7 runB.sl.H13_5 runB.sl.H13_4 runB.sl.H13_3 runB.sl.H13_2 runB.sl.H13_1
  simp only [List.forall_mem_cons]
  exact ⟨not_mem_two _ (fun _ => rfl) 768 (cw + 128) ho.e9_128 128 rfl r k (by omega), not_mem_two _ (fun _ => rfl) 768 cw ho.e9_0 128 rfl r k (by omega), not_mem_two _ (fun _ => rfl) 640 (cw + 128) ho.e8_128 128 rfl r k (by omega), not_mem_two _ (fun _ => rfl) 640 cw ho.e8_0 128 rfl r k (by omega), not_mem_two _ (fun _ => rfl) 512 (cw + 128) ho.e7_128 128 rfl r k (by omega), not_mem_two _ (fun _ => rfl) 512 cw ho.e7_0 128 rfl r k (by omega), not_mem_two _ (fun _ => rfl) 384 (cw + 128) ho.e6_128 128 rfl r k (by omega), not_mem_two _ (fun _ => rfl) 384 cw ho.e6_0 128 rfl r k (by omega), not_mem_two _ (fun _ => rfl) 256 (cw + 128) ho.e5_128 128 rfl r k (by omega), not_mem_two _ (fun _ => rfl) 256 cw ho.e5_0 128 rfl r k (by omega), not_mem_two _ (fun _ => rfl) 128 (cw + 128) ho.e4_128 128 rfl r k (by omega), not_mem_two _ (fun _ => rfl) 128 cw ho.e4_0 128 rfl r k (by omega), not_mem_two _ (fun _ => rfl) 0 (cw + 128) ho.e3_128 128 rfl r k (by omega), not_mem_two _ (fun _ => rfl) 0 cw ho.e3_0 128 rfl r k (by omega), fun p h => absurd h List.not_mem_nil⟩

theorem nextB_x11 (r : Fin 896) (l : Fin 256) : (nextB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I s).x11 (ix3 0 r l) = Spec.code P b r ⟨cw + l.val, by omega⟩ := by
  unfold nextB runB
  dsimp only
  refine (View.read_writes_apply_of_pieces arg11.view _ (fun y : S1x896x256.Idx => Spec.code P b (y 1) ⟨cw + (y 2).val, by have : (y 2).val < 256 := (y 2).isLt; omega⟩) _ ?_ _ ?_).trans rfl
  · simp only [runB.sl.v865, runB.sl.r_43, runB.sl.v844, runB.sl.r_42, runB.sl.v823, runB.sl.H11_11, runB.sl.v802, runB.sl.r_41, runB.sl.H11_9, runB.sl.v781, runB.sl.v760, runB.sl.r_40, runB.sl.H11_7, runB.sl.r_37, runB.sl.v739, runB.sl.v652, runB.sl.cst_291, runB.sl.r_35, runB.sl.H11_5, runB.sl.v631, runB.sl.v610, runB.sl.r_34, runB.sl.H11_3, runB.sl.v589, runB.sl.v568, runB.sl.r_33, runB.sl.H11_1, runB.sl.v547, runB.sl.v526,
    k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178,
    cov13 i arg6 harg6 arg13 harg13 arg16 harg16 arg17 harg17 P b cw hcw ho hv h4 I.x5 I.x6 s.x13 s.x15 s.x16 s.x17 hf 0 cw (by omega) (by omega) (by omega) (by omega) ho.e3_0,
    cov13 i arg6 harg6 arg13 harg13 arg16 harg16 arg17 harg17 P b cw hcw ho hv h4 I.x5 I.x6 s.x13 s.x15 s.x16 s.x17 hf 0 (cw + 128) (by omega) (by omega) (by omega) (by omega) ho.e3_128,
    cov13 i arg6 harg6 arg13 harg13 arg16 harg16 arg17 harg17 P b cw hcw ho hv h4 I.x5 I.x6 s.x13 s.x15 s.x16 s.x17 hf 128 cw (by omega) (by omega) (by omega) (by omega) ho.e4_0,
    cov13 i arg6 harg6 arg13 harg13 arg16 harg16 arg17 harg17 P b cw hcw ho hv h4 I.x5 I.x6 s.x13 s.x15 s.x16 s.x17 hf 128 (cw + 128) (by omega) (by omega) (by omega) (by omega) ho.e4_128,
    cov13 i arg6 harg6 arg13 harg13 arg16 harg16 arg17 harg17 P b cw hcw ho hv h4 I.x5 I.x6 s.x13 s.x15 s.x16 s.x17 hf 256 cw (by omega) (by omega) (by omega) (by omega) ho.e5_0,
    cov13 i arg6 harg6 arg13 harg13 arg16 harg16 arg17 harg17 P b cw hcw ho hv h4 I.x5 I.x6 s.x13 s.x15 s.x16 s.x17 hf 256 (cw + 128) (by omega) (by omega) (by omega) (by omega) ho.e5_128,
    cov13 i arg6 harg6 arg13 harg13 arg16 harg16 arg17 harg17 P b cw hcw ho hv h4 I.x5 I.x6 s.x13 s.x15 s.x16 s.x17 hf 384 cw (by omega) (by omega) (by omega) (by omega) ho.e6_0,
    cov13 i arg6 harg6 arg13 harg13 arg16 harg16 arg17 harg17 P b cw hcw ho hv h4 I.x5 I.x6 s.x13 s.x15 s.x16 s.x17 hf 384 (cw + 128) (by omega) (by omega) (by omega) (by omega) ho.e6_128,
    cov13 i arg6 harg6 arg13 harg13 arg16 harg16 arg17 harg17 P b cw hcw ho hv h4 I.x5 I.x6 s.x13 s.x15 s.x16 s.x17 hf 512 cw (by omega) (by omega) (by omega) (by omega) ho.e7_0,
    cov13 i arg6 harg6 arg13 harg13 arg16 harg16 arg17 harg17 P b cw hcw ho hv h4 I.x5 I.x6 s.x13 s.x15 s.x16 s.x17 hf 512 (cw + 128) (by omega) (by omega) (by omega) (by omega) ho.e7_128,
    cov13 i arg6 harg6 arg13 harg13 arg16 harg16 arg17 harg17 P b cw hcw ho hv h4 I.x5 I.x6 s.x13 s.x15 s.x16 s.x17 hf 640 cw (by omega) (by omega) (by omega) (by omega) ho.e8_0,
    cov13 i arg6 harg6 arg13 harg13 arg16 harg16 arg17 harg17 P b cw hcw ho hv h4 I.x5 I.x6 s.x13 s.x15 s.x16 s.x17 hf 640 (cw + 128) (by omega) (by omega) (by omega) (by omega) ho.e8_128,
    cov13 i arg6 harg6 arg13 harg13 arg16 harg16 arg17 harg17 P b cw hcw ho hv h4 I.x5 I.x6 s.x13 s.x15 s.x16 s.x17 hf 768 cw (by omega) (by omega) (by omega) (by omega) ho.e9_0,
    cov13 i arg6 harg6 arg13 harg13 arg16 harg16 arg17 harg17 P b cw hcw ho hv h4 I.x5 I.x6 s.x13 s.x15 s.x16 s.x17 hf 768 (cw + 128) (by omega) (by omega) (by omega) (by omega) ho.e9_128,
    inv_r31 i arg6 harg6 arg13 harg13 arg16 harg16 arg17 harg17 P b cw hcw ho hv h4 I.x5 I.x6 s.x13 s.x15 s.x16 s.x17 hf, inv_r39 i arg6 harg6 arg13 harg13 arg16 harg16 arg17 harg17 P b cw hcw ho hv h4 I.x5 I.x6 s.x13 s.x15 s.x16 s.x17 hf, inv_r28 i arg6 harg6 arg13 harg13 arg16 harg16 arg17 harg17 P b cw hcw ho hv h4 I.x5 I.x6 s.x13 s.x15 s.x16 s.x17 hf, code_blk, List.forall_mem_cons]
    exact ⟨fun x => code_out_emb P b cw hcw 768 128 (by omega) (by omega) (by omega) _ x, fun x => code_out_emb P b cw hcw 640 128 (by omega) (by omega) (by omega) _ x, fun x => code_out_emb P b cw hcw 512 128 (by omega) (by omega) (by omega) _ x, fun x => code_out_emb P b cw hcw 384 128 (by omega) (by omega) (by omega) _ x, fun x => code_out_emb P b cw hcw 256 128 (by omega) (by omega) (by omega) _ x, fun x => code_out_emb P b cw hcw 128 128 (by omega) (by omega) (by omega) _ x, fun x => code_out_emb P b cw hcw 0 128 (by omega) (by omega) (by omega) _ x, fun x => code_out_emb P b cw hcw 768 0 (by omega) (by omega) (by omega) _ x, fun x => code_out_emb P b cw hcw 640 0 (by omega) (by omega) (by omega) _ x, fun x => code_out_emb P b cw hcw 512 0 (by omega) (by omega) (by omega) _ x, fun x => code_out_emb P b cw hcw 384 0 (by omega) (by omega) (by omega) _ x, fun x => code_out_emb P b cw hcw 256 0 (by omega) (by omega) (by omega) _ x, fun x => code_out_emb P b cw hcw 128 0 (by omega) (by omega) (by omega) _ x, fun x => code_out_emb P b cw hcw 0 0 (by omega) (by omega) (by omega) _ x, fun p h => absurd h List.not_mem_nil⟩
  · unfold runB.sl.H11_11 runB.sl.H11_9 runB.sl.H11_7 runB.sl.H11_5 runB.sl.H11_3 runB.sl.H11_1
    have hr := r.isLt
    have hl := l.isLt
    by_cases c0 : 768 ≤ r.val ∧ r.val < 896 ∧ 128 ≤ l.val ∧ l.val < 128 + 128
    · refine ⟨_, .head _, ?_⟩; exact mem_three _ (fun _ => rfl) 768 128 rfl 128 128 rfl rfl rfl r l (by omega)
    by_cases c1 : 640 ≤ r.val ∧ r.val < 768 ∧ 128 ≤ l.val ∧ l.val < 128 + 128
    · refine ⟨_, .tail _ (.head _), ?_⟩; exact mem_three _ (fun _ => rfl) 640 128 rfl 128 128 rfl rfl rfl r l (by omega)
    by_cases c2 : 512 ≤ r.val ∧ r.val < 640 ∧ 128 ≤ l.val ∧ l.val < 128 + 128
    · refine ⟨_, .tail _ (.tail _ (.head _)), ?_⟩; exact mem_three _ (fun _ => rfl) 512 128 rfl 128 128 rfl rfl rfl r l (by omega)
    by_cases c3 : 384 ≤ r.val ∧ r.val < 512 ∧ 128 ≤ l.val ∧ l.val < 128 + 128
    · refine ⟨_, .tail _ (.tail _ (.tail _ (.head _))), ?_⟩; exact mem_three _ (fun _ => rfl) 384 128 rfl 128 128 rfl rfl rfl r l (by omega)
    by_cases c4 : 256 ≤ r.val ∧ r.val < 384 ∧ 128 ≤ l.val ∧ l.val < 128 + 128
    · refine ⟨_, .tail _ (.tail _ (.tail _ (.tail _ (.head _)))), ?_⟩; exact mem_three _ (fun _ => rfl) 256 128 rfl 128 128 rfl rfl rfl r l (by omega)
    by_cases c5 : 128 ≤ r.val ∧ r.val < 256 ∧ 128 ≤ l.val ∧ l.val < 128 + 128
    · refine ⟨_, .tail _ (.tail _ (.tail _ (.tail _ (.tail _ (.head _))))), ?_⟩; exact mem_three _ (fun _ => rfl) 128 128 rfl 128 128 rfl rfl rfl r l (by omega)
    by_cases c6 : 0 ≤ r.val ∧ r.val < 128 ∧ 128 ≤ l.val ∧ l.val < 128 + 128
    · refine ⟨_, .tail _ (.tail _ (.tail _ (.tail _ (.tail _ (.tail _ (.head _)))))), ?_⟩; exact mem_three _ (fun _ => rfl) 0 128 rfl 128 128 rfl rfl rfl r l (by omega)
    by_cases c7 : 768 ≤ r.val ∧ r.val < 896 ∧ 0 ≤ l.val ∧ l.val < 0 + 128
    · refine ⟨_, .tail _ (.tail _ (.tail _ (.tail _ (.tail _ (.tail _ (.tail _ (.head _))))))), ?_⟩; exact mem_three _ (fun _ => rfl) 768 0 rfl 128 128 rfl rfl rfl r l (by omega)
    by_cases c8 : 640 ≤ r.val ∧ r.val < 768 ∧ 0 ≤ l.val ∧ l.val < 0 + 128
    · refine ⟨_, .tail _ (.tail _ (.tail _ (.tail _ (.tail _ (.tail _ (.tail _ (.tail _ (.head _)))))))), ?_⟩; exact mem_three _ (fun _ => rfl) 640 0 rfl 128 128 rfl rfl rfl r l (by omega)
    by_cases c9 : 512 ≤ r.val ∧ r.val < 640 ∧ 0 ≤ l.val ∧ l.val < 0 + 128
    · refine ⟨_, .tail _ (.tail _ (.tail _ (.tail _ (.tail _ (.tail _ (.tail _ (.tail _ (.tail _ (.head _))))))))), ?_⟩; exact mem_three _ (fun _ => rfl) 512 0 rfl 128 128 rfl rfl rfl r l (by omega)
    by_cases c10 : 384 ≤ r.val ∧ r.val < 512 ∧ 0 ≤ l.val ∧ l.val < 0 + 128
    · refine ⟨_, .tail _ (.tail _ (.tail _ (.tail _ (.tail _ (.tail _ (.tail _ (.tail _ (.tail _ (.tail _ (.head _)))))))))), ?_⟩; exact mem_three _ (fun _ => rfl) 384 0 rfl 128 128 rfl rfl rfl r l (by omega)
    by_cases c11 : 256 ≤ r.val ∧ r.val < 384 ∧ 0 ≤ l.val ∧ l.val < 0 + 128
    · refine ⟨_, .tail _ (.tail _ (.tail _ (.tail _ (.tail _ (.tail _ (.tail _ (.tail _ (.tail _ (.tail _ (.tail _ (.head _))))))))))), ?_⟩; exact mem_three _ (fun _ => rfl) 256 0 rfl 128 128 rfl rfl rfl r l (by omega)
    by_cases c12 : 128 ≤ r.val ∧ r.val < 256 ∧ 0 ≤ l.val ∧ l.val < 0 + 128
    · refine ⟨_, .tail _ (.tail _ (.tail _ (.tail _ (.tail _ (.tail _ (.tail _ (.tail _ (.tail _ (.tail _ (.tail _ (.tail _ (.head _)))))))))))), ?_⟩; exact mem_three _ (fun _ => rfl) 128 0 rfl 128 128 rfl rfl rfl r l (by omega)
    by_cases c13 : 0 ≤ r.val ∧ r.val < 128 ∧ 0 ≤ l.val ∧ l.val < 0 + 128
    · refine ⟨_, .tail _ (.tail _ (.tail _ (.tail _ (.tail _ (.tail _ (.tail _ (.tail _ (.tail _ (.tail _ (.tail _ (.tail _ (.tail _ (.head _))))))))))))), ?_⟩; exact mem_three _ (fun _ => rfl) 0 0 rfl 128 128 rfl rfl rfl r l (by omega)
    omega

theorem nextB_x18 (r : Fin 896) (l : Fin 128) : (nextB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I s).x18 (ix2 r l) = labVal P b cw hcw s.x18 r l := by
  unfold nextB runB
  dsimp only
  have hc0 : Scalar.addi (Scalar.muli (Scalar.subi (BitVec.ofNat 32 (i 1).val) 14#32) 256#32) 0#32 = BitVec.ofNat 32 cw := by
    rw [hv]; show BitVec.ofNat 32 cw + 0#32 = _; rw [BitVec.add_zero]
  have hc1 : Scalar.addi (Scalar.muli (Scalar.subi (BitVec.ofNat 32 (i 1).val) 14#32) 256#32) 128#32 = BitVec.ofNat 32 (cw + 128) := by
    rw [hv, BitVec.ofNat_add]; rfl
  have hr := r.isLt
  simp only [runB.sl.H18_14, runB.sl.v21, runB.sl.v23, runB.sl.v445, runB.sl.v461, runB.sl.H18_13, runB.sl.v20, runB.sl.v413, runB.sl.v429, runB.sl.H18_12, runB.sl.v381, runB.sl.v397, runB.sl.H18_11, runB.sl.r_21, runB.sl.r_22, runB.sl.v365, runB.sl.H18_10, runB.sl.v349, runB.sl.r_18, runB.sl.r_19, runB.sl.r_6, runB.sl.v333, runB.sl.H18_9, runB.sl.v317, runB.sl.v90, runB.sl.r_16, runB.sl.v301, runB.sl.H18_8, runB.sl.v285, runB.sl.v253, runB.sl.v269, runB.sl.H18_7, runB.sl.v221, runB.sl.v237, runB.sl.H18_6, runB.sl.v189, runB.sl.v205, runB.sl.H18_5, runB.sl.r_8, runB.sl.r_9, runB.sl.v173, runB.sl.H18_4, runB.sl.v157, runB.sl.r_4, runB.sl.r_5, runB.sl.v141, runB.sl.H18_3, runB.sl.v125, runB.sl.r_2, runB.sl.v109, runB.sl.H18_2, runB.sl.v93, runB.sl.v61, runB.sl.v77, runB.sl.H18_1,
    k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106,
    load_blk arg13 harg13 s.x13 (Spec.X P b) 0 cw (by omega) (by omega) (fun r k h1 h2 => hf.f13 r k (by omega) (by omega)) ho.e3_0,
    load_blk arg13 harg13 s.x13 (Spec.X P b) 0 (cw + 128) (by omega) (by omega) (fun r k h1 h2 => hf.f13 r k (by omega) (by omega)) ho.e3_128,
    load_blk arg13 harg13 s.x13 (Spec.X P b) 128 cw (by omega) (by omega) (fun r k h1 h2 => hf.f13 r k (by omega) (by omega)) ho.e4_0,
    load_blk arg13 harg13 s.x13 (Spec.X P b) 128 (cw + 128) (by omega) (by omega) (fun r k h1 h2 => hf.f13 r k (by omega) (by omega)) ho.e4_128,
    load_blk arg13 harg13 s.x13 (Spec.X P b) 256 cw (by omega) (by omega) (fun r k h1 h2 => hf.f13 r k (by omega) (by omega)) ho.e5_0,
    load_blk arg13 harg13 s.x13 (Spec.X P b) 256 (cw + 128) (by omega) (by omega) (fun r k h1 h2 => hf.f13 r k (by omega) (by omega)) ho.e5_128,
    load_blk arg13 harg13 s.x13 (Spec.X P b) 384 cw (by omega) (by omega) (fun r k h1 h2 => hf.f13 r k (by omega) (by omega)) ho.e6_0,
    load_blk arg13 harg13 s.x13 (Spec.X P b) 384 (cw + 128) (by omega) (by omega) (fun r k h1 h2 => hf.f13 r k (by omega) (by omega)) ho.e6_128,
    load_blk arg13 harg13 s.x13 (Spec.X P b) 512 cw (by omega) (by omega) (fun r k h1 h2 => hf.f13 r k (by omega) (by omega)) ho.e7_0,
    load_blk arg13 harg13 s.x13 (Spec.X P b) 512 (cw + 128) (by omega) (by omega) (fun r k h1 h2 => hf.f13 r k (by omega) (by omega)) ho.e7_128,
    load_blk arg13 harg13 s.x13 (Spec.X P b) 640 cw (by omega) (by omega) (fun r k h1 h2 => hf.f13 r k (by omega) (by omega)) ho.e8_0,
    load_blk arg13 harg13 s.x13 (Spec.X P b) 640 (cw + 128) (by omega) (by omega) (fun r k h1 h2 => hf.f13 r k (by omega) (by omega)) ho.e8_128,
    load_blk arg13 harg13 s.x13 (Spec.X P b) 768 cw (by omega) (by omega) (fun r k h1 h2 => hf.f13 r k (by omega) (by omega)) ho.e9_0,
    load_blk arg13 harg13 s.x13 (Spec.X P b) 768 (cw + 128) (by omega) (by omega) (fun r k h1 h2 => hf.f13 r k (by omega) (by omega)) ho.e9_128,
    load_rows arg16 harg16 s.x16 (Spec.M P b) 0 (by omega) hf.f16,
    load_rows arg17 harg17 s.x17 (Spec.L P b) 0 (by omega) hf.f17,
    load_rows arg16 harg16 s.x16 (Spec.M P b) 128 (by omega) hf.f16,
    load_rows arg17 harg17 s.x17 (Spec.L P b) 128 (by omega) hf.f17,
    load_rows arg16 harg16 s.x16 (Spec.M P b) 256 (by omega) hf.f16,
    load_rows arg17 harg17 s.x17 (Spec.L P b) 256 (by omega) hf.f17,
    load_rows arg16 harg16 s.x16 (Spec.M P b) 384 (by omega) hf.f16,
    load_rows arg17 harg17 s.x17 (Spec.L P b) 384 (by omega) hf.f17,
    load_rows arg16 harg16 s.x16 (Spec.M P b) 512 (by omega) hf.f16,
    load_rows arg17 harg17 s.x17 (Spec.L P b) 512 (by omega) hf.f17,
    load_rows arg16 harg16 s.x16 (Spec.M P b) 640 (by omega) hf.f16,
    load_rows arg17 harg17 s.x17 (Spec.L P b) 640 (by omega) hf.f17,
    load_rows arg16 harg16 s.x16 (Spec.M P b) 768 (by omega) hf.f16,
    load_rows arg17 harg17 s.x17 (Spec.L P b) 768 (by omega) hf.f17,
    readAt_whole arg6 harg6 I.x6 z3, load_old arg18 harg18 s.x18 0 (by omega),
    load_old arg18 harg18 s.x18 128 (by omega),
    load_old arg18 harg18 s.x18 256 (by omega),
    load_old arg18 harg18 s.x18 384 (by omega),
    load_old arg18 harg18 s.x18 512 (by omega),
    load_old arg18 harg18 s.x18 640 (by omega),
    load_old arg18 harg18 s.x18 768 (by omega), logp_blk,
    hit_blk P b _ 0 cw (by omega) (by omega) hc0 I.x6 hf.f6,
    hit_blk P b _ 0 (cw + 128) (by omega) (by omega) hc1 I.x6 hf.f6,
    hit_blk P b _ 128 cw (by omega) (by omega) hc0 I.x6 hf.f6,
    hit_blk P b _ 128 (cw + 128) (by omega) (by omega) hc1 I.x6 hf.f6,
    hit_blk P b _ 256 cw (by omega) (by omega) hc0 I.x6 hf.f6,
    hit_blk P b _ 256 (cw + 128) (by omega) (by omega) hc1 I.x6 hf.f6,
    hit_blk P b _ 384 cw (by omega) (by omega) hc0 I.x6 hf.f6,
    hit_blk P b _ 384 (cw + 128) (by omega) (by omega) hc1 I.x6 hf.f6,
    hit_blk P b _ 512 cw (by omega) (by omega) hc0 I.x6 hf.f6,
    hit_blk P b _ 512 (cw + 128) (by omega) (by omega) hc1 I.x6 hf.f6,
    hit_blk P b _ 640 cw (by omega) (by omega) hc0 I.x6 hf.f6,
    hit_blk P b _ 640 (cw + 128) (by omega) (by omega) hc1 I.x6 hf.f6,
    hit_blk P b _ 768 cw (by omega) (by omega) hc0 I.x6 hf.f6,
    hit_blk P b _ 768 (cw + 128) (by omega) (by omega) hc1 I.x6 hf.f6, cast_blk, cov_head]
  by_cases c6 : 768 ≤ r.val ∧ r.val < 768 + 128
  · exact (hit18 arg18 _ _ 768 _ _ r l c6).trans (lab_two P b cw hcw s.x18 768 (by omega) r l c6)
  refine (miss18 arg18 _ _ 768 _ _ r l c6).trans ?_
  refine (miss18 arg18 _ _ 768 _ _ r l c6).trans ?_
  by_cases c5 : 640 ≤ r.val ∧ r.val < 640 + 128
  · exact (hit18 arg18 _ _ 640 _ _ r l c5).trans (lab_two P b cw hcw s.x18 640 (by omega) r l c5)
  refine (miss18 arg18 _ _ 640 _ _ r l c5).trans ?_
  refine (miss18 arg18 _ _ 640 _ _ r l c5).trans ?_
  by_cases c4 : 512 ≤ r.val ∧ r.val < 512 + 128
  · exact (hit18 arg18 _ _ 512 _ _ r l c4).trans (lab_two P b cw hcw s.x18 512 (by omega) r l c4)
  refine (miss18 arg18 _ _ 512 _ _ r l c4).trans ?_
  refine (miss18 arg18 _ _ 512 _ _ r l c4).trans ?_
  by_cases c3 : 384 ≤ r.val ∧ r.val < 384 + 128
  · exact (hit18 arg18 _ _ 384 _ _ r l c3).trans (lab_two P b cw hcw s.x18 384 (by omega) r l c3)
  refine (miss18 arg18 _ _ 384 _ _ r l c3).trans ?_
  refine (miss18 arg18 _ _ 384 _ _ r l c3).trans ?_
  by_cases c2 : 256 ≤ r.val ∧ r.val < 256 + 128
  · exact (hit18 arg18 _ _ 256 _ _ r l c2).trans (lab_two P b cw hcw s.x18 256 (by omega) r l c2)
  refine (miss18 arg18 _ _ 256 _ _ r l c2).trans ?_
  refine (miss18 arg18 _ _ 256 _ _ r l c2).trans ?_
  by_cases c1 : 128 ≤ r.val ∧ r.val < 128 + 128
  · exact (hit18 arg18 _ _ 128 _ _ r l c1).trans (lab_two P b cw hcw s.x18 128 (by omega) r l c1)
  refine (miss18 arg18 _ _ 128 _ _ r l c1).trans ?_
  refine (miss18 arg18 _ _ 128 _ _ r l c1).trans ?_
  by_cases c0 : 0 ≤ r.val ∧ r.val < 0 + 128
  · exact (hit18 arg18 _ _ 0 _ _ r l c0).trans (lab_two P b cw hcw s.x18 0 (by omega) r l c0)
  omega

theorem nextB_x20 (k : Fin 7168) : (nextB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I s).x20 (ix2 0 k) = if cw ≤ k.val ∧ k.val < cw + 256 then Spec.scale P b k * P.ps b k else s.x20 (ix2 0 k) := by
  unfold nextB runB
  dsimp only
  simp only [runB.sl.H20_2, runB.sl.H20_1, runB.sl.r_32, k0_pay112, k0_pay147, k0_pay111]
  rw [expo_r37 i arg6 harg6 arg13 harg13 arg16 harg16 arg17 harg17 P b cw hcw ho hv h4 I.x5 I.x6 s.x13 s.x15 s.x16 s.x17 hf, up_row]
  have e30 : k0_pay109 (F := Ideal) (runB.sl.r_29 (F := Ideal) i arg6 harg6 arg13 harg13 arg16 harg16 arg17 harg17 h4 I.x6 s.x16 s.x17 s.x13) runB.sl.v480 = _ := scale_r30 i arg6 harg6 arg13 harg13 arg16 harg16 arg17 harg17 P b cw hcw ho hv h4 I.x5 I.x6 s.x13 s.x15 s.x16 s.x17 hf
  rw [e30, weight_row P b cw (by omega) _ (P.ps b) (fun l => (load_row arg5 harg5 I.x5 cw (by omega) ho.e12_0 _ l).trans (hf.f5 _)),
    weight_row P b (cw + 128) (by omega) _ (P.ps b) (fun l => (load_row arg5 harg5 I.x5 (cw + 128) (by omega) ho.e12_128 _ l).trans (hf.f5 _)), cast_row, cast_row]
  refine (row_write arg20 _ _ _ 0 (cw + 128) (by omega) ho.e13_128 _ 0 k).trans ?_
  rw [row_write arg20 _ _ _ 0 cw (by omega) ho.e13_0 _ 0 k]
  have e0 : arg20.view.read (Elt Ideal) (harg20.unread s.x20) (ix2 0 k) = s.x20 (ix2 0 k) := congrFun (Memref.IsWhole.read_unread harg20 s.x20) _
  simp only [View.writes_nil, e0, true_and]
  split_ifs <;> first | rfl | omega

theorem nextB_x12 (hb : (b = 0 ∧ k0_cond7 i = 1#1 ∧ ¬ k0_cond8 i = 1#1) ∨ (b = 1 ∧ ¬ k0_cond7 i = 1#1 ∧ k0_cond8 i = 1#1)) (b' : Fin 2) (k : Fin 7168) :
    (nextB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I s).x12 (ix2 b' k) = if b' = b ∧ cw ≤ k.val ∧ k.val < cw + 256 then Spec.scale P b k else s.x12 (ix2 b' k) := by
  unfold nextB runB
  dsimp only
  have e0 : arg12.view.read (Elt Ideal) (harg12.unread s.x12) (ix2 b' k) = s.x12 (ix2 b' k) := congrFun (Memref.IsWhole.read_unread harg12 s.x12) _
  have e30 : k0_pay109 (F := Ideal) (runB.sl.r_29 (F := Ideal) i arg6 harg6 arg13 harg13 arg16 harg16 arg17 harg17 h4 I.x6 s.x16 s.x17 s.x13) runB.sl.v480 = _ := scale_r30 i arg6 harg6 arg13 harg13 arg16 harg16 arg17 harg17 P b cw hcw ho hv h4 I.x5 I.x6 s.x13 s.x15 s.x16 s.x17 hf
  have e38 : k0_pay145 (F := Ideal) (runB.sl.r_37 (F := Ideal) i arg6 harg6 arg13 harg13 arg16 harg16 arg17 harg17 h4 I.x6 s.x16 s.x17 s.x13) = _ := scale_r38 i arg6 harg6 arg13 harg13 arg16 harg16 arg17 harg17 P b cw hcw ho hv h4 I.x5 I.x6 s.x13 s.x15 s.x16 s.x17 hf
  rcases hb with ⟨rfl, h7, h8⟩ | ⟨rfl, h7, h8⟩
  · rw [dif_neg h8, dif_pos h7, e30, e38]
    refine (row_write arg12 _ _ _ 0 (cw + 128) (by omega) ho.e14 _ b' k).trans ?_
    rw [View.writes_nil, row_write arg12 _ _ _ 0 cw (by omega) ho.e10 _ b' k, View.writes_nil, e0]
    by_cases hb' : b' = 0 <;> simp only [hb', true_and, false_and] <;> split_ifs <;> first | rfl | omega
  · rw [dif_pos h8, dif_neg h7, e30, e38]
    refine (row_write arg12 _ _ _ 1 (cw + 128) (by omega) ho.e15 _ b' k).trans ?_
    rw [View.writes_nil, row_write arg12 _ _ _ 1 cw (by omega) ho.e11 _ b' k, View.writes_nil, e0]
    by_cases hb' : b' = 1 <;> simp only [hb', true_and, false_and] <;> split_ifs <;> first | rfl | omega

theorem nextB_x10 (l : Fin 256) (d : Fin 2560) : (nextB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I s).x10 (ix3 0 l d) = Spec.dp P b ⟨cw + l.val, by omega⟩ d := by
  unfold nextB runB
  dsimp only
  unfold runB.sl.H10_1 runB.sl.r_44 runB.sl.r_36
  rw [grad_block', scale_r38 i arg6 harg6 arg13 harg13 arg16 harg16 arg17 harg17 P b cw hcw ho hv h4 I.x5 I.x6 s.x13 s.x15 s.x16 s.x17 hf, scale_r30 i arg6 harg6 arg13 harg13 arg16 harg16 arg17 harg17 P b cw hcw ho hv h4 I.x5 I.x6 s.x13 s.x15 s.x16 s.x17 hf, readAt_whole arg15 harg15 s.x15 z2]
  refine (View.read_writes_apply_of_pieces arg10.view _ (fun y : S1x256x2560.Idx => Spec.dp P b ⟨cw + (y 1).val, by have : (y 1).val < 256 := (y 1).isLt; omega⟩ (y 2)) _ ?_ _ ?_).trans rfl
  · simp only [List.forall_mem_cons]
    exact ⟨fun x => grad_emb P b cw hcw 128 (by omega) (cw + 128) (by omega) rfl _ _ (codes_v890 i arg6 harg6 arg13 harg13 arg16 harg16 arg17 harg17 arg19 P b cw hcw ho hv h4 I.x5 I.x6 s.x13 s.x15 s.x16 s.x17 hf) hf.f15 _ x,
      fun x => grad_emb P b cw hcw 0 (by omega) cw (by omega) rfl _ _ (codes_v677 i arg6 harg6 arg13 harg13 arg16 harg16 arg17 harg17 arg19 P b cw hcw ho hv h4 I.x5 I.x6 s.x13 s.x15 s.x16 s.x17 hf) hf.f15 _ x, fun p h => absurd h List.not_mem_nil⟩
  · have hl := l.isLt
    have hd := d.isLt
    by_cases h : 128 ≤ l.val
    · refine ⟨_, .head _, ?_⟩; exact mem_three _ (fun _ => rfl) 128 0 rfl 128 2560 rfl rfl rfl l d (by omega)
    · refine ⟨_, .tail _ (.head _), ?_⟩; exact mem_three _ (fun _ => rfl) 0 0 rfl 128 2560 rfl rfl rfl l d (by omega)

end

end Cert.KernelIdeal.Run

end
-- ==== Proof.Ideal.StepL.lean ====
module

public import proofs.«01_k».proof.Proof.Ideal.NextB
public import Idealize.ShloMosaic.Lib.Pointwise
public import Idealize.ShloMosaic.Lib.WritesUnit
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.SL.Sem

open Cert

/-- The value a block of the queries' gradient holds: seven partial sums. -/
theorem dq_pay (c0 : Vec Ideal S896x1024 .fp8e5m2) (w0 : Vec Ideal S1x1024 .f32) (p0 : Vec Ideal S1x1024x512 .fp8e4m3) (c1 : Vec Ideal S896x1024 .fp8e5m2) (w1 : Vec Ideal S1x1024 .f32) (p1 : Vec Ideal S1x1024x512 .fp8e4m3) (c2 : Vec Ideal S896x1024 .fp8e5m2) (w2 : Vec Ideal S1x1024 .f32) (p2 : Vec Ideal S1x1024x512 .fp8e4m3) (c3 : Vec Ideal S896x1024 .fp8e5m2) (w3 : Vec Ideal S1x1024 .f32) (p3 : Vec Ideal S1x1024x512 .fp8e4m3) (c4 : Vec Ideal S896x1024 .fp8e5m2) (w4 : Vec Ideal S1x1024 .f32) (p4 : Vec Ideal S1x1024x512 .fp8e4m3) (c5 : Vec Ideal S896x1024 .fp8e5m2) (w5 : Vec Ideal S1x1024 .f32) (p5 : Vec Ideal S1x1024x512 .fp8e4m3) (c6 : Vec Ideal S896x1024 .fp8e5m2) (w6 : Vec Ideal S1x1024 .f32) (p6 : Vec Ideal S1x1024x512 .fp8e4m3) (r : Fin 896) (d : Fin 512) :
    k0_pay12 (F := Ideal) (k0_pay189 (F := Ideal) (k0_pay187 (F := Ideal) c0 w0 p0 c1 w1 p1 c2 w2 p2) (k0_pay188 (F := Ideal) c3) w3 p3 c4 w4 p4 c5 w5 p5) (k0_pay190 (F := Ideal) c6 w6) p6 (ix3 0 r d)
      = (((((((0 + (∑ j : Fin 1024, c0 (ix2 r j) * w0 (ix2 0 j) * p0 (ix3 0 j d) : EReal)) + (∑ j : Fin 1024, c1 (ix2 r j) * w1 (ix2 0 j) * p1 (ix3 0 j d) : EReal)) + (∑ j : Fin 1024, c2 (ix2 r j) * w2 (ix2 0 j) * p2 (ix3 0 j d) : EReal)) + (∑ j : Fin 1024, c3 (ix2 r j) * w3 (ix2 0 j) * p3 (ix3 0 j d) : EReal)) + (∑ j : Fin 1024, c4 (ix2 r j) * w4 (ix2 0 j) * p4 (ix3 0 j d) : EReal)) + (∑ j : Fin 1024, c5 (ix2 r j) * w5 (ix2 0 j) * p5 (ix3 0 j d) : EReal)) + (∑ j : Fin 1024, c6 (ix2 r j) * w6 (ix2 0 j) * p6 (ix3 0 j d) : EReal)) * Spec.tau := by
  unfold Spec.tau
  pointwise [k0_pay12, k0_pay187, k0_pay188, k0_pay189, k0_pay190]

theorem sum_seven (f : Fin 7168 → EReal) : (∑ k, f k) = ((((((∑ j : Fin 1024, f ⟨0 + j.val, by omega⟩) + ∑ j : Fin 1024, f ⟨1024 + j.val, by omega⟩) + ∑ j : Fin 1024, f ⟨2048 + j.val, by omega⟩) + ∑ j : Fin 1024, f ⟨3072 + j.val, by omega⟩) + ∑ j : Fin 1024, f ⟨4096 + j.val, by omega⟩) + ∑ j : Fin 1024, f ⟨5120 + j.val, by omega⟩) + ∑ j : Fin 1024, f ⟨6144 + j.val, by omega⟩ := by
  have e : (∑ k, f k) = ∑ c : Fin 7, ∑ j : Fin 1024, f (finProdFinEquiv (c, j)) := by
    rw [← Fintype.sum_prod_type']
    exact (Equiv.sum_comp (finProdFinEquiv (m := 7) (n := 1024)) f).symm
  rw [e, Fin.sum_univ_seven]
  have h (c : Fin 7) (o : ℕ) (ho : o + 1024 ≤ 7168) (hc : o = 1024 * c.val) : (∑ j : Fin 1024, f (finProdFinEquiv (c, j))) = ∑ j : Fin 1024, f ⟨o + j.val, by omega⟩ := by
    subst hc
    exact Finset.sum_congr rfl fun j _ => congrArg f (Fin.ext (Nat.add_comm _ _))
  rw [h 0 0 (by omega) rfl, h 1 1024 (by omega) rfl, h 2 2048 (by omega) rfl, h 3 3072 (by omega) rfl, h 4 4096 (by omega) rfl, h 5 5120 (by omega) rfl, h 6 6144 (by omega) rfl]

theorem cols14 (M : Memref sig .tc .vmem S896x7168 .fp8e5m2) (hM : M.IsWhole) (x : Vec Ideal S896x7168 .fp8e5m2) (o : ℕ) (ho : o + 1024 ≤ 7168) (inb : ∀ a, (![0, o] : Fin 2 → ℕ) a + S896x1024.size a ≤ S896x7168.size a)
    (r : Fin 896) (j : Fin 1024) :
    View.readAt (Elt Ideal) M.view (Rect.unit (s := S896x7168) ![0, o] S896x1024.size inb).toLoadRect (hM.unread x) (ix2 r j) = x (ix2 r ⟨o + j.val, by omega⟩) := by
  rw [Memref.IsWhole.readAt_unread]
  refine congrArg x (funext fun a => Fin.ext ?_)
  match a with
  | ⟨0, _⟩ => show 0 + 1 * r.val = r.val; omega
  | ⟨1, _⟩ => show o + 1 * j.val = o + j.val; omega

theorem cols20 (M : Memref sig .tc .vmem S1x7168 .f32) (hM : M.IsWhole) (x : Vec Ideal S1x7168 .f32) (o : ℕ) (ho : o + 1024 ≤ 7168) (inb : ∀ a, (![0, o] : Fin 2 → ℕ) a + S1x1024.size a ≤ S1x7168.size a) (j : Fin 1024) :
    View.readAt (Elt Ideal) M.view (Rect.unit (s := S1x7168) ![0, o] S1x1024.size inb).toLoadRect (hM.unread x) (ix2 0 j) = x (ix2 0 ⟨o + j.val, by omega⟩) := by
  rw [Memref.IsWhole.readAt_unread]
  refine congrArg x (funext fun a => Fin.ext ?_)
  match a with
  | ⟨0, _⟩ => rfl
  | ⟨1, _⟩ => show o + 1 * j.val = o + j.val; omega

theorem rows7 (M : Memref sig .tc .vmem S1x7168x512 .fp8e4m3) (hM : M.IsWhole) (x : Vec Ideal S1x7168x512 .fp8e4m3) (o : ℕ) (ho : o + 1024 ≤ 7168) (inb : ∀ a, (![0, o, 0] : Fin 3 → ℕ) a + S1x1024x512.size a ≤ S1x7168x512.size a)
    (j : Fin 1024) (d : Fin 512) :
    View.readAt (Elt Ideal) M.view (Rect.unit (s := S1x7168x512) ![0, o, 0] S1x1024x512.size inb).toLoadRect (hM.unread x) (ix3 0 j d) = x (ix3 0 ⟨o + j.val, by omega⟩ d) := by
  rw [Memref.IsWhole.readAt_unread]
  refine congrArg x (funext fun a => Fin.ext ?_)
  match a with
  | ⟨0, _⟩ => rfl
  | ⟨1, _⟩ => show o + 1 * j.val = o + j.val; omega
  | ⟨2, _⟩ => show 0 + 1 * d.val = d.val; omega

/-- What a point of phase C finds: the codes, the weights, and 512 columns of the passages. -/
structure FoundC (P : Spec.Inp) (b : Fin 2) (D : Fin 512 → Fin 2560) (x7 : Vec Ideal S1x7168x512 .fp8e4m3) (x14 : Vec Ideal S896x7168 .fp8e5m2) (x20 : Vec Ideal S1x7168 .f32) : Prop where
  f7 : ∀ k d, x7 (ix3 0 k d) = P.p b k (D d)
  f14 : ∀ r k, x14 (ix2 r k) = Spec.code P b r k
  f20 : ∀ k, x20 (ix2 0 k) = (Spec.scale P b k * P.ps b k : EReal)

theorem FoundC.sum (P : Spec.Inp) (b : Fin 2) (D : Fin 512 → Fin 2560) (x7 : Vec Ideal S1x7168x512 .fp8e4m3) (x14 : Vec Ideal S896x7168 .fp8e5m2) (x20 : Vec Ideal S1x7168 .f32) (h : FoundC P b D x7 x14 x20) (r : Fin 896) (d : Fin 512) :
    (∑ k : Fin 7168, (x14 (ix2 r k) * x20 (ix2 0 k) * x7 (ix3 0 k d) : EReal)) * Spec.tau = Spec.dq P b r (D d) := by
  unfold Spec.dq
  congr 1
  refine Finset.sum_congr rfl fun k _ => ?_
  rw [h.f7, h.f14, h.f20, ← mul_assoc, mul_assoc, mul_comm (P.ps b k)]

section

variable (c : Dev nD) (i : grid0.Coords)
  (arg2 : Memref sig .tc .vmem S1x896x2560 .fp8e4m3) (harg2 : arg2.IsWhole)
  (arg3 : Memref sig .tc .vmem S1x896x1 .f32) (harg3 : arg3.IsWhole)
  (arg4 : Memref sig .tc .vmem S1x512x2560 .fp8e4m3) (harg4 : arg4.IsWhole)
  (arg5 : Memref sig .tc .vmem S1x1x7168 .f32) (harg5 : arg5.IsWhole)
  (arg6 : Memref sig .tc .vmem S1x896x1 .i32) (harg6 : arg6.IsWhole)
  (arg7 : Memref sig .tc .vmem S1x7168x512 .fp8e4m3) (harg7 : arg7.IsWhole)
  (arg8 : Memref sig .tc .vmem S2x896 .f32) (harg8 : arg8.IsWhole)
  (arg9 : Memref sig .tc .vmem S1x896x512 .bf16) (harg9 : arg9.IsWhole)
  (arg10 : Memref sig .tc .vmem S1x256x2560 .bf16) (harg10 : arg10.IsWhole)
  (arg11 : Memref sig .tc .vmem S1x896x256 .fp8e5m2) (harg11 : arg11.IsWhole)
  (arg12 : Memref sig .tc .vmem S2x7168 .f32) (harg12 : arg12.IsWhole)
  (arg13 : Memref sig .tc .vmem S896x7168 .f32) (harg13 : arg13.IsWhole)
  (arg14 : Memref sig .tc .vmem S896x7168 .fp8e5m2) (harg14 : arg14.IsWhole)
  (arg15 : Memref sig .tc .vmem S896x2560 .bf16) (harg15 : arg15.IsWhole)
  (arg16 : Memref sig .tc .vmem S896x128 .f32) (harg16 : arg16.IsWhole)
  (arg17 : Memref sig .tc .vmem S896x128 .f32) (harg17 : arg17.IsWhole)
  (arg18 : Memref sig .tc .vmem S896x128 .f32) (harg18 : arg18.IsWhole)
  (arg19 : Memref sig .tc .vmem S256x896 .bf16) (harg19 : arg19.IsWhole)
  (arg20 : Memref sig .tc .vmem S1x7168 .f32) (harg20 : arg20.IsWhole)

theorem nextL_x9 (h1 : ¬ condInit i) (h2 : ¬ k0_cond2 i = 1#1) (h3 : ¬ condStats i) (h4 : ¬ k0_cond4 i = 1#1) (h9 : k0_cond9 i = 1#1) (h24 : k0_cond24 i = 1#1) (I : Ins Ideal) (s : St Ideal) (P : Spec.Inp) (b : Fin 2) (D : Fin 512 → Fin 2560) (hf : FoundC P b D I.x7 s.x14 s.x20) (r : Fin 896) (d : Fin 512) :
    (nextL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x9 (ix3 0 r d) = Spec.dq P b r (D d) := by
  unfold nextL runL
  dsimp only
  rw [read_last arg9 _ _ _ z3]
  unfold runL.sl.r_5 runL.sl.r_6 runL.sl.r_3 runL.sl.r_4
  refine (dq_pay _ _ _ _ _ _ _ _ _ _ _ _ _ _ _ _ _ _ _ _ _ r d).trans ?_
  simp only [cols14 arg14 harg14 s.x14 0 (by omega), cols20 arg20 harg20 s.x20 0 (by omega), rows7 arg7 harg7 I.x7 0 (by omega),
    cols14 arg14 harg14 s.x14 1024 (by omega), cols20 arg20 harg20 s.x20 1024 (by omega), rows7 arg7 harg7 I.x7 1024 (by omega),
    cols14 arg14 harg14 s.x14 2048 (by omega), cols20 arg20 harg20 s.x20 2048 (by omega), rows7 arg7 harg7 I.x7 2048 (by omega),
    cols14 arg14 harg14 s.x14 3072 (by omega), cols20 arg20 harg20 s.x20 3072 (by omega), rows7 arg7 harg7 I.x7 3072 (by omega),
    cols14 arg14 harg14 s.x14 4096 (by omega), cols20 arg20 harg20 s.x20 4096 (by omega), rows7 arg7 harg7 I.x7 4096 (by omega),
    cols14 arg14 harg14 s.x14 5120 (by omega), cols20 arg20 harg20 s.x20 5120 (by omega), rows7 arg7 harg7 I.x7 5120 (by omega),
    cols14 arg14 harg14 s.x14 6144 (by omega), cols20 arg20 harg20 s.x20 6144 (by omega), rows7 arg7 harg7 I.x7 6144 (by omega),]
  rw [← hf.sum, sum_seven, zero_add]

theorem nextC_x9 (h1 : ¬ condInit i) (h2 : ¬ k0_cond2 i = 1#1) (h3 : ¬ condStats i) (h4 : ¬ k0_cond4 i = 1#1) (h9 : ¬ k0_cond9 i = 1#1) (h24 : k0_cond24 i = 1#1) (I : Ins Ideal) (s : St Ideal) (P : Spec.Inp) (b : Fin 2) (D : Fin 512 → Fin 2560) (hf : FoundC P b D I.x7 s.x14 s.x20) (r : Fin 896) (d : Fin 512) :
    (nextC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x9 (ix3 0 r d) = Spec.dq P b r (D d) := by
  unfold nextC runC
  dsimp only
  rw [read_last arg9 _ _ _ z3]
  unfold runC.sl.r_2 runC.sl.r_3 runC.sl.r runC.sl.r_1
  refine (dq_pay _ _ _ _ _ _ _ _ _ _ _ _ _ _ _ _ _ _ _ _ _ r d).trans ?_
  simp only [cols14 arg14 harg14 s.x14 0 (by omega), cols20 arg20 harg20 s.x20 0 (by omega), rows7 arg7 harg7 I.x7 0 (by omega),
    cols14 arg14 harg14 s.x14 1024 (by omega), cols20 arg20 harg20 s.x20 1024 (by omega), rows7 arg7 harg7 I.x7 1024 (by omega),
    cols14 arg14 harg14 s.x14 2048 (by omega), cols20 arg20 harg20 s.x20 2048 (by omega), rows7 arg7 harg7 I.x7 2048 (by omega),
    cols14 arg14 harg14 s.x14 3072 (by omega), cols20 arg20 harg20 s.x20 3072 (by omega), rows7 arg7 harg7 I.x7 3072 (by omega),
    cols14 arg14 harg14 s.x14 4096 (by omega), cols20 arg20 harg20 s.x20 4096 (by omega), rows7 arg7 harg7 I.x7 4096 (by omega),
    cols14 arg14 harg14 s.x14 5120 (by omega), cols20 arg20 harg20 s.x20 5120 (by omega), rows7 arg7 harg7 I.x7 5120 (by omega),
    cols14 arg14 harg14 s.x14 6144 (by omega), cols20 arg20 harg20 s.x20 6144 (by omega), rows7 arg7 harg7 I.x7 6144 (by omega),]
  rw [← hf.sum, sum_seven, zero_add]

/-- One row of 128 columns stored over the losses. -/
theorem loss_write (M : Memref sig .tc .vmem S2x896 .f32) (f) (g : Fin 896 → EReal) (B : Fin 2) (C : ℕ) (hC : C + 128 ≤ 896) (w : S1x128.Idx → EReal) (hw : ∀ l : Fin 128, w (ix2 0 l) = g ⟨C + l.val, by omega⟩)
    (inb : ∀ a, (![B.val, C] : Fin 2 → ℕ) a + S1x128.size a ≤ S2x896.size a) (b' : Fin 2) (k : Fin 896) (v : EReal) (hv : M.view.read (Elt Ideal) f (ix2 b' k) = v) :
    M.view.read (Elt Ideal) (M.view.writes (Elt Ideal) f [⟨Rect.unit (s := S2x896) ![B.val, C] S1x128.size inb, w⟩]) (ix2 b' k)
      = if b' = B ∧ C ≤ k.val ∧ k.val < C + 128 then g k else v := by
  by_cases h : b' = B ∧ C ≤ k.val ∧ k.val < C + 128
  · rw [if_pos h]
    refine (View.read_writes_cons_unit_of_mem M.view _ _ _ _ _ (ix2 (0 : Fin 1) (⟨k.val - C, by omega⟩ : Fin 128)) rfl fun a => ?_).trans ?_
    · match a with
      | ⟨0, _⟩ => exact congrArg Fin.val h.1
      | ⟨1, _⟩ => show k.val = C + (k.val - C); omega
    · exact (hw _).trans (congrArg g (Fin.ext (by show C + (k.val - C) = k.val; omega)))
  · rw [if_neg h, ← hv]
    by_cases hb : b' = B
    · refine View.read_writes_cons_unit_of_not_mem M.view _ _ _ _ _ rfl (1 : Fin 2) ?_
      show k.val < C ∨ C + 128 ≤ k.val
      have := fun h' => h ⟨hb, h'⟩
      omega
    · refine View.read_writes_cons_unit_of_not_mem M.view _ _ _ _ _ rfl (0 : Fin 2) ?_
      show b'.val < B.val ∨ B.val + 1 ≤ b'.val
      have : b'.val ≠ B.val := fun h' => hb (Fin.ext h')
      omega

theorem loss_pay0 (v : Vec Ideal S896x128 .f32) (l : Fin 128) : k0_pay181 (F := Ideal) v (ix2 0 l) = (0 - ∑ j : Fin 128, v (ix2 (⟨0 + l.val, by omega⟩ : Fin 896) j) : EReal) := by
  pointwise [k0_pay181, k0_pay180]

theorem loss_pay1 (v : Vec Ideal S896x128 .f32) (l : Fin 128) : k0_pay182 (F := Ideal) v (ix2 0 l) = (0 - ∑ j : Fin 128, v (ix2 (⟨128 + l.val, by omega⟩ : Fin 896) j) : EReal) := by
  pointwise [k0_pay182, k0_pay180]

theorem loss_pay2 (v : Vec Ideal S896x128 .f32) (l : Fin 128) : k0_pay183 (F := Ideal) v (ix2 0 l) = (0 - ∑ j : Fin 128, v (ix2 (⟨256 + l.val, by omega⟩ : Fin 896) j) : EReal) := by
  pointwise [k0_pay183, k0_pay180]

theorem loss_pay3 (v : Vec Ideal S896x128 .f32) (l : Fin 128) : k0_pay184 (F := Ideal) (k0_pay180 (F := Ideal) v) (ix2 0 l) = (0 - ∑ j : Fin 128, v (ix2 (⟨384 + l.val, by omega⟩ : Fin 896) j) : EReal) := by
  pointwise [k0_pay184, k0_pay180]

theorem loss_pay4 (v : Vec Ideal S896x128 .f32) (l : Fin 128) : k0_pay185 (F := Ideal) (k0_pay180 (F := Ideal) v) (ix2 0 l) = (0 - ∑ j : Fin 128, v (ix2 (⟨512 + l.val, by omega⟩ : Fin 896) j) : EReal) := by
  pointwise [k0_pay185, k0_pay180]

theorem loss_pay5 (v : Vec Ideal S896x128 .f32) (l : Fin 128) : k0_pay186 (F := Ideal) (k0_pay180 (F := Ideal) v) (ix2 0 l) = (0 - ∑ j : Fin 128, v (ix2 (⟨640 + l.val, by omega⟩ : Fin 896) j) : EReal) := by
  pointwise [k0_pay186, k0_pay180]

theorem loss_pay6 (v : Vec Ideal S896x128 .f32) (l : Fin 128) : k0_pay11 (F := Ideal) (k0_pay180 (F := Ideal) v) (ix2 0 l) = (0 - ∑ j : Fin 128, v (ix2 (⟨768 + l.val, by omega⟩ : Fin 896) j) : EReal) := by
  pointwise [k0_pay11, k0_pay180]

theorem nextL_x8 (h1 : ¬ condInit i) (h2 : ¬ k0_cond2 i = 1#1) (h3 : ¬ condStats i) (h4 : ¬ k0_cond4 i = 1#1) (h9 : k0_cond9 i = 1#1) (h24 : k0_cond24 i = 1#1) (I : Ins Ideal) (s : St Ideal) (b : Fin 2) (hb : (b = 0 ∧ k0_cond10 i = 1#1 ∧ ¬ k0_cond11 i = 1#1 ∧ k0_cond12 i = 1#1 ∧ ¬ k0_cond13 i = 1#1 ∧ k0_cond14 i = 1#1 ∧ ¬ k0_cond15 i = 1#1 ∧ k0_cond16 i = 1#1 ∧ ¬ k0_cond17 i = 1#1 ∧ k0_cond18 i = 1#1 ∧ ¬ k0_cond19 i = 1#1 ∧ k0_cond20 i = 1#1 ∧ ¬ k0_cond21 i = 1#1 ∧ k0_cond22 i = 1#1 ∧ ¬ k0_cond23 i = 1#1) ∨ (b = 1 ∧ ¬ k0_cond10 i = 1#1 ∧ k0_cond11 i = 1#1 ∧ ¬ k0_cond12 i = 1#1 ∧ k0_cond13 i = 1#1 ∧ ¬ k0_cond14 i = 1#1 ∧ k0_cond15 i = 1#1 ∧ ¬ k0_cond16 i = 1#1 ∧ k0_cond17 i = 1#1 ∧ ¬ k0_cond18 i = 1#1 ∧ k0_cond19 i = 1#1 ∧ ¬ k0_cond20 i = 1#1 ∧ k0_cond21 i = 1#1 ∧ ¬ k0_cond22 i = 1#1 ∧ k0_cond23 i = 1#1)) (b' : Fin 2) (k : Fin 896) :
    (nextL c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s).x8 (ix2 b' k) = if b' = b then (0 - ∑ j : Fin 128, s.x18 (ix2 k j) : EReal) else s.x8 (ix2 b' k) := by
  unfold nextL runL
  dsimp only
  unfold runL.sl.r_1 runL.sl.r_2 runL.sl.r
  rw [readAt_whole arg18 harg18 s.x18 z2]
  have e0 : arg8.view.read (Elt Ideal) (harg8.unread s.x8) (ix2 b' k) = s.x8 (ix2 b' k) := congrFun (Memref.IsWhole.read_unread harg8 s.x8) _
  rcases hb with ⟨rfl, h10', h11', h12', h13', h14', h15', h16', h17', h18', h19', h20', h21', h22', h23'⟩ | ⟨rfl, h10', h11', h12', h13', h14', h15', h16', h17', h18', h19', h20', h21', h22', h23'⟩
  · skip
    simp only [dif_neg h23', dif_pos h22', dif_neg h21', dif_pos h20', dif_neg h19', dif_pos h18', dif_neg h17', dif_pos h16', dif_neg h15', dif_pos h14', dif_neg h13', dif_pos h12', dif_neg h11', dif_pos h10']
    refine (loss_write arg8 _ (fun r => 0 - ∑ j : Fin 128, s.x18 (ix2 r j)) 0 768 (by omega) _ (loss_pay6 s.x18) _ b' k _ (loss_write arg8 _ (fun r => 0 - ∑ j : Fin 128, s.x18 (ix2 r j)) 0 640 (by omega) _ (loss_pay5 s.x18) _ b' k _ (loss_write arg8 _ (fun r => 0 - ∑ j : Fin 128, s.x18 (ix2 r j)) 0 512 (by omega) _ (loss_pay4 s.x18) _ b' k _ (loss_write arg8 _ (fun r => 0 - ∑ j : Fin 128, s.x18 (ix2 r j)) 0 384 (by omega) _ (loss_pay3 s.x18) _ b' k _ (loss_write arg8 _ (fun r => 0 - ∑ j : Fin 128, s.x18 (ix2 r j)) 0 256 (by omega) _ (loss_pay2 s.x18) _ b' k _ (loss_write arg8 _ (fun r => 0 - ∑ j : Fin 128, s.x18 (ix2 r j)) 0 128 (by omega) _ (loss_pay1 s.x18) _ b' k _ (loss_write arg8 _ (fun r => 0 - ∑ j : Fin 128, s.x18 (ix2 r j)) 0 0 (by omega) _ (loss_pay0 s.x18) _ b' k _ e0))))))).trans ?_
    have hk := k.isLt
    by_cases hb' : b' = 0 <;> simp only [hb', true_and, false_and] <;> split_ifs <;> first | rfl | omega
  · skip
    simp only [dif_pos h23', dif_neg h22', dif_pos h21', dif_neg h20', dif_pos h19', dif_neg h18', dif_pos h17', dif_neg h16', dif_pos h15', dif_neg h14', dif_pos h13', dif_neg h12', dif_pos h11', dif_neg h10']
    refine (loss_write arg8 _ (fun r => 0 - ∑ j : Fin 128, s.x18 (ix2 r j)) 1 768 (by omega) _ (loss_pay6 s.x18) _ b' k _ (loss_write arg8 _ (fun r => 0 - ∑ j : Fin 128, s.x18 (ix2 r j)) 1 640 (by omega) _ (loss_pay5 s.x18) _ b' k _ (loss_write arg8 _ (fun r => 0 - ∑ j : Fin 128, s.x18 (ix2 r j)) 1 512 (by omega) _ (loss_pay4 s.x18) _ b' k _ (loss_write arg8 _ (fun r => 0 - ∑ j : Fin 128, s.x18 (ix2 r j)) 1 384 (by omega) _ (loss_pay3 s.x18) _ b' k _ (loss_write arg8 _ (fun r => 0 - ∑ j : Fin 128, s.x18 (ix2 r j)) 1 256 (by omega) _ (loss_pay2 s.x18) _ b' k _ (loss_write arg8 _ (fun r => 0 - ∑ j : Fin 128, s.x18 (ix2 r j)) 1 128 (by omega) _ (loss_pay1 s.x18) _ b' k _ (loss_write arg8 _ (fun r => 0 - ∑ j : Fin 128, s.x18 (ix2 r j)) 1 0 (by omega) _ (loss_pay0 s.x18) _ b' k _ e0))))))).trans ?_
    have hk := k.isLt
    by_cases hb' : b' = 1 <;> simp only [hb', true_and, false_and] <;> split_ifs <;> first | rfl | omega

end

end Cert.KernelIdeal.Run

end
-- ==== Proof.Ideal.Steps.lean ====
module

public import proofs.«01_k».proof.Proof.Ideal.StepL
public import proofs.«01_k».proof.Proof.Ideal.PayA
public import proofs.«01_k».proof.Proof.Soft
public import Idealize.ShloMosaic.Lib.Pointwise
public import Idealize.ShloMosaic.Lib.WritesUnit
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.SL.Sem

open Cert

/-! The invariant of the scratch between grid points, and each phase's step of it. -/

/-- The logits' share of a query's positive: its log-probability at the label, zero elsewhere. -/
def labf (P : Spec.Inp) (b : Fin 2) (r : Fin 896) (k : Fin 7168) : EReal := if Spec.hit P b r k then Spec.logp P b r k else 0

/-- After `T` points of phase A. -/
structure InvA (P : Spec.Inp) (b : Fin 2) (T : ℕ) (s : St Ideal) : Prop where
  a13 : ∀ r (k : Fin 7168), k.val < 512 * T → s.x13 (ix2 r k) = Spec.X P b r k
  a15 : ∀ r d, s.x15 (ix2 r d) = (P.q b r d * P.qs b r : EReal)
  a16 : ∀ r l, s.x16 (ix2 r l) = Soft.top (Spec.X P b r) (512 * T) l
  a17 : ∀ r l, s.x17 (ix2 r l) = Soft.run (Spec.X P b r) (512 * T) l
  a18 : ∀ r l, s.x18 (ix2 r l) = (0 : EReal)

/-- After `n` points of phase B. -/
structure InvB (P : Spec.Inp) (b : Fin 2) (n : ℕ) (s : St Ideal) : Prop where
  b13 : ∀ r (k : Fin 7168), 256 * n ≤ k.val → s.x13 (ix2 r k) = Spec.X P b r k
  b14 : ∀ r (k : Fin 7168), k.val < 256 * n → s.x14 (ix2 r k) = Spec.code P b r k
  b15 : ∀ r d, s.x15 (ix2 r d) = (P.q b r d * P.qs b r : EReal)
  b16 : ∀ r l, s.x16 (ix2 r l) = Spec.M P b r
  b17 : ∀ r l, s.x17 (ix2 r l) = Spec.L P b r
  b18 : ∀ r l, s.x18 (ix2 r l) = Soft.tot (labf P b r) (256 * n) l
  b20 : ∀ k : Fin 7168, k.val < 256 * n → s.x20 (ix2 0 k) = (Spec.scale P b k * P.ps b k : EReal)

/-- In phase C. -/
structure InvC (P : Spec.Inp) (b : Fin 2) (s : St Ideal) : Prop where
  c14 : ∀ r k, s.x14 (ix2 r k) = Spec.code P b r k
  c20 : ∀ k, s.x20 (ix2 0 k) = (Spec.scale P b k * P.ps b k : EReal)

theorem InvB.toC {P : Spec.Inp} {b : Fin 2} {s : St Ideal} (h : InvB P b 28 s) : InvC P b s :=
  ⟨fun r k => h.b14 r k (by omega), fun k => h.b20 k (by omega)⟩

/-- The invariant before the point at place `p` of batch element `b`. -/
structure InvAt (P : Spec.Inp) (b : Fin 2) (p : ℕ) (s : St Ideal) : Prop where
  inA : 1 ≤ p → p ≤ 13 → InvA P b p s
  inB : 14 ≤ p → p ≤ 42 → InvB P b (p - 14) s
  inC : 42 < p → InvC P b s

theorem reorder (a b c d : EReal) : a * (b * c) * d = a * (d * b) * c := by
  rw [mul_assoc, mul_assoc a, mul_comm (b * c) d, ← mul_assoc d]

section logits

variable (P : Spec.Inp) (b : Fin 2) (T : Fin 14) (x2 : Vec Ideal S1x896x2560 .fp8e4m3) (x3 : Vec Ideal S1x896x1 .f32) (x4 : Vec Ideal S1x512x2560 .fp8e4m3) (x5 : Vec Ideal S1x1x7168 .f32)

/-- What a point of phase A finds in the inputs' windows. -/
structure FoundA : Prop where
  f2 : ∀ r d, x2 (ix3 0 r d) = P.q b r d
  f3 : ∀ r, x3 (ix3 0 r 0) = P.qs b r
  f4 : ∀ (j : Fin 512) d, x4 (ix3 0 j d) = P.p b ⟨512 * T.val + j.val, by omega⟩ d
  f5 : ∀ k, x5 (ix3 0 0 k) = P.ps b k

variable {P b T x2 x3 x4 x5} (hf : FoundA P b T x2 x3 x4 x5)
include hf

theorem FoundA.logit (r : Fin 896) (j : Fin 512) : k0_pay13 (F := Ideal) x2 x4 (tile5 x5 T) x3 (ix2 r j) = Spec.X P b r ⟨512 * T.val + j.val, by omega⟩ := by
  rw [logit_apply]
  have e : tile5 x5 T (ix3 0 0 j) = P.ps b ⟨512 * T.val + j.val, by omega⟩ := hf.f5 _
  rw [e, hf.f3]
  simp only [hf.f2, hf.f4]
  unfold Spec.X
  exact reorder _ _ _ _

theorem FoundA.newMax (x16 : Vec Ideal S896x128 .f32) (h : ∀ r l, x16 (ix2 r l) = Soft.top (Spec.X P b r) (512 * T.val) l) (r : Fin 896) (l : Fin 128) :
    k0_pay15 (F := Ideal) x2 x4 (tile5 x5 T) x3 x16 (ix2 r l) = Soft.top (Spec.X P b r) (512 * (T.val + 1)) l := by
  rw [newMax_apply, hf.logit, hf.logit, hf.logit, hf.logit, h]
  exact Soft.top_step (Spec.X P b r) (512 * T.val) l (by omega) (by omega)

theorem FoundA.newSum (x16 x17 : Vec Ideal S896x128 .f32) (h : ∀ r l, x16 (ix2 r l) = Soft.top (Spec.X P b r) (512 * T.val) l)
    (h' : ∀ r l, x17 (ix2 r l) = Soft.run (Spec.X P b r) (512 * T.val) l) (r : Fin 896) (l : Fin 128) :
    k0_pay5 (F := Ideal) (k0_pay13 x2 x4 (tile5 x5 T) x3) (k0_pay15 x2 x4 (tile5 x5 T) x3 x16) (k0_pay16 x2 x4 (tile5 x5 T) x3 x16 x17) (k0_pay17 x2 x4 (tile5 x5 T) x3) (ix2 r l)
      = Soft.run (Spec.X P b r) (512 * (T.val + 1)) l := by
  rw [newSum_apply, firstSum_apply, second_apply, hf.logit, hf.logit, hf.logit, hf.logit, h, h']
  exact Soft.run_step (Spec.X P b r) (512 * T.val) l (by omega) (by omega) _ (hf.newMax x16 h r l)

end logits

/-- A stretch of the logits after one more tile. -/
theorem tile_old {P : Spec.Inp} {b : Fin 2} (T : Fin 14) {x2 x3 x4 x5} (hf : FoundA P b T x2 x3 x4 x5) (r : Fin 896) (k : Fin 7168) (hk : k.val < 512 * (T.val + 1)) (v : EReal)
    (hv : k.val < 512 * T.val → v = Spec.X P b r k) :
    (if h : 512 * T.val ≤ k.val ∧ k.val < 512 * T.val + 512 then k0_pay14 (F := Ideal) x2 x4 (tile5 x5 T) x3 (ix2 r ⟨k.val - 512 * T.val, by omega⟩) else v) = Spec.X P b r k := by
  split
  · next h =>
    rw [logit'_apply, hf.logit]
    exact congrArg (Spec.X P b r) (Fin.ext (by show 512 * T.val + (k.val - 512 * T.val) = k.val; omega))
  · next h => exact hv (by omega)

theorem stat_max (P : Spec.Inp) (b : Fin 2) (v : FVec Ideal S896x128 .f32) (h : ∀ r l, v (ix2 r l) = Soft.top (Spec.X P b r) 7168 l) (r : Fin 896) :
    (Finset.univ.fold max Spec.ninf fun j => (v (ix2 r j) : EReal)) = Spec.M P b r := by
  simp only [h]
  exact Soft.top_all _

theorem stat_log (P : Spec.Inp) (b : Fin 2) (v w : FVec Ideal S896x128 .f32) (h : ∀ r l, v (ix2 r l) = Soft.top (Spec.X P b r) 7168 l)
    (h' : ∀ r l, w (ix2 r l) = Soft.run (Spec.X P b r) 7168 l) (r : Fin 896) (l : Fin 128) : k0_pay9 (F := Ideal) v w v (ix2 r l) = Spec.L P b r := by
  rw [rowLog_apply, stat_max P b v h r]
  simp only [h, h']
  rw [Soft.run_all (Spec.X P b r) (Spec.M P b r) rfl]
  rfl

theorem hit_unique {P : Spec.Inp} {b : Fin 2} {r : Fin 896} {k k' : Fin 7168} (h : Spec.hit P b r k) (h' : Spec.hit P b r k') : k = k' := by
  have e : BitVec.ofNat 32 k.val = BitVec.ofNat 32 k'.val := Eq.trans h (Eq.symm h')
  have e' := congrArg BitVec.toNat e
  simp only [BitVec.toNat_ofNat] at e'
  exact Fin.ext (by omega)

/-- A lane's total is zero when the label is a later column. -/
theorem tot_before {P : Spec.Inp} {b : Fin 2} {r : Fin 896} {k : Fin 7168} (h : Spec.hit P b r k) (n : ℕ) (hn : n ≤ k.val) (l : Fin 128) : Soft.tot (labf P b r) n l = 0 := by
  refine Finset.sum_eq_zero fun p hp => ?_
  refine if_neg fun h' => ?_
  have := hit_unique h h'
  have := (Soft.mem_lane.1 hp).1
  subst k
  omega

theorem lab_step (P : Spec.Inp) (b : Fin 2) (cw : ℕ) (hcw : cw + 256 ≤ 7168) (hm : cw % 128 = 0) (x18 : Vec Ideal S896x128 .f32) (h : ∀ r l, x18 (ix2 r l) = Soft.tot (labf P b r) cw l) (r : Fin 896) (l : Fin 128) :
    labVal P b cw hcw x18 r l = Soft.tot (labf P b r) (cw + 256) l := by
  have e := Soft.tot_succ (labf P b r) (cw + 128) l (by omega) (by omega)
  rw [Soft.tot_succ (labf P b r) cw l hm (by omega)] at e
  rw [show cw + 256 = cw + 128 + 128 by omega, e]
  unfold labVal
  unfold labf
  split
  · next h1 =>
    have e2 := tot_before h1 cw (by dsimp only; omega) l
    rw [if_neg (fun h2 => by have := congrArg Fin.val (hit_unique h1 h2); dsimp only at this; omega)]
    unfold labf at e2
    rw [e2, add_zero, add_zero]
  · next h1 =>
    rw [zero_add]
    split
    · next h2 =>
      have e2 := tot_before h2 cw (by dsimp only; omega) l
      unfold labf at e2
      rw [e2, add_zero]
    · next h2 => rw [zero_add]; exact h r l

section steps

variable (c : Dev nD) (i : grid0.Coords)
  (arg2 : Memref sig .tc .vmem S1x896x2560 .fp8e4m3) (harg2 : arg2.IsWhole)
  (arg3 : Memref sig .tc .vmem S1x896x1 .f32) (harg3 : arg3.IsWhole)
  (arg4 : Memref sig .tc .vmem S1x512x2560 .fp8e4m3) (harg4 : arg4.IsWhole)
  (arg5 : Memref sig .tc .vmem S1x1x7168 .f32) (harg5 : arg5.IsWhole)
  (arg6 : Memref sig .tc .vmem S1x896x1 .i32) (harg6 : arg6.IsWhole)
  (arg7 : Memref sig .tc .vmem S1x7168x512 .fp8e4m3) (harg7 : arg7.IsWhole)
  (arg8 : Memref sig .tc .vmem S2x896 .f32) (harg8 : arg8.IsWhole)
  (arg9 : Memref sig .tc .vmem S1x896x512 .bf16) (harg9 : arg9.IsWhole)
  (arg10 : Memref sig .tc .vmem S1x256x2560 .bf16) (harg10 : arg10.IsWhole)
  (arg11 : Memref sig .tc .vmem S1x896x256 .fp8e5m2) (harg11 : arg11.IsWhole)
  (arg12 : Memref sig .tc .vmem S2x7168 .f32) (harg12 : arg12.IsWhole)
  (arg13 : Memref sig .tc .vmem S896x7168 .f32) (harg13 : arg13.IsWhole)
  (arg14 : Memref sig .tc .vmem S896x7168 .fp8e5m2) (harg14 : arg14.IsWhole)
  (arg15 : Memref sig .tc .vmem S896x2560 .bf16) (harg15 : arg15.IsWhole)
  (arg16 : Memref sig .tc .vmem S896x128 .f32) (harg16 : arg16.IsWhole)
  (arg17 : Memref sig .tc .vmem S896x128 .f32) (harg17 : arg17.IsWhole)
  (arg18 : Memref sig .tc .vmem S896x128 .f32) (harg18 : arg18.IsWhole)
  (arg19 : Memref sig .tc .vmem S256x896 .bf16) (harg19 : arg19.IsWhole)
  (arg20 : Memref sig .tc .vmem S1x7168 .f32) (harg20 : arg20.IsWhole)

variable (P : Spec.Inp) (b : Fin 2) (I : Ins Ideal) (s : St Ideal)

theorem stepI (T : Fin 14) (e1 : k0_off1 i = ![0, 0, 512 * T.val]) (e2 : k0_off2 i = ![0, 512 * T.val]) (h1 : condInit i) (h2 : k0_cond2 i = 1#1) (h3 : ¬ condStats i) (h4 : ¬ k0_cond4 i = 1#1) (h9 : ¬ k0_cond9 i = 1#1) (h24 : ¬ k0_cond24 i = 1#1) (hT : T.val = 0) (hf : FoundA P b T I.x2 I.x3 I.x4 I.x5) : InvA P b 1 (nextI c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s) where
  a13 r k hk := by
    rw [nextI_x13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T e1 e2]
    exact tile_old T hf r k (by omega) _ fun h => absurd h (by omega)
  a15 r d := by
    rw [nextI_x15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T e1 e2, query_apply, hf.f2, hf.f3]
  a16 r l := by
    rw [nextI_x16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T e1 e2, keepMax_apply, hf.newMax _ (fun r l => by rw [hT, initMax_apply]; exact (Soft.top_zero _ l).symm), hT]
  a17 r l := by
    rw [nextI_x17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T e1 e2, hf.newSum _ _ (fun r l => by rw [hT, initMax_apply]; exact (Soft.top_zero _ l).symm)
      (fun r l => by rw [hT, initSum_apply]; exact (Soft.tot_zero _ l).symm), hT]
  a18 r l := by
    rw [nextI_x18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T e1 e2, initLab_apply]

theorem stepA (T : Fin 14) (e1 : k0_off1 i = ![0, 0, 512 * T.val]) (e2 : k0_off2 i = ![0, 512 * T.val]) (h1 : ¬ condInit i) (h2 : k0_cond2 i = 1#1) (h3 : ¬ condStats i) (h4 : ¬ k0_cond4 i = 1#1) (h9 : ¬ k0_cond9 i = 1#1) (h24 : ¬ k0_cond24 i = 1#1) (hi : InvA P b T.val s) (hf : FoundA P b T I.x2 I.x3 I.x4 I.x5) : InvA P b (T.val + 1) (nextA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s) where
  a13 r k hk := by
    rw [nextA_x13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T e1 e2]
    exact tile_old T hf r k hk _ fun h => hi.a13 r k h
  a15 r d := hi.a15 r d
  a16 r l := by
    rw [nextA_x16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T e1 e2, keepMax_apply, hf.newMax _ hi.a16]
  a17 r l := by
    rw [nextA_x17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T e1 e2, hf.newSum _ _ hi.a16 hi.a17]
  a18 r l := hi.a18 r l

theorem stepS (T : Fin 14) (e1 : k0_off1 i = ![0, 0, 512 * T.val]) (e2 : k0_off2 i = ![0, 512 * T.val]) (h1 : ¬ condInit i) (h2 : k0_cond2 i = 1#1) (h3 : condStats i) (h4 : ¬ k0_cond4 i = 1#1) (h9 : ¬ k0_cond9 i = 1#1) (h24 : ¬ k0_cond24 i = 1#1) (hT : T.val = 13) (hi : InvA P b T.val s) (hf : FoundA P b T I.x2 I.x3 I.x4 I.x5) : InvB P b 0 (nextS c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 I s) where
  b13 r k hk := by
    rw [nextS_x13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T e1 e2]
    exact tile_old T hf r k (by omega) _ fun h => hi.a13 r k h
  b14 r k hk := absurd hk (by omega)
  b15 r d := hi.a15 r d
  b16 r l := by
    rw [nextS_x16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T e1 e2, keepMax_apply, rowMax_apply]
    exact stat_max P b _ (fun r l => by rw [hf.newMax _ hi.a16, hT]) r
  b17 r l := by
    rw [nextS_x17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 T e1 e2, keepMax_apply]
    exact stat_log P b _ _ (fun r l => by rw [hf.newMax _ hi.a16, hT]) (fun r l => by rw [hf.newSum _ _ hi.a16 hi.a17, hT]) r l
  b18 r l := (hi.a18 r l).trans (Soft.tot_zero _ l).symm
  b20 k hk := absurd hk (by omega)

theorem foundB (cw n : ℕ) (hn : cw = 256 * n) (hi : InvB P b n s) (h5 : ∀ k, I.x5 (ix3 0 0 k) = P.ps b k) (h6 : ∀ r, I.x6 (ix3 0 r 0) = P.pos b r) : Found P b cw I.x5 I.x6 s.x13 s.x15 s.x16 s.x17 :=
  ⟨h5, h6, fun r k h _ => hi.b13 r k (by omega), hi.b15, hi.b16, hi.b17⟩

theorem stepB (cw : ℕ) (ho : Offs i cw) (hcw : cw + 256 ≤ 7168) (hv : Scalar.muli (Scalar.subi (BitVec.ofNat 32 (i 1).val) 14#32) 256#32 = BitVec.ofNat 32 cw) (h1 : ¬ condInit i) (h2 : ¬ k0_cond2 i = 1#1) (h3 : ¬ condStats i) (h4 : k0_cond4 i = 1#1) (h9 : ¬ k0_cond9 i = 1#1) (h24 : ¬ k0_cond24 i = 1#1) (n : ℕ) (hn : cw = 256 * n) (hi : InvB P b n s) (hf : Found P b cw I.x5 I.x6 s.x13 s.x15 s.x16 s.x17) :
    InvB P b (n + 1) (nextB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3 h4 h9 h24 cw ho I s) where
  b13 r k hk := by
    rw [nextB_x13_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cw ho h1 h2 h3 h4 h9 h24 I s r k (by omega)]
    exact hi.b13 r k (by omega)
  b14 r k hk := by
    by_cases h : cw ≤ k.val
    · exact nextB_x14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 P b cw hcw ho hv h1 h2 h3 h4 h9 h24 I s hf r k ⟨h, by omega⟩
    · rw [nextB_x14_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cw ho h1 h2 h3 h4 h9 h24 I s r k (by omega)]
      exact hi.b14 r k (by omega)
  b15 r d := hi.b15 r d
  b16 r l := hi.b16 r l
  b17 r l := hi.b17 r l
  b18 r l := by
    rw [nextB_x18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 P b cw hcw ho hv h1 h2 h3 h4 h9 h24 I s hf r l]
    refine (lab_step P b cw hcw (by omega) s.x18 (fun r l => by rw [hi.b18, hn]) r l).trans ?_
    rw [show cw + 256 = 256 * (n + 1) by omega]
  b20 k hk := by
    rw [nextB_x20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 P b cw hcw ho hv h1 h2 h3 h4 h9 h24 I s hf k]
    split
    · rfl
    · next h => exact hi.b20 k (by omega)

end steps

end Cert.KernelIdeal.Run

end
-- ==== Proof.Ideal.Value.lean ====
module

public import proofs.«01_k».proof.Proof.Ideal.Grid
public import proofs.«01_k».proof.Proof.Ideal.Steps

@[expose] public section

set_option maxRecDepth 16384

noncomputable section

namespace Cert.KernelIdeal.Run

open Cert Cert.KernelIdeal Cert.KernelIdeal.Gen
open Idealize.ShloMosaic Idealize.ShloMosaic.TcCoe Idealize.SL.Sem
open Idealize.ShloMosaic.Pipeline (RDat Cfg Window)

/-! What the body leaves in each window at each grid point, and that every step keeps the scratch's invariant. -/

section relations

variable (P : Spec.Inp) (b : Fin 2) (p : ℕ)

/-- The losses' window: row `b` is written at the first point of phase C. -/
def lossAft (Y X : Vec Ideal S2x896 .f32) : Prop :=
  ∀ b' r, X (ix2 b' r) = if p = 42 ∧ b' = b then Spec.loss P b r else Y (ix2 b' r)
/-- The queries' gradient: a block of columns at each point of phase C. -/
def dqAft (X : Vec Ideal S1x896x512 .bf16) : Prop :=
  ∀ r (d : Fin 512) (D : Fin 2560), 42 ≤ p → D.val = 512 * (p - 42) + d.val → X (ix3 0 r d) = Spec.dq P b r D
/-- The passages' gradient: a block of rows at each point of phase B, kept in phase C. -/
def dpAft (Y X : Vec Ideal S1x256x2560 .bf16) : Prop :=
  (∀ (l : Fin 256) d (k : Fin 7168), 14 ≤ p → p < 42 → k.val = 256 * (p - 14) + l.val → X (ix3 0 l d) = Spec.dp P b k d) ∧ (42 ≤ p → X = Y)
/-- The codes: a block of columns at each point of phase B, kept in phase C. -/
def codeAft (Y X : Vec Ideal S1x896x256 .fp8e5m2) : Prop :=
  (∀ r (l : Fin 256) (k : Fin 7168), 14 ≤ p → p < 42 → k.val = 256 * (p - 14) + l.val → X (ix3 0 r l) = Spec.code P b r k) ∧ (42 ≤ p → X = Y)
/-- The scales' window: a stretch of row `b` at each point of phase B. -/
def scaleAft (Y X : Vec Ideal S2x7168 .f32) : Prop :=
  ∀ b' (k : Fin 7168), X (ix2 b' k) = if (14 ≤ p ∧ p < 42) ∧ b' = b ∧ 256 * (p - 14) ≤ k.val ∧ k.val < 256 * (p - 14) + 256 then Spec.scale P b k else Y (ix2 b' k)

end relations

variable (m : (ℓ : Loc nD τ sig) → Buf (Elt Ideal) ℓ) (ρ : Dev nD → PrngReg) (c : Dev nD)

/-- What the body leaves in each window: an input as found, an output as above. -/
def aft (c : Dev nD) : (w : Fin cfg0.W) → Fin cfg0.N → (Y X : (cfg0.win w).block.Idx → Elt Ideal (cfg0.win w).elt) → Prop
  | ⟨6, _⟩, t, Y, X => lossAft (args m c) (bOf t) (t.val % 47) Y X
  | ⟨7, _⟩, t, _, X => dqAft (args m c) (bOf t) (t.val % 47) X
  | ⟨8, _⟩, t, Y, X => dpAft (args m c) (bOf t) (t.val % 47) Y X
  | ⟨9, _⟩, t, Y, X => codeAft (args m c) (bOf t) (t.val % 47) Y X
  | ⟨10, _⟩, t, Y, X => scaleAft (args m c) (bOf t) (t.val % 47) Y X
  | _, _, Y, X => X = Y

/-- The scratch's invariant before point `n`. -/
def Inv (c : Dev nD) (n : ℕ) (s : St Ideal) : Prop := ∀ b : Fin 2, n / 47 = b.val → InvAt (args m c) b (n % 47) s

/-- The launch's proof data. -/
abbrev rd : RDat τ (Elt Ideal) Unit ℕ (UR sig nD τ) ℕ cfg0 c := rdat m (Inv m) (aft m) c

theorem inv_zero (s : St Ideal) : Inv m c 0 s := fun b _ => ⟨fun h => absurd h (by omega), fun h => absurd h (by omega), fun h => absurd h (by omega)⟩

theorem inv_here {t : Fin cfg0.N} {s : St Ideal} (h : Inv m c t.val s) : InvAt (args m c) (bOf t) (t.val % 47) s := h (bOf t) rfl

theorem inv_next (t : Fin cfg0.N) (s : St Ideal) (h : t.val % 47 < 46 → InvAt (args m c) (bOf t) (t.val % 47 + 1) s) : Inv m c (t.val + 1) s := fun b hb => by
  by_cases h' : t.val % 47 < 46
  · have e : bOf t = b := Fin.ext (by show t.val / 47 = b.val; omega)
    rw [show (t.val + 1) % 47 = t.val % 47 + 1 by omega, ← e]
    exact h h'
  · rw [show (t.val + 1) % 47 = 0 by omega]
    exact ⟨fun h => absurd h (by omega), fun h => absurd h (by omega), fun h => absurd h (by omega)⟩

theorem find0 (t : Fin cfg0.N) (Y) (h : (rd m c).Finds 0 t Y) : Y = iblk m c 0 t := by
  obtain ⟨d, rfl⟩ := RDat.finds_in_eq_fetched (rd m c) 0 rfl (fun _ _ _ => rfl) (fun _ _ _ h => h) t Y h
  rfl

theorem find1 (t : Fin cfg0.N) (Y) (h : (rd m c).Finds 1 t Y) : Y = iblk m c 1 t := by
  obtain ⟨d, rfl⟩ := RDat.finds_in_eq_fetched (rd m c) 1 rfl (fun _ _ _ => rfl) (fun _ _ _ h => h) t Y h
  rfl

theorem find2 (t : Fin cfg0.N) (Y) (h : (rd m c).Finds 2 t Y) : Y = iblk m c 2 t := by
  obtain ⟨d, rfl⟩ := RDat.finds_in_eq_fetched (rd m c) 2 rfl (fun _ _ _ => rfl) (fun _ _ _ h => h) t Y h
  rfl

theorem find3 (t : Fin cfg0.N) (Y) (h : (rd m c).Finds 3 t Y) : Y = iblk m c 3 t := by
  obtain ⟨d, rfl⟩ := RDat.finds_in_eq_fetched (rd m c) 3 rfl (fun _ _ _ => rfl) (fun _ _ _ h => h) t Y h
  rfl

theorem find4 (t : Fin cfg0.N) (Y) (h : (rd m c).Finds 4 t Y) : Y = iblk m c 4 t := by
  obtain ⟨d, rfl⟩ := RDat.finds_in_eq_fetched (rd m c) 4 rfl (fun _ _ _ => rfl) (fun _ _ _ h => h) t Y h
  rfl

theorem find5 (t : Fin cfg0.N) (Y) (h : (rd m c).Finds 5 t Y) : Y = iblk m c 5 t := by
  obtain ⟨d, rfl⟩ := RDat.finds_in_eq_fetched (rd m c) 5 rfl (fun _ _ _ => rfl) (fun _ _ _ h => h) t Y h
  rfl

variable (t : Fin cfg0.N) (Y : (w : Fin cfg0.W) → (cfg0.win w).block.Idx → Elt Ideal (cfg0.win w).elt) (s : St Ideal)

theorem aft_of (s' : St Ideal) (h6 : lossAft (args m c) (bOf t) (t.val % 47) (Y 6) s'.x8) (h7 : dqAft (args m c) (bOf t) (t.val % 47) s'.x9)
    (h8 : dpAft (args m c) (bOf t) (t.val % 47) (Y 8) s'.x10) (h9 : codeAft (args m c) (bOf t) (t.val % 47) (Y 9) s'.x11) (h10 : scaleAft (args m c) (bOf t) (t.val % 47) (Y 10) s'.x12) :
    ∀ w, aft m c w t (Y w) (pack (insOf Y) s' w)
  | ⟨0, _⟩ => rfl | ⟨1, _⟩ => rfl | ⟨2, _⟩ => rfl | ⟨3, _⟩ => rfl | ⟨4, _⟩ => rfl | ⟨5, _⟩ => rfl
  | ⟨6, _⟩ => h6 | ⟨7, _⟩ => h7 | ⟨8, _⟩ => h8 | ⟨9, _⟩ => h9 | ⟨10, _⟩ => h10
  | ⟨n + 11, h⟩ => absurd h (by intro h; exact absurd (show n + 11 < 11 from h) (by omega))

theorem loss_keep (P : Spec.Inp) (b : Fin 2) (p : ℕ) (hp : p ≠ 42) (Z : Vec Ideal S2x896 .f32) : lossAft P b p Z Z := fun b' r => by
  rw [if_neg fun h => hp h.1]
theorem dq_none (P : Spec.Inp) (b : Fin 2) (p : ℕ) (hp : p < 42) (Z : Vec Ideal S1x896x512 .bf16) : dqAft P b p Z := fun r d D h => absurd h (by omega)
theorem dp_keep (P : Spec.Inp) (b : Fin 2) (p : ℕ) (hp : p < 14 ∨ 42 ≤ p) (Z : Vec Ideal S1x256x2560 .bf16) : dpAft P b p Z Z := ⟨fun l d k h h' => by omega, fun _ => rfl⟩
theorem code_keep (P : Spec.Inp) (b : Fin 2) (p : ℕ) (hp : p < 14 ∨ 42 ≤ p) (Z : Vec Ideal S1x896x256 .fp8e5m2) : codeAft P b p Z Z := ⟨fun l d k h h' => by omega, fun _ => rfl⟩
theorem scale_keep (P : Spec.Inp) (b : Fin 2) (p : ℕ) (hp : p < 14 ∨ 42 ≤ p) (Z : Vec Ideal S2x7168 .f32) : scaleAft P b p Z Z := fun b' k => by
  rw [if_neg fun h => by omega]

theorem InvAt.outs {P : Spec.Inp} {b : Fin 2} {p : ℕ} {s : St Ideal} (h : InvAt P b p s) : InvAt P b p (outsOf Y s) where
  inA h1 h2 := let i := h.inA h1 h2; ⟨i.a13, i.a15, i.a16, i.a17, i.a18⟩
  inB h1 h2 := let i := h.inB h1 h2; ⟨i.b13, i.b14, i.b15, i.b16, i.b17, i.b18, i.b20⟩
  inC h1 := let i := h.inC h1; ⟨i.c14, i.c20⟩

variable (hY : ∀ w, (rd m c).Finds w t (Y w))
include hY

theorem found_A (h : t.val % 47 < 14) : FoundA (args m c) (bOf t) ⟨t.val % 47, h⟩ (insOf Y).x2 (insOf Y).x3 (insOf Y).x4 (insOf Y).x5 where
  f2 r d := (congrFun (find0 m c t _ (hY 0)) _).trans (blk0 m c t r d)
  f3 r := (congrFun (find1 m c t _ (hY 1)) _).trans (blk1 m c t r)
  f4 j d := (congrFun (find2 m c t _ (hY 2)) _).trans (blk2 m c t h j d)
  f5 k := (congrFun (find3 m c t _ (hY 3)) _).trans (blk3 m c t k)

theorem found_5 (k : Fin 7168) : (insOf Y).x5 (ix3 0 0 k) = (args m c).ps (bOf t) k := (congrFun (find3 m c t _ (hY 3)) _).trans (blk3 m c t k)
theorem found_6 (r : Fin 896) : (insOf Y).x6 (ix3 0 r 0) = (args m c).pos (bOf t) r := (congrFun (find4 m c t _ (hY 4)) _).trans (blk4 m c t r)
theorem found_7 (k : Fin 7168) (d : Fin 512) : (insOf Y).x7 (ix3 0 k d) = (args m c).p (bOf t) k ⟨512 * (t.val % 47 - 42) + d.val, by have := lt94 t; omega⟩ :=
  (congrFun (find5 m c t _ (hY 5)) _).trans (blk5 m c t k d)

theorem invAt_A {p : ℕ} {P : Spec.Inp} {b : Fin 2} {s' : St Ideal} (hp : p ≤ 13) (h : InvA P b p s') : InvAt P b p s' :=
  ⟨fun _ _ => h, fun h => absurd h (by omega), fun h => absurd h (by omega)⟩

theorem keepI (h : t.val % 47 = 0) : Inv m c (t.val + 1) (atI c t h (insOf Y) (outsOf Y s)) ∧ ∀ w, aft m c w t (Y w) (pack (insOf Y) (atI c t h (insOf Y) (outsOf Y s)) w) := by
  refine ⟨inv_next m c t _ fun _ => ?_, aft_of m c t Y _ (loss_keep _ _ _ (by omega) _) (dq_none _ _ _ (by omega) _) (dp_keep _ _ _ (by omega) _) (code_keep _ _ _ (by omega) _) (scale_keep _ _ _ (by omega) _)⟩
  unfold atI
  have e : t.val % 47 + 1 = 1 := by omega
  rw [e]
  refine ⟨fun _ _ => ?_, fun h => absurd h (by omega), fun h => absurd h (by omega)⟩
  exact stepI _ _ _ _ _ _ _ _ _ _ _ _ _ _ _ _ _ _ _ _ _ _ _ _ _ _ _ _ _ _ _ _ _ _ _ _ _ _ _ _ _ _ _ _ ⟨t.val % 47, by omega⟩ (off1_eq t (by omega)) (off2_eq t (by omega)) _ _ _ _ _ _ h (found_A m c t Y hY (by omega))

theorem keepAt (h : 0 < t.val % 47 ∧ t.val % 47 < 13) (hi : InvAt (args m c) (bOf t) (t.val % 47) s) : Inv m c (t.val + 1) (atA c t h (insOf Y) (outsOf Y s)) ∧ ∀ w, aft m c w t (Y w) (pack (insOf Y) (atA c t h (insOf Y) (outsOf Y s)) w) := by
  refine ⟨inv_next m c t _ fun _ => ?_, aft_of m c t Y _ (loss_keep _ _ _ (by omega) _) (dq_none _ _ _ (by omega) _) (dp_keep _ _ _ (by omega) _) (code_keep _ _ _ (by omega) _) (scale_keep _ _ _ (by omega) _)⟩
  unfold atA
  refine ⟨fun _ _ => ?_, fun h => absurd h (by omega), fun h => absurd h (by omega)⟩
  exact stepA _ _ _ _ _ _ _ _ _ _ _ _ _ _ _ _ _ _ _ _ _ _ _ _ _ _ _ _ _ _ _ _ _ _ _ _ _ _ _ _ _ _ _ _ ⟨t.val % 47, by omega⟩ (off1_eq t (by omega)) (off2_eq t (by omega)) _ _ _ _ _ _ ((hi.outs Y).inA (by omega) (by omega)) (found_A m c t Y hY (by omega))

theorem keepS (h : t.val % 47 = 13) (hi : InvAt (args m c) (bOf t) (t.val % 47) s) : Inv m c (t.val + 1) (atS c t h (insOf Y) (outsOf Y s)) ∧ ∀ w, aft m c w t (Y w) (pack (insOf Y) (atS c t h (insOf Y) (outsOf Y s)) w) := by
  refine ⟨inv_next m c t _ fun _ => ?_, aft_of m c t Y _ (loss_keep _ _ _ (by omega) _) (dq_none _ _ _ (by omega) _) (dp_keep _ _ _ (by omega) _) (code_keep _ _ _ (by omega) _) (scale_keep _ _ _ (by omega) _)⟩
  unfold atS
  refine ⟨fun _ h => absurd h (by omega), fun _ _ => ?_, fun h => absurd h (by omega)⟩
  rw [show t.val % 47 + 1 - 14 = 0 by omega]
  exact stepS _ _ _ _ _ _ _ _ _ _ _ _ _ _ _ _ _ _ _ _ _ _ _ _ _ _ _ _ _ _ _ _ _ _ _ _ _ _ _ _ _ _ _ _ ⟨t.val % 47, by omega⟩ (off1_eq t (by omega)) (off2_eq t (by omega)) _ _ _ _ _ _ h ((hi.outs Y).inA (by omega) (by omega)) (found_A m c t Y hY (by omega))

theorem keepB (h : 14 ≤ t.val % 47 ∧ t.val % 47 < 42) (hi : InvAt (args m c) (bOf t) (t.val % 47) s) : Inv m c (t.val + 1) (atB c t h (insOf Y) (outsOf Y s)) ∧ ∀ w, aft m c w t (Y w) (pack (insOf Y) (atB c t h (insOf Y) (outsOf Y s)) w) := by
  have hb := (hi.outs Y).inB (by omega) (by omega)
  have hf := foundB (args m c) (bOf t) (insOf Y) (outsOf Y s) (256 * (t.val % 47 - 14)) _ rfl hb (found_5 m c t Y hY) (found_6 m c t Y hY)
  have ho := offs t h
  have hcw : 256 * (t.val % 47 - 14) + 256 ≤ 7168 := by omega
  have hv := col_eq t h
  refine ⟨inv_next m c t _ fun _ => ?_, aft_of m c t Y _ (loss_keep _ _ _ (by omega) _) (dq_none _ _ _ (by omega) _) ⟨fun l d k _ _ hk => ?_, fun h => absurd h (by omega)⟩ ⟨fun r l k _ _ hk => ?_, fun h => absurd h (by omega)⟩ fun b' k => ?_⟩
  · have key : InvB (args m c) (bOf t) (t.val % 47 - 14 + 1) (atB c t h (insOf Y) (outsOf Y s)) := by
      unfold atB
      exact stepB _ _ _ _ _ _ _ _ _ _ _ _ _ _ _ _ _ _ _ _ _ _ _ _ _ _ _ _ _ _ _ _ _ _ _ _ _ _ _ _ _ _ _ _ _ ho hcw hv _ _ _ _ _ _ _ rfl hb hf
    rw [show t.val % 47 - 14 + 1 = t.val % 47 + 1 - 14 by omega] at key
    exact ⟨fun _ h => absurd h (by omega), fun _ _ => key, fun h => absurd h (by omega)⟩
  · unfold atB
    refine (nextB_x10 _ _ _ _ _ _ _ _ _ _ _ _ _ _ _ _ _ _ _ _ _ _ _ _ _ _ _ _ _ _ _ _ _ _ _ _ _ _ _ _ (args m c) (bOf t) _ hcw ho hv _ _ _ _ _ _ _ _ hf l d).trans ?_
    exact congrArg (fun k => Spec.dp (args m c) (bOf t) k d) (Fin.ext hk.symm)
  · unfold atB
    refine (nextB_x11 _ _ _ _ _ _ _ _ _ _ _ _ _ _ _ _ _ _ _ _ _ _ _ _ _ _ _ _ _ _ _ _ _ _ _ _ _ _ _ _ (args m c) (bOf t) _ hcw ho hv _ _ _ _ _ _ _ _ hf r l).trans ?_
    exact congrArg (fun k => Spec.code (args m c) (bOf t) r k) (Fin.ext hk.symm)
  · unfold atB
    refine (nextB_x12 _ _ _ _ _ _ _ _ _ _ _ _ _ _ _ _ _ _ _ _ _ _ _ _ _ _ _ _ _ _ _ _ _ _ _ _ _ _ _ _ (args m c) (bOf t) _ hcw ho hv _ _ _ _ _ _ _ _ hf (row_of_scale t h) b' k).trans ?_
    simp only [h, and_self, true_and]
    rfl

theorem foundC (h : 42 ≤ t.val % 47) (h14 : ∀ r k, s.x14 (ix2 r k) = Spec.code (args m c) (bOf t) r k) (h20 : ∀ k, s.x20 (ix2 0 k) = (Spec.scale (args m c) (bOf t) k * (args m c).ps (bOf t) k : EReal)) :
    FoundC (args m c) (bOf t) (fun d => ⟨512 * (t.val % 47 - 42) + d.val, by have := lt94 t; omega⟩) (insOf Y).x7 (outsOf Y s).x14 (outsOf Y s).x20 :=
  ⟨found_7 m c t Y hY, h14, h20⟩

theorem keepL (h : t.val % 47 = 42) (hi : InvAt (args m c) (bOf t) (t.val % 47) s) : Inv m c (t.val + 1) (atL c t h (insOf Y) (outsOf Y s)) ∧ ∀ w, aft m c w t (Y w) (pack (insOf Y) (atL c t h (insOf Y) (outsOf Y s)) w) := by
  have hb := hi.inB (by omega) (by omega)
  rw [show t.val % 47 - 14 = 28 by omega] at hb
  have hc := hb.toC
  have hf := foundC m c t Y s hY (by omega) hc.c14 hc.c20
  refine ⟨inv_next m c t _ fun _ => ⟨fun _ h => absurd h (by omega), fun _ h => absurd h (by omega), fun _ => ⟨hc.c14, hc.c20⟩⟩, aft_of m c t Y _ (fun b' k => ?_) (fun r d D _ hD => ?_) (dp_keep _ _ _ (by omega) _) (code_keep _ _ _ (by omega) _) (scale_keep _ _ _ (by omega) _)⟩
  · unfold atL
    refine (nextL_x8 _ _ _ _ _ _ _ _ _ _ _ _ _ _ _ _ _ _ _ _ _ _ _ _ _ _ _ _ _ _ _ _ _ _ _ _ _ _ _ _ _ _ _ _ _ _ _ _ (bOf t) (row_of_loss t h) b' k).trans ?_
    simp only [h, true_and]
    refine congrArg (fun v => if b' = bOf t then v else _) ?_
    unfold Spec.loss
    refine congrArg (fun v : EReal => 0 - v) ?_
    refine (Finset.sum_congr rfl fun l _ => hb.b18 k l).trans ?_
    exact Soft.tot_all (labf (args m c) (bOf t) k)
  · unfold atL
    refine (nextL_x9 _ _ _ _ _ _ _ _ _ _ _ _ _ _ _ _ _ _ _ _ _ _ _ _ _ _ _ _ _ _ _ _ _ _ _ _ _ _ _ _ _ _ _ _ _ _ _ _ (args m c) (bOf t) _ hf r d).trans ?_
    exact congrArg (Spec.dq (args m c) (bOf t) r) (Fin.ext hD.symm)

theorem keepC (h : 42 < t.val % 47) (hi : InvAt (args m c) (bOf t) (t.val % 47) s) : Inv m c (t.val + 1) (atC c t h (insOf Y) (outsOf Y s)) ∧ ∀ w, aft m c w t (Y w) (pack (insOf Y) (atC c t h (insOf Y) (outsOf Y s)) w) := by
  have hc := hi.inC h
  have hf := foundC m c t Y s hY (by omega) hc.c14 hc.c20
  refine ⟨inv_next m c t _ fun _ => ⟨fun _ h => absurd h (by omega), fun _ h => absurd h (by omega), fun _ => ⟨hc.c14, hc.c20⟩⟩, aft_of m c t Y _ (loss_keep _ _ _ (by omega) _) (fun r d D _ hD => ?_) (dp_keep _ _ _ (by omega) _) (code_keep _ _ _ (by omega) _) (scale_keep _ _ _ (by omega) _)⟩
  unfold atC
  refine (nextC_x9 _ _ _ _ _ _ _ _ _ _ _ _ _ _ _ _ _ _ _ _ _ _ _ _ _ _ _ _ _ _ _ _ _ _ _ _ _ _ _ _ _ _ _ _ _ _ _ _ (args m c) (bOf t) _ hf r d).trans ?_
  exact congrArg (Spec.dq (args m c) (bOf t) r) (Fin.ext hD.symm)

/-- Every step keeps the invariant and leaves the windows as the relations say. -/
theorem keep (hs : Inv m c t.val s) :
    Inv m c (t.val + 1) (next c t (insOf Y) (outsOf Y s)) ∧ ∀ w, aft m c w t (Y w) (pack (insOf Y) (next c t (insOf Y) (outsOf Y s)) w) := by
  have hi := inv_here m c hs
  unfold next
  split
  · next h => exact keepI m c t Y s hY h
  split
  · next h => exact keepS m c t Y s hY h hi
  split
  · next h => exact keepB m c t Y s hY h hi
  split
  · next h => exact keepL m c t Y s hY h hi
  split
  · next h => exact keepC m c t Y s hY h hi
  split
  · next h => exact keepAt m c t Y s hY h hi
  · exfalso; omega

end Cert.KernelIdeal.Run

end
-- ==== Proof.Ideal.Arrays.lean ====
module

public import proofs.«01_k».proof.Proof.Ideal.Value

@[expose] public section

set_option maxRecDepth 16384

noncomputable section

namespace Cert.KernelIdeal.Run

open Cert Cert.KernelIdeal Cert.KernelIdeal.Gen
open Idealize.ShloMosaic Idealize.ShloMosaic.TcCoe Idealize.SL.Sem
open Idealize.ShloMosaic.Pipeline (RDat Cfg Window)

/-! The five result arrays after the launch. -/

/-- What a body leaves in a window that is never fetched, by induction on the points. -/
theorem leaves_ind {c : Dev nD} (rd : RDat τ (Elt Ideal) Unit ℕ (UR sig nD τ) ℕ cfg0 c) (w : Fin cfg0.W) (hf : ∀ t, (cfg0.win w).fetch t = false)
    (Q : Fin cfg0.N → ((cfg0.win w).block.Idx → Elt Ideal (cfg0.win w).elt) → Prop)
    (hQ : ∀ t Y X, rd.after w t Y X → (∀ t' : Fin cfg0.N, t'.val + 1 = t.val → (cfg0.win w).flush t' = false → Q t' Y) → Q t X) :
    ∀ (n : ℕ) (t : Fin cfg0.N) X, t.val = n → rd.Leaves w t X → Q t X := by
  intro n
  induction n with
  | zero =>
    rintro t X ht ⟨Y, -, ha⟩
    exact hQ t Y X ha fun t' h => by omega
  | succ n ih =>
    rintro t X ht ⟨Y, hY, ha⟩
    refine hQ t Y X ha fun t' h hfl => ?_
    have e : (⟨t.val - 1, Nat.lt_of_le_of_lt (Nat.sub_le _ _) t.isLt⟩ : Fin cfg0.N) = t' := Fin.ext (by show t.val - 1 = t'.val; omega)
    have h1 := (rd.finds_of_pos (hf t) (by omega) Y).1 hY
    rw [e, hfl] at h1
    exact ih t' Y (by omega) (h1.resolve_left (by simp))

variable (m : (ℓ : Loc nD τ sig) → Buf (Elt Ideal) ℓ) (c : Dev nD)

/-- The losses as an array. -/
def lossArr (P : Spec.Inp) : Vec Ideal S2x896 .f32 := fun j => Spec.loss P (j 0) (j 1)
/-- The gradients of the queries as an array. -/
def dqArr (P : Spec.Inp) : Vec Ideal S2x896x2560 .bf16 := fun j => Spec.dq P (j 0) (j 1) (j 2)
/-- The gradients of the passages as an array. -/
def dpArr (P : Spec.Inp) : Vec Ideal S2x7168x2560 .bf16 := fun j => Spec.dp P (j 0) (j 1) (j 2)
/-- The eight-bit codes as an array. -/
def codeArr (P : Spec.Inp) : Vec Ideal S2x896x7168 .fp8e5m2 := fun j => Spec.code P (j 0) (j 1) (j 2)
/-- The column scales as an array. -/
def scaleArr (P : Spec.Inp) : Vec Ideal S2x7168 .f32 := fun j => Spec.scale P (j 0) (j 1)

/-- The query gradient is written back only in the third phase. -/
theorem flush7 : ∀ t : Fin cfg0.N, (cfg0.win 7).flush t = true → 42 ≤ t.val % 47 := by decide +kernel
/-- The passage gradient is written back only after the first phase. -/
theorem flush8 : ∀ t : Fin cfg0.N, (cfg0.win 8).flush t = true → 14 ≤ t.val % 47 := by decide +kernel
/-- The codes are written back only after the first phase. -/
theorem flush9 : ∀ t : Fin cfg0.N, (cfg0.win 9).flush t = true → 14 ≤ t.val % 47 := by decide +kernel
/-- The last block of the passage gradient stays in its window through the third phase. -/
theorem stay8 : ∀ t : Fin cfg0.N, 41 ≤ t.val % 47 → t.val % 47 < 46 → (cfg0.win 8).flush t = false := by decide +kernel
/-- The last block of the codes stays in its window through the third phase. -/
theorem stay9 : ∀ t : Fin cfg0.N, 41 ≤ t.val % 47 → t.val % 47 < 46 → (cfg0.win 9).flush t = false := by decide +kernel
/-- The losses stay in their window until the last point. -/
theorem stay6 (t : Fin cfg0.N) (h : t.val < 93) : (cfg0.win 6).flush t = false := by
  have := (flush0_6 t).not.2 (by omega); simpa using this
/-- The scales stay in their window until the last point. -/
theorem stay10 (t : Fin cfg0.N) (h : t.val < 93) : (cfg0.win 10).flush t = false := by
  have := (flush0_10 t).not.2 (by omega); simpa using this

/-- At a point, the loss window holds every loss computed so far. -/
theorem leaves6 (t : Fin cfg0.N) (X : Vec Ideal S2x896 .f32) (h : (rd m c).Leaves 6 t X) (b : Fin 2) (r : Fin 896) (hb : 47 * b.val + 42 ≤ t.val) : X (ix2 b r) = Spec.loss (args m c) b r := by
  refine leaves_ind (rd m c) 6 (fun _ => rfl) (fun t X => ∀ (b : Fin 2) (r : Fin 896), 47 * b.val + 42 ≤ t.val → (X : Vec Ideal S2x896 .f32) (ix2 b r) = Spec.loss (args m c) b r)
    (fun t Y X ha ih b r hb => ?_) t.val t X rfl h b r hb
  refine ((show lossAft (args m c) (bOf t) (t.val % 47) Y X from ha) b r).trans ?_
  have ht := lt94 t
  split
  · next h => rw [h.2]
  · next h =>
    have : ¬ (t.val % 47 = 42 ∧ b.val = t.val / 47) := fun h' => h ⟨h'.1, Fin.ext h'.2⟩
    exact ih ⟨t.val - 1, by have := t.isLt; omega⟩ (by show t.val - 1 + 1 = t.val; omega) (stay6 _ (by show t.val - 1 < 93; omega)) b r (by show _ ≤ t.val - 1; omega)

/-- At a point, the scale window holds every scale computed so far. -/
theorem leaves10 (t : Fin cfg0.N) (X : Vec Ideal S2x7168 .f32) (h : (rd m c).Leaves 10 t X) (b : Fin 2) (k : Fin 7168) (hb : 47 * b.val + 14 + k.val / 256 ≤ t.val) : X (ix2 b k) = Spec.scale (args m c) b k := by
  refine leaves_ind (rd m c) 10 (fun _ => rfl) (fun t X => ∀ (b : Fin 2) (k : Fin 7168), 47 * b.val + 14 + k.val / 256 ≤ t.val → (X : Vec Ideal S2x7168 .f32) (ix2 b k) = Spec.scale (args m c) b k)
    (fun t Y X ha ih b k hb => ?_) t.val t X rfl h b k hb
  refine ((show scaleAft (args m c) (bOf t) (t.val % 47) Y X from ha) b k).trans ?_
  have ht := lt94 t
  split
  · next h => rw [h.2.1]
  · next h =>
    have : ¬ ((14 ≤ t.val % 47 ∧ t.val % 47 < 42) ∧ b.val = t.val / 47 ∧ 256 * (t.val % 47 - 14) ≤ k.val ∧ k.val < 256 * (t.val % 47 - 14) + 256) := fun h' => h ⟨h'.1, Fin.ext h'.2.1, h'.2.2⟩
    exact ih ⟨t.val - 1, by have := t.isLt; omega⟩ (by show t.val - 1 + 1 = t.val; omega) (stay10 _ (by show t.val - 1 < 93; omega)) b k (by show _ ≤ t.val - 1; omega)

/-- From the second phase on, the passage window holds the block of gradients at its place. -/
theorem leaves8 (t : Fin cfg0.N) (X : Vec Ideal S1x256x2560 .bf16) (h : (rd m c).Leaves 8 t X) (ht : 14 ≤ t.val % 47) (l : Fin 256) (d : Fin 2560) (k : Fin 7168) (hk : k.val = 256 * min (t.val % 47 - 14) 27 + l.val) :
    X (ix3 0 l d) = Spec.dp (args m c) (bOf t) k d := by
  refine leaves_ind (rd m c) 8 (fun _ => rfl) (fun t X => 14 ≤ t.val % 47 → ∀ (l : Fin 256) (d : Fin 2560) (k : Fin 7168), k.val = 256 * min (t.val % 47 - 14) 27 + l.val → (X : Vec Ideal S1x256x2560 .bf16) (ix3 0 l d) = Spec.dp (args m c) (bOf t) k d)
    (fun t Y X ha ih ht l d k hk => ?_) t.val t X rfl h ht l d k hk
  obtain ⟨h1, h2⟩ := (show dpAft (args m c) (bOf t) (t.val % 47) Y X from ha)
  by_cases h42 : t.val % 47 < 42
  · exact h1 l d k ht h42 (by omega)
  · rw [h2 (by omega)]
    have e : bOf (⟨t.val - 1, by have := t.isLt; omega⟩ : Fin cfg0.N) = bOf t := Fin.ext (by show (t.val - 1) / 47 = t.val / 47; omega)
    have := ih ⟨t.val - 1, by have := t.isLt; omega⟩ (by show t.val - 1 + 1 = t.val; omega) (stay8 _ (by show 41 ≤ (t.val - 1) % 47; omega) (by show (t.val - 1) % 47 < 46; omega))
      (by show 14 ≤ (t.val - 1) % 47; omega) l d k (by show k.val = 256 * min ((t.val - 1) % 47 - 14) 27 + l.val; omega)
    rw [e] at this
    exact this

/-- From the second phase on, the code window holds the block of codes at its place. -/
theorem leaves9 (t : Fin cfg0.N) (X : Vec Ideal S1x896x256 .fp8e5m2) (h : (rd m c).Leaves 9 t X) (ht : 14 ≤ t.val % 47) (r : Fin 896) (l : Fin 256) (k : Fin 7168) (hk : k.val = 256 * min (t.val % 47 - 14) 27 + l.val) :
    X (ix3 0 r l) = Spec.code (args m c) (bOf t) r k := by
  refine leaves_ind (rd m c) 9 (fun _ => rfl) (fun t X => 14 ≤ t.val % 47 → ∀ (r : Fin 896) (l : Fin 256) (k : Fin 7168), k.val = 256 * min (t.val % 47 - 14) 27 + l.val → (X : Vec Ideal S1x896x256 .fp8e5m2) (ix3 0 r l) = Spec.code (args m c) (bOf t) r k)
    (fun t Y X ha ih ht r l k hk => ?_) t.val t X rfl h ht r l k hk
  obtain ⟨h1, h2⟩ := (show codeAft (args m c) (bOf t) (t.val % 47) Y X from ha)
  by_cases h42 : t.val % 47 < 42
  · exact h1 r l k ht h42 (by omega)
  · rw [h2 (by omega)]
    have e : bOf (⟨t.val - 1, by have := t.isLt; omega⟩ : Fin cfg0.N) = bOf t := Fin.ext (by show (t.val - 1) / 47 = t.val / 47; omega)
    have := ih ⟨t.val - 1, by have := t.isLt; omega⟩ (by show t.val - 1 + 1 = t.val; omega) (stay9 _ (by show 41 ≤ (t.val - 1) % 47; omega) (by show (t.val - 1) % 47 < 46; omega))
      (by show 14 ≤ (t.val - 1) % 47; omega) r l k (by show k.val = 256 * min ((t.val - 1) % 47 - 14) 27 + l.val; omega)
    rw [e] at this
    exact this

theorem idx6 : ∀ t : Fin cfg0.N, (cfg0.win 6).index t = ![0, 0] := by decide +kernel

/-- Where an index of a block lies in its array, axis by axis. -/
theorem emb6_0 (t : Fin cfg0.N) (y : ((cfg0.win 6).xblock (cfg0.grid.coords t)).Idx) :
    (((cfg0.win 6).blk t).view.emb y 0).val = (0) * 2 + 1 * (y 0).val :=
  congrArg (fun i : ℕ => i * 2 + 1 * (y 0).val) (congrFun (idx6 t) (0 : Fin 2))

theorem emb6_1 (t : Fin cfg0.N) (y : ((cfg0.win 6).xblock (cfg0.grid.coords t)).Idx) :
    (((cfg0.win 6).blk t).view.emb y 1).val = (0) * 896 + 1 * (y 1).val :=
  congrArg (fun i : ℕ => i * 896 + 1 * (y 1).val) (congrFun (idx6 t) (1 : Fin 2))

theorem emb7_0 (t : Fin cfg0.N) (y : ((cfg0.win 7).xblock (cfg0.grid.coords t)).Idx) :
    (((cfg0.win 7).blk t).view.emb y 0).val = (t.val / 47) * 1 + 1 * (y 0).val :=
  congrArg (fun i : ℕ => i * 1 + 1 * (y 0).val) (congrFun (idx7 t) (0 : Fin 3))

theorem emb7_1 (t : Fin cfg0.N) (y : ((cfg0.win 7).xblock (cfg0.grid.coords t)).Idx) :
    (((cfg0.win 7).blk t).view.emb y 1).val = (0) * 896 + 1 * (y 1).val :=
  congrArg (fun i : ℕ => i * 896 + 1 * (y 1).val) (congrFun (idx7 t) (1 : Fin 3))

theorem emb7_2 (t : Fin cfg0.N) (y : ((cfg0.win 7).xblock (cfg0.grid.coords t)).Idx) :
    (((cfg0.win 7).blk t).view.emb y 2).val = (t.val % 47 - 42) * 512 + 1 * (y 2).val :=
  congrArg (fun i : ℕ => i * 512 + 1 * (y 2).val) (congrFun (idx7 t) (2 : Fin 3))

theorem emb8_0 (t : Fin cfg0.N) (y : ((cfg0.win 8).xblock (cfg0.grid.coords t)).Idx) :
    (((cfg0.win 8).blk t).view.emb y 0).val = (t.val / 47) * 1 + 1 * (y 0).val :=
  congrArg (fun i : ℕ => i * 1 + 1 * (y 0).val) (congrFun (idx8 t) (0 : Fin 3))

theorem emb8_1 (t : Fin cfg0.N) (y : ((cfg0.win 8).xblock (cfg0.grid.coords t)).Idx) :
    (((cfg0.win 8).blk t).view.emb y 1).val = (min (t.val % 47 - 14) 27) * 256 + 1 * (y 1).val :=
  congrArg (fun i : ℕ => i * 256 + 1 * (y 1).val) (congrFun (idx8 t) (1 : Fin 3))

theorem emb8_2 (t : Fin cfg0.N) (y : ((cfg0.win 8).xblock (cfg0.grid.coords t)).Idx) :
    (((cfg0.win 8).blk t).view.emb y 2).val = (0) * 2560 + 1 * (y 2).val :=
  congrArg (fun i : ℕ => i * 2560 + 1 * (y 2).val) (congrFun (idx8 t) (2 : Fin 3))

theorem emb9_0 (t : Fin cfg0.N) (y : ((cfg0.win 9).xblock (cfg0.grid.coords t)).Idx) :
    (((cfg0.win 9).blk t).view.emb y 0).val = (t.val / 47) * 1 + 1 * (y 0).val :=
  congrArg (fun i : ℕ => i * 1 + 1 * (y 0).val) (congrFun (idx9 t) (0 : Fin 3))

theorem emb9_1 (t : Fin cfg0.N) (y : ((cfg0.win 9).xblock (cfg0.grid.coords t)).Idx) :
    (((cfg0.win 9).blk t).view.emb y 1).val = (0) * 896 + 1 * (y 1).val :=
  congrArg (fun i : ℕ => i * 896 + 1 * (y 1).val) (congrFun (idx9 t) (1 : Fin 3))

theorem emb9_2 (t : Fin cfg0.N) (y : ((cfg0.win 9).xblock (cfg0.grid.coords t)).Idx) :
    (((cfg0.win 9).blk t).view.emb y 2).val = (min (t.val % 47 - 14) 27) * 256 + 1 * (y 2).val :=
  congrArg (fun i : ℕ => i * 256 + 1 * (y 2).val) (congrFun (idx9 t) (2 : Fin 3))

theorem idx10 : ∀ t : Fin cfg0.N, (cfg0.win 10).index t = ![0, 0] := by decide +kernel

theorem emb10_0 (t : Fin cfg0.N) (y : ((cfg0.win 10).xblock (cfg0.grid.coords t)).Idx) :
    (((cfg0.win 10).blk t).view.emb y 0).val = (0) * 2 + 1 * (y 0).val :=
  congrArg (fun i : ℕ => i * 2 + 1 * (y 0).val) (congrFun (idx10 t) (0 : Fin 2))

theorem emb10_1 (t : Fin cfg0.N) (y : ((cfg0.win 10).xblock (cfg0.grid.coords t)).Idx) :
    (((cfg0.win 10).blk t).view.emb y 1).val = (0) * 7168 + 1 * (y 1).val :=
  congrArg (fun i : ℕ => i * 7168 + 1 * (y 1).val) (congrFun (idx10 t) (1 : Fin 2))

/-- An index of a block of leading size one has a zero first coordinate. -/
theorem one3 {n1 n2 : ℕ} (j : (⟨3, ![1, n1, n2]⟩ : Shape).Idx) : j = ix3 0 (j 1) (j 2) := by
  refine (eq_ix3 j).trans (congrArg (fun i => ix3 i (j 1) (j 2)) (Fin.ext ?_))
  have : (j 0).val < 1 := (j 0).isLt
  show (j 0).val = 0
  omega

section final

variable (after : (w : Fin cfg0.W) → Fin cfg0.N → (cfg0.win w).block.Idx → Elt Ideal (cfg0.win w).elt)
  (hL : ∀ (w : Fin cfg0.W) (u : Fin cfg0.N), (cfg0.win w).flush u = true → (rd m c).Leaves w u (after w u))
include hL

/-- The array of losses after the launch. -/
theorem final6 : ((rd m c).withAfter after).arrAt 6 cfg0.N = lossArr (args m c) := by
  refine Pipeline.Dat.arrAt_eq_of_covers _ 6 _ (by decide +kernel) fun t hf y => ?_
  have h93 := (flush0_6 t).1 hf
  have ht := lt94 t
  have e0 := emb6_0 t y
  have e1 := emb6_1 t y
  have y0 : (y 0).val < 2 := (y 0).isLt
  refine (congrArg (after 6 t) (eq_ix2 y)).trans ((leaves6 m c t _ (hL 6 t hf) (y 0) (y 1) (by omega)).trans ?_)
  exact congrArg₂ (Spec.loss (args m c)) (Fin.ext (by omega)) (Fin.ext (by omega))

/-- The array of scales after the launch. -/
theorem final10 : ((rd m c).withAfter after).arrAt 10 cfg0.N = scaleArr (args m c) := by
  refine Pipeline.Dat.arrAt_eq_of_covers _ 10 _ (by decide +kernel) fun t hf y => ?_
  have h93 := (flush0_10 t).1 hf
  have ht := lt94 t
  have e0 := emb10_0 t y
  have e1 := emb10_1 t y
  have y0 : (y 0).val < 2 := (y 0).isLt
  have y1 : (y 1).val < 7168 := (y 1).isLt
  refine (congrArg (after 10 t) (eq_ix2 y)).trans ((leaves10 m c t _ (hL 10 t hf) (y 0) (y 1) (by omega)).trans ?_)
  exact congrArg₂ (Spec.scale (args m c)) (Fin.ext (by omega)) (Fin.ext (by omega))

/-- The array of query gradients after the launch. -/
theorem final7 : ((rd m c).withAfter after).arrAt 7 cfg0.N = dqArr (args m c) := by
  refine Pipeline.Dat.arrAt_eq_of_covers _ 7 _ (by decide +kernel) fun t hf y => ?_
  have h42 := flush7 t hf
  have e0 := emb7_0 t y
  have e1 := emb7_1 t y
  have e2 := emb7_2 t y
  have y0 : (y 0).val < 1 := (y 0).isLt
  obtain ⟨Y, -, ha⟩ := hL 7 t hf
  have h := (show dqAft (args m c) (bOf t) (t.val % 47) (after 7 t) from ha) (y 1) (y 2) (((cfg0.win 7).blk t).view.emb y 2) h42 (by omega)
  refine (congrArg (after 7 t) (one3 y)).trans (h.trans ?_)
  exact congrArg₂ (fun b r => Spec.dq (args m c) b r (((cfg0.win 7).blk t).view.emb y 2)) (Fin.ext (by show t.val / 47 = _; omega)) (Fin.ext (by omega))

/-- The array of passage gradients after the launch. -/
theorem final8 : ((rd m c).withAfter after).arrAt 8 cfg0.N = dpArr (args m c) := by
  refine Pipeline.Dat.arrAt_eq_of_covers _ 8 _ (by decide +kernel) fun t hf y => ?_
  have e0 := emb8_0 t y
  have e1 := emb8_1 t y
  have e2 := emb8_2 t y
  have y0 : (y 0).val < 1 := (y 0).isLt
  have h := leaves8 m c t _ (hL 8 t hf) (flush8 t hf) (y 1) (y 2) (((cfg0.win 8).blk t).view.emb y 1) (by omega)
  refine (congrArg (after 8 t) (one3 y)).trans (h.trans ?_)
  exact congrArg₂ (fun b d => Spec.dp (args m c) b (((cfg0.win 8).blk t).view.emb y 1) d) (Fin.ext (by show t.val / 47 = _; omega)) (Fin.ext (by omega))

/-- The array of codes after the launch. -/
theorem final9 : ((rd m c).withAfter after).arrAt 9 cfg0.N = codeArr (args m c) := by
  refine Pipeline.Dat.arrAt_eq_of_covers _ 9 _ (by decide +kernel) fun t hf y => ?_
  have e0 := emb9_0 t y
  have e1 := emb9_1 t y
  have e2 := emb9_2 t y
  have y0 : (y 0).val < 1 := (y 0).isLt
  have h := leaves9 m c t _ (hL 9 t hf) (flush9 t hf) (y 1) (y 2) (((cfg0.win 9).blk t).view.emb y 2) (by omega)
  refine (congrArg (after 9 t) (one3 y)).trans (h.trans ?_)
  exact congrArg₂ (fun b r => Spec.code (args m c) b r (((cfg0.win 9).blk t).view.emb y 2)) (Fin.ext (by show t.val / 47 = _; omega)) (Fin.ext (by omega))

end final

/-- Every run of the kernel ends with the five arrays of the mathematics of its arguments, the arguments unchanged. -/
theorem value_run (ρ : Dev nD → PrngReg) : θ_run (defs (F := Ideal)) (onTc (τ := τ) (main (F := Ideal))) ⟨m, fun _ => 0, ρ⟩ (fun r => ∀ c : Dev nD,
    r.2.mem ((c.tc : Thread nD τ).loc main_v3_0) = lossArr (args m c)
      ∧ r.2.mem ((c.tc : Thread nD τ).loc main_v3_1) = dqArr (args m c)
      ∧ r.2.mem ((c.tc : Thread nD τ).loc main_v3_2) = dpArr (args m c)
      ∧ r.2.mem ((c.tc : Thread nD τ).loc main_v3_3) = codeArr (args m c)
      ∧ r.2.mem ((c.tc : Thread nD τ).loc main_v3_4) = scaleArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r h c => ?_)
    (run_main m ρ (Inv m) (aft m) (inv_zero m) (fun c t Y s hY hs => keep m c t Y s hY hs))
  obtain ⟨after, hL, hA⟩ := h.1.exists_exact c
  exact ⟨(hA 6).trans (final6 m c after hL), (hA 7).trans (final7 m c after hL), (hA 8).trans (final8 m c after hL),
    (hA 9).trans (final9 m c after hL), (hA 10).trans (final10 m c after hL), args_kept m (Inv m) (aft m) h.1 c⟩

end Cert.KernelIdeal.Run

end
-- ==== Proof.Equal.lean ====
module

public import proofs.«01_k».proof.Defs
public import proofs.«01_k».proof.Proof.Ref
public import proofs.«01_k».proof.Proof.Ideal.Arrays

@[expose] public section

noncomputable section

/-! The kernel and the reference end with the same five arrays. -/

namespace Cert.Equal

open Cert Idealize.ShloMosaic Idealize.ShloMosaic.TcCoe Idealize.SL.Sem

section arrays

open Cert.ReferenceIdeal Cert.ReferenceIdeal.Value

variable (a0 : Vec Ideal S2x896x2560 .fp8e4m3) (a1 : Vec Ideal S2x896 .f32) (a2 : Vec Ideal S2x7168x2560 .fp8e4m3)
  (a3 : Vec Ideal S2x7168 .f32) (a4 : Vec Ideal S2x896 .i32)

theorem loss_arr : G5 a0 a1 a2 a3 a4 = Cert.KernelIdeal.Run.lossArr (inp a0 a1 a2 a3 a4) :=
  funext fun j => (congrArg (G5 a0 a1 a2 a3 a4) (eq_ix2 j)).trans (G5_apply a0 a1 a2 a3 a4 (j 0) (j 1))

theorem dq_arr : G6 a0 a1 a2 a3 a4 = Cert.KernelIdeal.Run.dqArr (inp a0 a1 a2 a3 a4) :=
  funext fun j => (congrArg (G6 a0 a1 a2 a3 a4) (eq_ix3 j)).trans (G6_apply a0 a1 a2 a3 a4 (j 0) (j 1) (j 2))

theorem dp_arr : G7 a0 a1 a2 a3 a4 = Cert.KernelIdeal.Run.dpArr (inp a0 a1 a2 a3 a4) :=
  funext fun j => (congrArg (G7 a0 a1 a2 a3 a4) (eq_ix3 j)).trans (G7_apply a0 a1 a2 a3 a4 (j 0) (j 1) (j 2))

theorem code_arr : G8 a0 a1 a2 a3 a4 = Cert.KernelIdeal.Run.codeArr (inp a0 a1 a2 a3 a4) :=
  funext fun j => (congrArg (G8 a0 a1 a2 a3 a4) (eq_ix3 j)).trans (G8_apply a0 a1 a2 a3 a4 (j 0) (j 1) (j 2))

theorem scale_arr : G9 a0 a1 a2 a3 a4 = Cert.KernelIdeal.Run.scaleArr (inp a0 a1 a2 a3 a4) :=
  funext fun j => (congrArg (G9 a0 a1 a2 a3 a4) (eq_ix2 j)).trans (G9_apply a0 a1 a2 a3 a4 (j 0) (j 1))

end arrays

/-- At the exact numbers the kernel and the reference agree on every result. -/
theorem algebraic : algebraic_KernelIdeal_ReferenceIdeal (hKernelIdeal := Cert.KernelIdeal.Gen.facts) (hReferenceIdeal := Cert.ReferenceIdeal.Gen.facts) := by
  intro m g m' g' _ h
  refine ⟨fun c => Cert.KernelIdeal.Run.lossArr (Cert.KernelIdeal.Run.args m c), fun c => Cert.KernelIdeal.Run.dqArr (Cert.KernelIdeal.Run.args m c),
    fun c => Cert.KernelIdeal.Run.dpArr (Cert.KernelIdeal.Run.args m c), fun c => Cert.KernelIdeal.Run.codeArr (Cert.KernelIdeal.Run.args m c),
    fun c => Cert.KernelIdeal.Run.scaleArr (Cert.KernelIdeal.Run.args m c), Cert.KernelIdeal.Run.value_run m g, ?_⟩
  refine (θ_run (Cert.ReferenceIdeal.defs (F := Ideal)) _ _).mono (fun r hr c => ?_) (Cert.ReferenceIdeal.Value.run m' g')
  obtain ⟨r0, r1, r2, r3, r4, k⟩ := hr c
  obtain ⟨h0, h1, h2, h3, h4⟩ := h c
  have e : Cert.ReferenceIdeal.Value.inp (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = Cert.KernelIdeal.Run.args m c := by
    rw [h0, h1, h2, h3, h4]
    rfl
  exact ⟨r0.trans ((loss_arr _ _ _ _ _).trans (congrArg Cert.KernelIdeal.Run.lossArr e)), r1.trans ((dq_arr _ _ _ _ _).trans (congrArg Cert.KernelIdeal.Run.dqArr e)),
    r2.trans ((dp_arr _ _ _ _ _).trans (congrArg Cert.KernelIdeal.Run.dpArr e)), r3.trans ((code_arr _ _ _ _ _).trans (congrArg Cert.KernelIdeal.Run.codeArr e)),
    r4.trans ((scale_arr _ _ _ _ _).trans (congrArg Cert.KernelIdeal.Run.scaleArr e)), k⟩

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Launch
public import proofs.«01_k».proof.Proof.Ideal.Launch
public import proofs.«01_k».proof.Proof.Gen.ReferenceIdeal
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Run.frame_run m g, fun m g _ => Cert.KernelIdeal.Run.frame_run m g,
  fun m g _ => Cert.ReferenceIdeal.Gen.frame m g, trivial, Cert.Equal.algebraic⟩

end Cert.Proof

end
